-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "s" .bf16 0x3DB5#16 (((Real.sqrt 128)⁻¹ : ℝ) : EReal)

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![1, 256, 1024]⟩ ⟨3, ![8, 256, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 256, 1024]⟩ ⟨3, ![8, 256, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v54) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x256x1024 : Shape := ⟨3, ![1, 256, 1024]⟩
abbrev S1024x1024 : Shape := ⟨2, ![1024, 1024]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S1x256x1024 .bf16) (main_arg1 : FVec F S1024x1024 .bf16) (main_arg2 : FVec F S1024x1024 .bf16) (main_arg3 : FVec F S1024x1024 .bf16) (main_arg4 : FVec F S1024x1024 .bf16) : IVec S_ 1 × IVec S_ 1 × IVec S_ 1 :=
  let main_v0 : FVec F S1x256x1024 .bf16 := Host.absf main_arg0
  let main_cst : FVec F S_ .bf16 := constant S_ .bf16 0x7F80#16
  let main_v1 : FVec F S1x256x1024 .bf16 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1024x1024 .bf16 := Host.absf main_arg1
  let main_cst_0 : FVec F S_ .bf16 := constant S_ .bf16 0x7F80#16
  let main_v5 : FVec F S1024x1024 .bf16 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : FVec F S1024x1024 .bf16 := Host.absf main_arg3
  let main_cst_2 : FVec F S_ .bf16 := constant S_ .bf16 0x7F80#16
  let main_v9 : FVec F S1024x1024 .bf16 := broadcastInDim S1024x1024 ![] bcast_S_S1024x1024 main_cst_2
  let main_v10 : IVec S1024x1024 1 := cmpf .olt main_v8 main_v9
  let main_c_3 : IVec S_ 1 := constantI S_ 1 1#1
  let main_v11 : IVec S_ 1 := (fun x v => Host.reduce IntOp.andi x v reducesTo_S1024x1024_S_d0_1 h_S_) main_v10 main_c_3
  (main_v3, main_v7, main_v11)
-- ==== Pre_finite_ReferenceIdeal.lean ====
abbrev S8x256x1024 : Shape := ⟨3, ![8, 256, 1024]⟩
abbrev S1024x8192 : Shape := ⟨2, ![1024, 8192]⟩
abbrev S8192x1024 : Shape := ⟨2, ![8192, 1024]⟩
abbrev S_ : Shape := ⟨0, ![]⟩

class Facts : Prop where
  bcast_S_S8x256x1024 : S_.BroadcastsInDim S8x256x1024 (![] : Fin 0 → Fin S8x256x1024.rank)
  reducesTo_S8x256x1024_S_d0_1_2 : S8x256x1024.ReducesTo [0, 1, 2] S_
  h_S_ : 0 < S_.numel
  bcast_S_S1024x8192 : S_.BroadcastsInDim S1024x8192 (![] : Fin 0 → Fin S1024x8192.rank)
  reducesTo_S1024x8192_S_d0_1 : S1024x8192.ReducesTo [0, 1] S_

variable [Facts]

def fn {F : FTy → Type} [FloatOps F] (main_arg0 : FVec F S8x256x1024 .bf16) (main_arg1 : FVec F S1024x8192 .bf16) (main_arg2 : FVec F S8192x1024 .bf16) (main_arg3 : FVec F S1024x8192 .bf16) (main_arg4 : FVec F S1024x8192 .bf16) : IVec S_ 1 × IVec S_ 1 × IVec S_ 1 :=
  let main_v0 : FVec F S8x256x1024 .bf16 := Host.absf main_arg0
  let main_cst : FVec F S_ .bf16 := constant S_ .bf16 0x7F80#16
  let main_v1 : FVec F S8x256x1024 .bf16 := broadcastInDim S8x256x1024 ![] bcast_S_S8x256x1024 main_cst
  let main_v2 : IVec S8x256x1024 1 := cmpf .olt main_v0 main_v1
  let main_c : IVec S_ 1 := constantI S_ 1 1#1
  let main_v3 : IVec S_ 1 := (fun x v => Host.reduce IntOp.andi x v reducesTo_S8x256x1024_S_d0_1_2 h_S_) main_v2 main_c
  let main_v4 : FVec F S1024x8192 .bf16 := Host.absf main_arg1
  let main_cst_0 : FVec F S_ .bf16 := constant S_ .bf16 0x7F80#16
  let main_v5 : FVec F S1024x8192 .bf16 := broadcastInDim S1024x8192 ![] bcast_S_S1024x8192 main_cst_0
  let main_v6 : IVec S1024x8192 1 := cmpf .olt main_v4 main_v5
  let main_c_1 : IVec S_ 1 := constantI S_ 1 1#1
  let main_v7 : IVec S_ 1 := (fun x v => Host.reduce IntOp.andi x v reducesTo_S1024x8192_S_d0_1 h_S_) main_v6 main_c_1
  let main_v8 : FVec F S1024x8192 .bf16 := Host.absf main_arg3
  let main_cst_2 : FVec F S_ .bf16 := constant S_ .bf16 0x7F80#16
  let main_v9 : FVec F S1024x8192 .bf16 := broadcastInDim S1024x8192 ![] bcast_S_S1024x8192 main_cst_2
  let main_v10 : IVec S1024x8192 1 := cmpf .olt main_v8 main_v9
  let main_c_3 : IVec S_ 1 := constantI S_ 1 1#1
  let main_v11 : IVec S_ 1 := (fun x v => Host.reduce IntOp.andi x v reducesTo_S1024x8192_S_d0_1 h_S_) main_v10 main_c_3
  (main_v3, main_v7, main_v11)
-- ==== Kernel.lean ====
abbrev S1x256x1024 : Shape := ⟨3, ![1, 256, 1024]⟩
abbrev S1024x1024 : Shape := ⟨2, ![1024, 1024]⟩
abbrev S3x256x1024 : Shape := ⟨3, ![3, 256, 1024]⟩
abbrev S256x1024 : Shape := ⟨2, ![256, 1024]⟩
abbrev S8x256x1024 : Shape := ⟨3, ![8, 256, 1024]⟩
abbrev S4x256x1024 : Shape := ⟨3, ![4, 256, 1024]⟩
abbrev S2 : Shape := ⟨1, ![2]⟩
abbrev S1 : Shape := ⟨1, ![1]⟩
abbrev S3 : Shape := ⟨1, ![3]⟩
abbrev S_ : Shape := ⟨0, ![]⟩
abbrev S1024x3072 : Shape := ⟨2, ![1024, 3072]⟩
abbrev S256x3072 : Shape := ⟨2, ![256, 3072]⟩
abbrev S256x128 : Shape := ⟨2, ![256, 128]⟩
abbrev S256x256 : Shape := ⟨2, ![256, 256]⟩
abbrev S256 : Shape := ⟨1, ![256]⟩
abbrev S256x1 : Shape := ⟨2, ![256, 1]⟩

abbrev nBuf : Space → Nat
  | .hbm => 6
  | .vmem => 15
  | .smem => 0
  | _ => 0

abbrev bufTy : (tb : Table) → Fin (tcTables nBuf tb) → BufTy
  | .hbm, ⟨0, _⟩ => ⟨S1x256x1024, .bf16⟩
  | .hbm, ⟨1, _⟩ => ⟨S1024x1024, .bf16⟩
  | .hbm, ⟨2, _⟩ => ⟨S1024x1024, .bf16⟩
  | .hbm, ⟨3, _⟩ => ⟨S1024x1024, .bf16⟩
  | .hbm, ⟨4, _⟩ => ⟨S1024x1024, .bf16⟩
  | .hbm, ⟨5, _⟩ => ⟨S1x256x1024, .f32⟩
  | .local _ .vmem, ⟨0, _⟩ => ⟨S1x256x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x256x1024, .f32⟩
  | .local _ .vmem, ⟨6, _⟩ => ⟨S3x256x1024, .i8⟩
  | .local _ .vmem, ⟨7, _⟩ => ⟨S3x256x1024, .i8⟩
  | .local _ .vmem, ⟨8, _⟩ => ⟨S256x1024, .i8⟩
  | .local _ .vmem, ⟨9, _⟩ => ⟨S256x1024, .i8⟩
  | .local _ .vmem, ⟨10, _⟩ => ⟨S256x1024, .i8⟩
  | .local _ .vmem, ⟨11, _⟩ => ⟨S8x256x1024, .bf16⟩
  | .local _ .vmem, ⟨12, _⟩ => ⟨S4x256x1024, .bf16⟩
  | .local _ .vmem, ⟨13, _⟩ => ⟨S4x256x1024, .bf16⟩
  | .local _ .vmem, ⟨14, _⟩ => ⟨S256x1024, .bf16⟩
  | _, _ => ⟨S1x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_scratch8 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_34 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_33 : BitVec 32 := 1#32
  let v59 : BitVec 32 := Scalar.muli v13 c1_i32_33
  let v60 : BitVec 32 := Scalar.addi c0_i32_34 v59
  v60.toNat
def k0_dev2 (d0 : Dev nD) : Nat :=
  let c0_i32_37 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_36 : BitVec 32 := 1#32
  let v61 : BitVec 32 := Scalar.muli v24 c1_i32_36
  let v62 : BitVec 32 := Scalar.addi c0_i32_37 v61
  v62.toNat
def k0_dev3 (d0 : Dev nD) : Nat :=
  let c0_i32_40 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v25 : BitVec 32 := Scalar.addi v2 c3_i32
  let c8_i32_13 : BitVec 32 := 8#32
  let c0_i32_14 : BitVec 32 := 0#32
  let v26 : BitVec 1 := Scalar.cmpi .eq c8_i32_13 c0_i32_14
  let c1_i32_15 : BitVec 32 := 1#32
  let v27 : BitVec 32 := Scalar.select v26 c1_i32_15 c8_i32_13
  let v28 : BitVec 32 := Scalar.remsi v25 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let c1_i32_39 : BitVec 32 := 1#32
  let v63 : BitVec 32 := Scalar.muli v35 c1_i32_39
  let v64 : BitVec 32 := Scalar.addi c0_i32_40 v63
  v64.toNat
def k0_dev4 (d0 : Dev nD) : Nat :=
  let c0_i32_43 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_19 : BitVec 32 := 3#32
  let v36 : BitVec 32 := Scalar.subi v2 c3_i32_19
  let c8_i32_20 : BitVec 32 := 8#32
  let c0_i32_21 : BitVec 32 := 0#32
  let v37 : BitVec 1 := Scalar.cmpi .eq c8_i32_20 c0_i32_21
  let c1_i32_22 : BitVec 32 := 1#32
  let v38 : BitVec 32 := Scalar.select v37 c1_i32_22 c8_i32_20
  let v39 : BitVec 32 := Scalar.remsi v36 v38
  let c0_i32_24 : BitVec 32 := 0#32
  let v41 : BitVec 1 := Scalar.cmpi .slt v39 c0_i32_24
  let c0_i32_25 : BitVec 32 := 0#32
  let v42 : BitVec 1 := Scalar.cmpi .slt v38 c0_i32_25
  let v43 : BitVec 1 := Scalar.xori v41 v42
  let c0_i32_23 : BitVec 32 := 0#32
  let v40 : BitVec 1 := Scalar.cmpi .ne v39 c0_i32_23
  let v44 : BitVec 1 := Scalar.andi v43 v40
  let v45 : BitVec 32 := Scalar.addi v39 v38
  let v46 : BitVec 32 := Scalar.select v44 v45 v39
  let c1_i32_42 : BitVec 32 := 1#32
  let v65 : BitVec 32 := Scalar.muli v46 c1_i32_42
  let v66 : BitVec 32 := Scalar.addi c0_i32_43 v65
  v66.toNat
def k0_dev5 (d0 : Dev nD) : Nat :=
  let c0_i32_46 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v47 : BitVec 32 := Scalar.addi v2 c4_i32
  let c8_i32_26 : BitVec 32 := 8#32
  let c0_i32_27 : BitVec 32 := 0#32
  let v48 : BitVec 1 := Scalar.cmpi .eq c8_i32_26 c0_i32_27
  let c1_i32_28 : BitVec 32 := 1#32
  let v49 : BitVec 32 := Scalar.select v48 c1_i32_28 c8_i32_26
  let v50 : BitVec 32 := Scalar.remsi v47 v49
  let c0_i32_30 : BitVec 32 := 0#32
  let v52 : BitVec 1 := Scalar.cmpi .slt v50 c0_i32_30
  let c0_i32_31 : BitVec 32 := 0#32
  let v53 : BitVec 1 := Scalar.cmpi .slt v49 c0_i32_31
  let v54 : BitVec 1 := Scalar.xori v52 v53
  let c0_i32_29 : BitVec 32 := 0#32
  let v51 : BitVec 1 := Scalar.cmpi .ne v50 c0_i32_29
  let v55 : BitVec 1 := Scalar.andi v54 v51
  let v56 : BitVec 32 := Scalar.addi v50 v49
  let v57 : BitVec 32 := Scalar.select v55 v56 v50
  let c1_i32_45 : BitVec 32 := 1#32
  let v67 : BitVec 32 := Scalar.muli v57 c1_i32_45
  let v68 : BitVec 32 := Scalar.addi c0_i32_46 v67
  v68.toNat
def k0_dev6 (d0 : Dev nD) : Nat :=
  let c0_i32_64 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v47 : BitVec 32 := Scalar.addi v2 c4_i32
  let c8_i32_26 : BitVec 32 := 8#32
  let c0_i32_27 : BitVec 32 := 0#32
  let v48 : BitVec 1 := Scalar.cmpi .eq c8_i32_26 c0_i32_27
  let c1_i32_28 : BitVec 32 := 1#32
  let v49 : BitVec 32 := Scalar.select v48 c1_i32_28 c8_i32_26
  let v50 : BitVec 32 := Scalar.remsi v47 v49
  let c0_i32_30 : BitVec 32 := 0#32
  let v52 : BitVec 1 := Scalar.cmpi .slt v50 c0_i32_30
  let c0_i32_31 : BitVec 32 := 0#32
  let v53 : BitVec 1 := Scalar.cmpi .slt v49 c0_i32_31
  let v54 : BitVec 1 := Scalar.xori v52 v53
  let c0_i32_29 : BitVec 32 := 0#32
  let v51 : BitVec 1 := Scalar.cmpi .ne v50 c0_i32_29
  let v55 : BitVec 1 := Scalar.andi v54 v51
  let v56 : BitVec 32 := Scalar.addi v50 v49
  let v57 : BitVec 32 := Scalar.select v55 v56 v50
  let c1_i32_63 : BitVec 32 := 1#32
  let v89 : BitVec 32 := Scalar.muli v57 c1_i32_63
  let v90 : BitVec 32 := Scalar.addi c0_i32_64 v89
  v90.toNat
def k0_dev7 (d0 : Dev nD) : Nat :=
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v25 : BitVec 32 := Scalar.addi v2 c3_i32
  let c8_i32_13 : BitVec 32 := 8#32
  let c0_i32_14 : BitVec 32 := 0#32
  let v26 : BitVec 1 := Scalar.cmpi .eq c8_i32_13 c0_i32_14
  let c1_i32_15 : BitVec 32 := 1#32
  let v27 : BitVec 32 := Scalar.select v26 c1_i32_15 c8_i32_13
  let v28 : BitVec 32 := Scalar.remsi v25 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let c1_i32_70 : BitVec 32 := 1#32
  let v97 : BitVec 32 := Scalar.muli v35 c1_i32_70
  let v98 : BitVec 32 := Scalar.addi c0_i32_71 v97
  v98.toNat
def k0_dev8 (d0 : Dev nD) : Nat :=
  let c0_i32_78 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_19 : BitVec 32 := 3#32
  let v36 : BitVec 32 := Scalar.subi v2 c3_i32_19
  let c8_i32_20 : BitVec 32 := 8#32
  let c0_i32_21 : BitVec 32 := 0#32
  let v37 : BitVec 1 := Scalar.cmpi .eq c8_i32_20 c0_i32_21
  let c1_i32_22 : BitVec 32 := 1#32
  let v38 : BitVec 32 := Scalar.select v37 c1_i32_22 c8_i32_20
  let v39 : BitVec 32 := Scalar.remsi v36 v38
  let c0_i32_24 : BitVec 32 := 0#32
  let v41 : BitVec 1 := Scalar.cmpi .slt v39 c0_i32_24
  let c0_i32_25 : BitVec 32 := 0#32
  let v42 : BitVec 1 := Scalar.cmpi .slt v38 c0_i32_25
  let v43 : BitVec 1 := Scalar.xori v41 v42
  let c0_i32_23 : BitVec 32 := 0#32
  let v40 : BitVec 1 := Scalar.cmpi .ne v39 c0_i32_23
  let v44 : BitVec 1 := Scalar.andi v43 v40
  let v45 : BitVec 32 := Scalar.addi v39 v38
  let v46 : BitVec 32 := Scalar.select v44 v45 v39
  let c1_i32_77 : BitVec 32 := 1#32
  let v105 : BitVec 32 := Scalar.muli v46 c1_i32_77
  let v106 : BitVec 32 := Scalar.addi c0_i32_78 v105
  v106.toNat
def k0_dev9 (d0 : Dev nD) : Nat :=
  let c0_i32_86 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_85 : BitVec 32 := 1#32
  let v113 : BitVec 32 := Scalar.muli v24 c1_i32_85
  let v114 : BitVec 32 := Scalar.addi c0_i32_86 v113
  v114.toNat
def k0_dev10 (d0 : Dev nD) : Nat :=
  let c0_i32_96 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_95 : BitVec 32 := 1#32
  let v123 : BitVec 32 := Scalar.muli v13 c1_i32_95
  let v124 : BitVec 32 := Scalar.addi c0_i32_96 v123
  v124.toNat
def k0_dev11 (d0 : Dev nD) : Nat :=
  let c0_i32_181 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v47 : BitVec 32 := Scalar.addi v2 c4_i32
  let c8_i32_26 : BitVec 32 := 8#32
  let c0_i32_27 : BitVec 32 := 0#32
  let v48 : BitVec 1 := Scalar.cmpi .eq c8_i32_26 c0_i32_27
  let c1_i32_28 : BitVec 32 := 1#32
  let v49 : BitVec 32 := Scalar.select v48 c1_i32_28 c8_i32_26
  let v50 : BitVec 32 := Scalar.remsi v47 v49
  let c0_i32_30 : BitVec 32 := 0#32
  let v52 : BitVec 1 := Scalar.cmpi .slt v50 c0_i32_30
  let c0_i32_31 : BitVec 32 := 0#32
  let v53 : BitVec 1 := Scalar.cmpi .slt v49 c0_i32_31
  let v54 : BitVec 1 := Scalar.xori v52 v53
  let c0_i32_29 : BitVec 32 := 0#32
  let v51 : BitVec 1 := Scalar.cmpi .ne v50 c0_i32_29
  let v55 : BitVec 1 := Scalar.andi v54 v51
  let v56 : BitVec 32 := Scalar.addi v50 v49
  let v57 : BitVec 32 := Scalar.select v55 v56 v50
  let c1_i32_180 : BitVec 32 := 1#32
  let v385 : BitVec 32 := Scalar.muli v57 c1_i32_180
  let v386 : BitVec 32 := Scalar.addi c0_i32_181 v385
  v386.toNat
def k0_dev12 (d0 : Dev nD) : Nat :=
  let c0_i32_198 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_197 : BitVec 32 := 1#32
  let v401 : BitVec 32 := Scalar.muli v24 c1_i32_197
  let v402 : BitVec 32 := Scalar.addi c0_i32_198 v401
  v402.toNat
def k0_dev13 (d0 : Dev nD) : Nat :=
  let c0_i32_218 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_217 : BitVec 32 := 1#32
  let v419 : BitVec 32 := Scalar.muli v13 c1_i32_217
  let v420 : BitVec 32 := Scalar.addi c0_i32_218 v419
  v420.toNat
def k0_dev14 (d0 : Dev nD) : Nat :=
  let c0_i32_272 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_271 : BitVec 32 := 1#32
  let v560 : BitVec 32 := Scalar.muli v13 c1_i32_271
  let v561 : BitVec 32 := Scalar.addi c0_i32_272 v560
  v561.toNat
def k0_dev15 (d0 : Dev nD) : Nat :=
  let c0_i32_326 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_325 : BitVec 32 := 1#32
  let v701 : BitVec 32 := Scalar.muli v24 c1_i32_325
  let v702 : BitVec 32 := Scalar.addi c0_i32_326 v701
  v702.toNat
def k0_dev16 (d0 : Dev nD) : Nat :=
  let c0_i32_438 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_437 : BitVec 32 := 1#32
  let v985 : BitVec 32 := Scalar.muli v13 c1_i32_437
  let v986 : BitVec 32 := Scalar.addi c0_i32_438 v985
  v986.toNat
def k0_dev17 (d0 : Dev nD) : Nat :=
  let c0_i32_467 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_466 : BitVec 32 := 1#32
  let v1011 : BitVec 32 := Scalar.muli v24 c1_i32_466
  let v1012 : BitVec 32 := Scalar.addi c0_i32_467 v1011
  v1012.toNat
def k0_dev18 (d0 : Dev nD) : Nat :=
  let c0_i32_561 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_560 : BitVec 32 := 1#32
  let v1279 : BitVec 32 := Scalar.muli v13 c1_i32_560
  let v1280 : BitVec 32 := Scalar.addi c0_i32_561 v1279
  v1280.toNat
def k0_dev19 (d0 : Dev nD) : Nat :=
  let c0_i32_590 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_589 : BitVec 32 := 1#32
  let v1305 : BitVec 32 := Scalar.muli v24 c1_i32_589
  let v1306 : BitVec 32 := Scalar.addi c0_i32_590 v1305
  v1306.toNat
abbrev stage0_0 : Fin 1 → Memref sig .tc .vmem S1x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "s" => some (((Real.sqrt 128)⁻¹ : ℝ) : EReal)
  | _ => none
-- ==== ReferenceIdeal.lean ====
abbrev S8x256x1024 : Shape := ⟨3, ![8, 256, 1024]⟩
abbrev S1024x8192 : Shape := ⟨2, ![1024, 8192]⟩
abbrev S8192x1024 : Shape := ⟨2, ![8192, 1024]⟩
abbrev S_ : Shape := ⟨0, ![]⟩
abbrev S8 : Shape := ⟨1, ![8]⟩
abbrev S8x1x1x1 : Shape := ⟨4, ![8, 1, 1, 1]⟩
abbrev S1x1x8x1 : Shape := ⟨4, ![1, 1, 8, 1]⟩
abbrev S8x1x8x1 : Shape := ⟨4, ![8, 1, 8, 1]⟩
abbrev S8x256x8192 : Shape := ⟨3, ![8, 256, 8192]⟩
abbrev S8x256x8x1024 : Shape := ⟨4, ![8, 256, 8, 1024]⟩
abbrev S8x256x64x128 : Shape := ⟨4, ![8, 256, 64, 128]⟩
abbrev S8x64x256x256 : Shape := ⟨4, ![8, 64, 256, 256]⟩
abbrev S8x64x256 : Shape := ⟨3, ![8, 64, 256]⟩
abbrev S8x64x256x1 : Shape := ⟨4, ![8, 64, 256, 1]⟩
abbrev S8x64x128x256 : Shape := ⟨4, ![8, 64, 128, 256]⟩
abbrev S8x256x64x1 : Shape := ⟨4, ![8, 256, 64, 1]⟩

abbrev nBuf : Space → Nat
  | .hbm => 75
  | .vmem => 0
  | .smem => 0
  | _ => 0

abbrev bufTy : (tb : Table) → Fin (tcTables nBuf tb) → BufTy
  | .hbm, ⟨0, _⟩ => ⟨S8x256x1024, .bf16⟩
  | .hbm, ⟨1, _⟩ => ⟨S1024x8192, .bf16⟩
  | .hbm, ⟨2, _⟩ => ⟨S8192x1024, .bf16⟩
  | .hbm, ⟨3, _⟩ => ⟨S1024x8192, .bf16⟩
  | .hbm, ⟨4, _⟩ => ⟨S1024x8192, .bf16⟩
  | .hbm, ⟨5, _⟩ => ⟨S_, .bf16⟩
  | .hbm, ⟨6, _⟩ => ⟨S8x256x1024, .bf16⟩
  | .hbm, ⟨7, _⟩ => ⟨S8x256x1024, .bf16⟩
  | .hbm, ⟨8, _⟩ => ⟨S8x256x1024, .bf16⟩
  | .hbm, ⟨9, _⟩ => ⟨S_, .f32⟩
  | .hbm, ⟨10, _⟩ => ⟨S_, .f32⟩
  | .hbm, ⟨11, _⟩ => ⟨S_, .bf16⟩
  | .hbm, ⟨12, _⟩ => ⟨S8x256x1024, .bf16⟩
  | .hbm, ⟨13, _⟩ => ⟨S8x256x1024, .bf16⟩
  | .hbm, ⟨14, _⟩ => ⟨S_, .bf16⟩
  | .hbm, ⟨15, _⟩ => ⟨S8x256x1024, .bf16⟩
  | .hbm, ⟨16, _⟩ => ⟨S8x256x1024, .bf16⟩
  | .hbm, ⟨17, _⟩ => ⟨S8x256x1024, .f32⟩
  | .hbm, ⟨18, _⟩ => ⟨S_, .f32⟩
  | .hbm, ⟨19, _⟩ => ⟨S8x256x1024, .f32⟩
  | .hbm, ⟨20, _⟩ => ⟨S8x256x1024, .f32⟩
  | .hbm, ⟨21, _⟩ => ⟨S8x256x1024, .f32⟩
  | .hbm, ⟨22, _⟩ => ⟨S1024x8192, .f32⟩
  | .hbm, ⟨23, _⟩ => ⟨S8192x1024, .f32⟩
  | .hbm, ⟨24, _⟩ => ⟨S1024x8192, .f32⟩
  | .hbm, ⟨25, _⟩ => ⟨S1024x8192, .f32⟩
  | .hbm, ⟨26, _⟩ => ⟨S8, .i32⟩
  | .hbm, ⟨27, _⟩ => ⟨S8x1x1x1, .i32⟩
  | .hbm, ⟨28, _⟩ => ⟨S8, .i32⟩
  | .hbm, ⟨29, _⟩ => ⟨S1x1x8x1, .i32⟩
  | .hbm, ⟨30, _⟩ => ⟨S8x1x8x1, .i32⟩
  | .hbm, ⟨31, _⟩ => ⟨S8x1x8x1, .i32⟩
  | .hbm, ⟨32, _⟩ => ⟨S8x1x8x1, .i1⟩
  | .hbm, ⟨33, _⟩ => ⟨S8x256x8192, .f32⟩
  | .hbm, ⟨34, _⟩ => ⟨S8x256x8x1024, .f32⟩
  | .hbm, ⟨35, _⟩ => ⟨S8x256x8192, .f32⟩
  | .hbm, ⟨36, _⟩ => ⟨S8x256x8x1024, .f32⟩
  | .hbm, ⟨37, _⟩ => ⟨S8x256x8x1024, .i1⟩
  | .hbm, ⟨38, _⟩ => ⟨S8x256x8x1024, .f32⟩
  | .hbm, ⟨39, _⟩ => ⟨S8x256x64x128, .f32⟩
  | .hbm, ⟨40, _⟩ => ⟨S8x256x8192, .f32⟩
  | .hbm, ⟨41, _⟩ => ⟨S8x256x8x1024, .f32⟩
  | .hbm, ⟨42, _⟩ => ⟨S8x256x8192, .f32⟩
  | .hbm, ⟨43, _⟩ => ⟨S8x256x8x1024, .f32⟩
  | .hbm, ⟨44, _⟩ => ⟨S8x256x8x1024, .i1⟩
  | .hbm, ⟨45, _⟩ => ⟨S8x256x8x1024, .f32⟩
  | .hbm, ⟨46, _⟩ => ⟨S8x256x64x128, .f32⟩
  | .hbm, ⟨47, _⟩ => ⟨S8x256x8192, .f32⟩
  | .hbm, ⟨48, _⟩ => ⟨S8x256x8x1024, .f32⟩
  | .hbm, ⟨49, _⟩ => ⟨S8x256x8192, .f32⟩
  | .hbm, ⟨50, _⟩ => ⟨S8x256x8x1024, .f32⟩
  | .hbm, ⟨51, _⟩ => ⟨S8x256x8x1024, .i1⟩
  | .hbm, ⟨52, _⟩ => ⟨S8x256x8x1024, .f32⟩
  | .hbm, ⟨53, _⟩ => ⟨S8x256x64x128, .f32⟩
  | .hbm, ⟨54, _⟩ => ⟨S8x64x256x256, .f32⟩
  | .hbm, ⟨55, _⟩ => ⟨S_, .f32⟩
  | .hbm, ⟨56, _⟩ => ⟨S_, .f32⟩
  | .hbm, ⟨57, _⟩ => ⟨S8x64x256x256, .f32⟩
  | .hbm, ⟨58, _⟩ => ⟨S8x64x256x256, .f32⟩
  | .hbm, ⟨59, _⟩ => ⟨S_, .f32⟩
  | .hbm, ⟨60, _⟩ => ⟨S8x64x256, .f32⟩
  | .hbm, ⟨61, _⟩ => ⟨S8x64x256x1, .f32⟩
  | .hbm, ⟨62, _⟩ => ⟨S8x64x256x256, .f32⟩
  | .hbm, ⟨63, _⟩ => ⟨S8x64x256x256, .f32⟩
  | .hbm, ⟨64, _⟩ => ⟨S8x64x256x256, .f32⟩
  | .hbm, ⟨65, _⟩ => ⟨S_, .f32⟩
  | .hbm, ⟨66, _⟩ => ⟨S8x64x256, .f32⟩
  | .hbm, ⟨67, _⟩ => ⟨S8x64x256x1, .f32⟩
  | .hbm, ⟨68, _⟩ => ⟨S8x64x128x256, .f32⟩
  | .hbm, ⟨69, _⟩ => ⟨S8x256x64x128, .f32⟩
  | .hbm, ⟨70, _⟩ => ⟨S8x256x64x1, .f32⟩
  | .hbm, ⟨71, _⟩ => ⟨S8x256x64x128, .f32⟩
  | .hbm, ⟨72, _⟩ => ⟨S8x256x64x128, .f32⟩
  | .hbm, ⟨73, _⟩ => ⟨S8x256x8192, .f32⟩
  | .hbm, ⟨74, _⟩ => ⟨S8x256x1024, .f32⟩
  | _, _ => ⟨S8x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_cst_1 : Ref sig .tc := ⟨.hbm, 10, rfl⟩
abbrev main_call1_v0 : Ref sig .tc := ⟨.hbm, 11, rfl⟩
abbrev main_call1_v1 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_v3 : Ref sig .tc := ⟨.hbm, 16, rfl⟩
abbrev main_v4 : Ref sig .tc := ⟨.hbm, 17, rfl⟩
abbrev main_cst_2 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_call2_v0 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_call3_v0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_call4_v0 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_3 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_4 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_5 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]
-- ==== Proof.Attn.lean ====
/-
What one device computes of one sequence, written once: the sequence projected by the device's three weights,
attention head by head, and the heads' results projected back. Every block the kernel makes is this function of
some sequence — the device's own, or another device's as the eight-bit integers it was sent as.
-/
module

public import proofs.«01_k».proof.Proof.Gen.KernelIdeal
public import proofs.«01_k».proof.Proof.Gen.KernelIdeal.Skeleton

@[expose] public section

set_option maxRecDepth 16384

noncomputable section

namespace Cert.KernelProof

open Cert.KernelIdeal Cert.KernelIdeal.Gen
open Idealize.ShloMosaic

variable {F : FTy → Type} [FloatOps F] [Named F]

/-- One head of one sequence: exponentials of the scores, their row sums, the weighted values over the sums. -/
def headOf (a b w : FVec F S256x128 .bf16) : FVec F S256x128 .bf16 :=
  truncf .bf16
    (divf
      (matmul dot_S256x256_S256x128_S256x128_1_0_0_1_n_n none
        (exp (truncf .bf16 (matmul dot_S256x128_S256x128_S256x256_1_1_0_0_n_n none a b (constant S256x256 .f32 0x00000000#32)) bitsLt_bf16_f32))
        w (constant S256x128 .f32 0x00000000#32))
      (broadcastTo S256x128
        (shapeCast S256x1
          (multiReduction .add [1] S256
            (extf .f32
              (exp (truncf .bf16 (matmul dot_S256x128_S256x128_S256x256_1_1_0_0_n_n none a b (constant S256x256 .f32 0x00000000#32)) bitsLt_bf16_f32))
              bitsLt_bf16_f32)
            0x00000000#32 reduces_S256x256_S256 (.inl rfl) rfl)
          shapeCasts_S256_S256x1)
        broadcasts_S256x1_S256x128))
    bitsLt_bf16_f32

/-- The eight heads side by side, projected back. -/
def headsOf (wo : FVec F S1024x1024 .bf16) (q k v : FVec F S256x1024 .bf16) : FVec F S256x1024 .bf16 :=
  truncf .bf16
    (matmul dot_S256x1024_S1024x1024_S256x1024_1_0_0_1_n_n none
      (concatenate S256x1024 1 [
      ⟨S256x128, headOf (extractStridedSlice S256x128 ![0, 0] q slices_S256x1024_o0_0_S256x128) (extractStridedSlice S256x128 ![0, 0] k slices_S256x1024_o0_0_S256x128) (extractStridedSlice S256x128 ![0, 0] v slices_S256x1024_o0_0_S256x128)⟩,
      ⟨S256x128, headOf (extractStridedSlice S256x128 ![0, 128] q slices_S256x1024_o0_128_S256x128) (extractStridedSlice S256x128 ![0, 128] k slices_S256x1024_o0_128_S256x128) (extractStridedSlice S256x128 ![0, 128] v slices_S256x1024_o0_128_S256x128)⟩,
      ⟨S256x128, headOf (extractStridedSlice S256x128 ![0, 256] q slices_S256x1024_o0_256_S256x128) (extractStridedSlice S256x128 ![0, 256] k slices_S256x1024_o0_256_S256x128) (extractStridedSlice S256x128 ![0, 256] v slices_S256x1024_o0_256_S256x128)⟩,
      ⟨S256x128, headOf (extractStridedSlice S256x128 ![0, 384] q slices_S256x1024_o0_384_S256x128) (extractStridedSlice S256x128 ![0, 384] k slices_S256x1024_o0_384_S256x128) (extractStridedSlice S256x128 ![0, 384] v slices_S256x1024_o0_384_S256x128)⟩,
      ⟨S256x128, headOf (extractStridedSlice S256x128 ![0, 512] q slices_S256x1024_o0_512_S256x128) (extractStridedSlice S256x128 ![0, 512] k slices_S256x1024_o0_512_S256x128) (extractStridedSlice S256x128 ![0, 512] v slices_S256x1024_o0_512_S256x128)⟩,
      ⟨S256x128, headOf (extractStridedSlice S256x128 ![0, 640] q slices_S256x1024_o0_640_S256x128) (extractStridedSlice S256x128 ![0, 640] k slices_S256x1024_o0_640_S256x128) (extractStridedSlice S256x128 ![0, 640] v slices_S256x1024_o0_640_S256x128)⟩,
      ⟨S256x128, headOf (extractStridedSlice S256x128 ![0, 768] q slices_S256x1024_o0_768_S256x128) (extractStridedSlice S256x128 ![0, 768] k slices_S256x1024_o0_768_S256x128) (extractStridedSlice S256x128 ![0, 768] v slices_S256x1024_o0_768_S256x128)⟩,
      ⟨S256x128, headOf (extractStridedSlice S256x128 ![0, 896] q slices_S256x1024_o0_896_S256x128) (extractStridedSlice S256x128 ![0, 896] k slices_S256x1024_o0_896_S256x128) (extractStridedSlice S256x128 ![0, 896] v slices_S256x1024_o0_896_S256x128)⟩]
        concatenates_S256x128_S256x128_S256x128_S256x128_S256x128_S256x128_S256x128_S256x128_S256x1024_d1)
      wo (constant S256x1024 .f32 0x00000000#32))
    bitsLt_bf16_f32

/-- A sequence under the three projections at once. -/
def projOf (W : FVec F S1024x3072 .bf16) (x : FVec F S256x1024 .bf16) : FVec F S256x3072 .bf16 :=
  truncf .bf16 (matmul dot_S256x1024_S1024x3072_S256x3072_1_0_0_1_n_n none x W (constant S256x3072 .f32 0x00000000#32)) bitsLt_bf16_f32

/-- One device's share of one sequence's result. -/
def attn (W : FVec F S1024x3072 .bf16) (wo : FVec F S1024x1024 .bf16) (x : FVec F S256x1024 .bf16) : FVec F S256x1024 .bf16 :=
  headsOf wo
    (extractStridedSlice S256x1024 ![0, 0] (projOf W x) slices_S256x3072_o0_0_S256x1024)
    (extractStridedSlice S256x1024 ![0, 1024] (projOf W x) slices_S256x3072_o0_1024_S256x1024)
    (extractStridedSlice S256x1024 ![0, 2048] (projOf W x) slices_S256x3072_o0_2048_S256x1024)

/-- A sequence as it is sent: eight-bit integers. -/
def quant (x : Vec F S1x256x1024 .bf16) : IVec S256x1024 8 := k0_pay2 x

/-- A sequence as it is read back from its eight-bit integers. -/
def deq (v : IVec S256x1024 8) : FVec F S256x1024 .bf16 :=
  truncf .bf16 (mulf (sitofp .f32 v) (broadcast S256x1024 (Scalar.ofBits .f32 0x3D214285#32 : F .f32))) bitsLt_bf16_f32

end Cert.KernelProof

end
-- ==== Proof.Slots.lean ====
/-
Loads and stores of one row of a buffer of several rows, held as the row's own view: the row is a slice of the
buffer with its leading axis dropped, and the load or store goes through the buffer at the slice's rectangle.
-/
module

public import proofs.«01_k».proof.Proof.Gen.KernelIdeal
public import Idealize.ShloMosaic.Lib.Pipeline.Launch
public import Idealize.ShloMosaic.Lib.Pipeline.Kit
public import Idealize.ShloMosaic.Lib.Pipeline.Value
public import Idealize.ShloMosaic.Lib.MemrefSat
public import Idealize.ShloMosaic.Lib.Tactic

@[expose] public section

set_option maxRecDepth 16384

noncomputable section

namespace Cert.KernelProof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

section Slot

variable {nD : Nat} {τ : Topo} {sig : RefSig} {Val : EltTy → Type}
variable {Ix : Type} [DecidableEq Ix] {Name : Type} [DecidableEq Name] {U : Type} [URA U] {Lvl : Type} [Preorder Lvl] [Infinite Name]
variable {Λ : Labels}
local notation "𝕄" => MT nD τ sig Ix Val Name U Lvl
variable {defs : Defs nD τ sig Val Λ} (𝒱 : Variants) (c : Thread nD τ) (bd : Option 𝒱.V)
variable {cs : CoreSpace} {s s' : Shape} {e : EltTy}
variable {α : Type} {Q : α → sProp (MT nD τ sig Ix Val Name U Lvl)}

/-- A load through a buffer at a row's rectangle, the row held: the row's contents, with the leading axis put back. -/
theorem wp_load_row {m : Memref sig c.2.kind cs s e} {r : Rect s} (hr : ∀ a, r.stride a = 1) (hq : r.shape.Squeezes s')
    (hc : r.shape.ShapeCasts s') (hc' : s'.ShapeCasts r.shape) {hl : m.view.LoadsAt r.toLoadRect}
    {k : (r.toLoadRect.shape.Idx → Val e) → Prog (TpuEff nD τ sig Val Λ c.2) α} {q : PosShare TreeShare} {X : s'.Idx → Val e} :
    (owns c ((m.slice r hr).squeeze s' hq) q X : sProp 𝕄)
      ⊢ iprop((owns c ((m.slice r hr).squeeze s' hq) q X -∗ wp frame (wpE defs 𝒱 c bd) Set.univ (k (shapeCast r.shape X hc')) Q)
        -∗ wp frame (wpE defs 𝒱 c bd) Set.univ (.op (.load m r.toLoadRect hl) k) Q) := by
  unfold owns
  iintro ⟨%f, %hf, H⟩ Hk
  rw [Memref.read_squeeze_slice m r hr hq hc] at hf
  have hX : m.view.readAt Val r.toLoadRect f = shapeCast r.shape X hc' := by
    rw [← hf]; exact (shapeCast_shapeCast _ hc hc').symm
  have hset : ((m.slice r hr).squeeze s' hq).view.set = (m.access r).set := View.set_reshape _ _
  iapply (wp_load_rect 𝒱 c bd Set.univ (m := m) (r := r) (S := ((m.slice r hr).squeeze s' hq).view.set) (q := q) (f := f) hset.ge) $$ H
  iintro H
  rw [show (m.access r).read Val f = shapeCast r.shape X hc' from hX]
  iapply Hk
  iexists f
  isplitr
  · ipureintro; rw [Memref.read_squeeze_slice m r hr hq hc]; exact hf
  · iexact H

/-- A store of a whole row through the buffer: the row holds what was stored, its leading axis dropped. -/
theorem wp_store_row {m : Memref sig c.2.kind cs s e} {r : Rect s} (hr : ∀ a, r.stride a = 1) (hq : r.shape.Squeezes s')
    (hc : r.shape.ShapeCasts s') {w : r.shape.Idx → Val e} {hx : (m.access r).Stores Finset.univ}
    {hm : (Finset.univ : Finset r.shape.Idx) = Finset.univ ∨ ∀ a, r.stride a = 1}
    {k : PUnit → Prog (TpuEff nD τ sig Val Λ c.2) α} {X : s'.Idx → Val e} :
    (owns c ((m.slice r hr).squeeze s' hq) fullShare X : sProp 𝕄)
      ⊢ iprop((owns c ((m.slice r hr).squeeze s' hq) fullShare (shapeCast s' w hc) -∗ wp frame (wpE defs 𝒱 c bd) Set.univ (k ⟨⟩) Q)
        -∗ wp frame (wpE defs 𝒱 c bd) Set.univ (.op (.store m r w Finset.univ hx hm) k) Q) := by
  unfold owns
  iintro ⟨%f, %hf, H⟩ Hk
  have hset : ((m.slice r hr).squeeze s' hq).view.set = (m.access r).set := View.set_reshape _ _
  iapply (wp_store 𝒱 c bd Set.univ (m := m) (r := r) (S := ((m.slice r hr).squeeze s' hq).view.set) (f := f) (Mk := Finset.univ)
    hset.ge) $$ H
  iintro H
  iapply Hk
  iexists ((m.access r).write Val f w Finset.univ)
  isplitr
  · ipureintro; rw [Memref.read_squeeze_slice m r hr hq hc]
    exact congrArg (fun v => shapeCast s' v hc) (View.read_write_univ (v := m.access r) f w)
  · iexact H

/-- The load, with what it reads under another name. -/
theorem wp_load_row_as {m : Memref sig c.2.kind cs s e} {r : Rect s} (hr : ∀ a, r.stride a = 1) (hq : r.shape.Squeezes s')
    (hc : r.shape.ShapeCasts s') (hc' : s'.ShapeCasts r.shape) {X : s'.Idx → Val e} (V : r.shape.Idx → Val e)
    (hV : shapeCast r.shape X hc' = V) {hl : m.view.LoadsAt r.toLoadRect}
    {k : (r.toLoadRect.shape.Idx → Val e) → Prog (TpuEff nD τ sig Val Λ c.2) α} {q : PosShare TreeShare} :
    (owns c ((m.slice r hr).squeeze s' hq) q X : sProp 𝕄)
      ⊢ iprop((owns c ((m.slice r hr).squeeze s' hq) q X -∗ wp frame (wpE defs 𝒱 c bd) Set.univ (k V) Q)
        -∗ wp frame (wpE defs 𝒱 c bd) Set.univ (.op (.load m r.toLoadRect hl) k) Q) := by
  subst hV
  exact wp_load_row 𝒱 c bd hr hq hc hc'

/-- A load of a whole buffer: its contents. -/
theorem wp_load_all {m : Memref sig c.2.kind cs s e} {off : Fin s.rank → Nat} {inb : ∀ a, off a + s.size a ≤ s.size a}
    (hw : m.view.set = Finset.univ)
    (h : ∀ f, m.view.readAt Val (Rect.unit (s := s) off s.size inb).toLoadRect f = m.view.read Val f)
    {hl : m.view.LoadsAt (Rect.unit (s := s) off s.size inb).toLoadRect}
    {k : (s.Idx → Val e) → Prog (TpuEff nD τ sig Val Λ c.2) α} {q : PosShare TreeShare} {X : s.Idx → Val e} :
    (owns c m q X : sProp 𝕄)
      ⊢ iprop((owns c m q X -∗ wp frame (wpE defs 𝒱 c bd) Set.univ (k X) Q)
        -∗ wp frame (wpE defs 𝒱 c bd) Set.univ (.op (.load m (Rect.unit (s := s) off s.size inb).toLoadRect hl) k) Q) := by
  unfold owns
  rw [hw]
  iintro ⟨%f, %hf, H⟩ Hk
  iapply (wp_load 𝒱 c bd Set.univ (m := m) (S := Finset.univ) (q := q) (f := f) (Finset.subset_univ _)) $$ H
  iintro H
  rw [h f, hf]
  iapply Hk
  iexists f
  isplitr
  · ipureintro; exact hf
  · iexact H

/-- A store of a whole buffer. -/
theorem wp_store_all {m : Memref sig c.2.kind cs s e} {off : Fin s.rank → Nat} {inb : ∀ a, off a + s.size a ≤ s.size a}
    (hw : m.view.set = Finset.univ)
    (h : ∀ f w, m.view.read Val ((m.access (Rect.unit (s := s) off s.size inb)).write Val f w Finset.univ) = w)
    {w : s.Idx → Val e} {hx : (m.access (Rect.unit (s := s) off s.size inb)).Stores Finset.univ}
    {hm : (Finset.univ : Finset s.Idx) = Finset.univ ∨ ∀ a, (Rect.unit (s := s) off s.size inb).stride a = 1}
    {k : PUnit → Prog (TpuEff nD τ sig Val Λ c.2) α} {X : s.Idx → Val e} :
    (owns c m fullShare X : sProp 𝕄)
      ⊢ iprop((owns c m fullShare w -∗ wp frame (wpE defs 𝒱 c bd) Set.univ (k ⟨⟩) Q)
        -∗ wp frame (wpE defs 𝒱 c bd) Set.univ (.op (.store m (Rect.unit (s := s) off s.size inb) w Finset.univ hx hm) k) Q) := by
  unfold owns
  rw [hw]
  iintro ⟨%f, %hf, H⟩ Hk
  iapply (wp_store 𝒱 c bd Set.univ (m := m) (r := Rect.unit (s := s) off s.size inb) (S := Finset.univ) (f := f) (Mk := Finset.univ)
    (Finset.subset_univ _)) $$ H
  iintro H
  iapply Hk
  iexists ((m.access (Rect.unit (s := s) off s.size inb)).write Val f w Finset.univ)
  isplitr
  · ipureintro; exact h f w
  · iexact H

end Slot

end Cert.KernelProof

end
-- ==== Proof.Protocol.lean ====
/-
The protocol between the eight devices. Each device starts by telling the five devices it exchanges data with that
its landing buffers are free, and waits for the same from them; then fourteen transfers follow, seven carrying
quantised sequences out and seven carrying finished blocks back towards the sequence's owner. Every transfer has a
cell at its sender and a cell at its receiver. This file says which device each step addresses, what each buffer
holds when it travels, what each cell's payer hands over, and in which order the cells may be waited for.
-/
module

public import proofs.«01_k».proof.Proof.Attn
public import proofs.«01_k».proof.Proof.Slots
public import proofs.«01_k».proof.Proof.Gen.KernelIdeal.Launch

@[expose] public section

set_option maxRecDepth 16384

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The resource algebra: the pipeline's part and the exchange's, whose duties are numbered -/

abbrev UB : Type := URounds (GSem nD τ sig) (Fin 5)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Who exchanges with whom -/

set_option backward.proofsInPublic true in
/-- The device `k` places on. -/
def step (k : ℕ) (c : Dev nD) : Dev nD := ⟨(c.val + k) % 8, Nat.mod_lt _ (by decide)⟩

abbrev rt (c : Dev nD) : Dev nD := step 1 c
abbrev lf (c : Dev nD) : Dev nD := step 7 c
abbrev p3 (c : Dev nD) : Dev nD := step 3 c
abbrev m3 (c : Dev nD) : Dev nD := step 5 c
abbrev op (c : Dev nD) : Dev nD := step 4 c

theorem lf_rt (c : Dev nD) : lf (rt c) = c := by revert c; decide
theorem rt_lf (c : Dev nD) : rt (lf c) = c := by revert c; decide
theorem m3_p3 (c : Dev nD) : m3 (p3 c) = c := by revert c; decide
theorem p3_m3 (c : Dev nD) : p3 (m3 c) = c := by revert c; decide
theorem op_op (c : Dev nD) : op (op c) = c := by revert c; decide

def rtE : Dev nD ≃ Dev nD := ⟨rt, lf, lf_rt, rt_lf⟩
def p3E : Dev nD ≃ Dev nD := ⟨p3, m3, m3_p3, p3_m3⟩
def opE : Dev nD ≃ Dev nD := ⟨op, op, op_op, op_op⟩

/-- The device the `d`-th opening signal goes to. -/
def sigE : Fin 5 → (Dev nD ≃ Dev nD) := ![rtE.symm, rtE, p3E, p3E.symm, opE]
/-- The device the `t`-th transfer goes to. -/
def tgtE : Fin 14 → (Dev nD ≃ Dev nD) :=
  ![opE, p3E, p3E.symm, rtE, rtE.symm, opE, rtE, rtE.symm, rtE.symm, rtE, rtE.symm, rtE, rtE.symm, rtE]

abbrev tgt (t : Fin 14) (c : Dev nD) : Dev nD := tgtE t c

/-! ## The buffers, row by row -/

abbrev xrM0 : Memref sig .tc .vmem S256x1024 .i8 :=
  ((Memref.whole cc0_scratch0).slice (Rect.unit (s := S3x256x1024) ![0, 0, 0] S1x256x1024.size inb_S3x256x1024_S1x256x1024_0_0_0) (fun _ => rfl)).squeeze S256x1024 squeezes_S1x256x1024_S256x1024
abbrev xrM1 : Memref sig .tc .vmem S256x1024 .i8 :=
  ((Memref.whole cc0_scratch0).slice (Rect.unit (s := S3x256x1024) ![1, 0, 0] S1x256x1024.size inb_S3x256x1024_S1x256x1024_1_0_0) (fun _ => rfl)).squeeze S256x1024 squeezes_S1x256x1024_S256x1024
abbrev xrM2 : Memref sig .tc .vmem S256x1024 .i8 :=
  ((Memref.whole cc0_scratch0).slice (Rect.unit (s := S3x256x1024) ![2, 0, 0] S1x256x1024.size inb_S3x256x1024_S1x256x1024_2_0_0) (fun _ => rfl)).squeeze S256x1024 squeezes_S1x256x1024_S256x1024
abbrev xlM0 : Memref sig .tc .vmem S256x1024 .i8 :=
  ((Memref.whole cc0_scratch1).slice (Rect.unit (s := S3x256x1024) ![0, 0, 0] S1x256x1024.size inb_S3x256x1024_S1x256x1024_0_0_0) (fun _ => rfl)).squeeze S256x1024 squeezes_S1x256x1024_S256x1024
abbrev xlM1 : Memref sig .tc .vmem S256x1024 .i8 :=
  ((Memref.whole cc0_scratch1).slice (Rect.unit (s := S3x256x1024) ![1, 0, 0] S1x256x1024.size inb_S3x256x1024_S1x256x1024_1_0_0) (fun _ => rfl)).squeeze S256x1024 squeezes_S1x256x1024_S256x1024
abbrev xlM2 : Memref sig .tc .vmem S256x1024 .i8 :=
  ((Memref.whole cc0_scratch1).slice (Rect.unit (s := S3x256x1024) ![2, 0, 0] S1x256x1024.size inb_S3x256x1024_S1x256x1024_2_0_0) (fun _ => rfl)).squeeze S256x1024 squeezes_S1x256x1024_S256x1024
abbrev ptM0 : Memref sig .tc .vmem S256x1024 .bf16 :=
  ((Memref.whole cc0_scratch5).slice (Rect.unit (s := S8x256x1024) ![0, 0, 0] S1x256x1024.size inb_S8x256x1024_S1x256x1024_0_0_0) (fun _ => rfl)).squeeze S256x1024 squeezes_S1x256x1024_S256x1024
abbrev ptM1 : Memref sig .tc .vmem S256x1024 .bf16 :=
  ((Memref.whole cc0_scratch5).slice (Rect.unit (s := S8x256x1024) ![1, 0, 0] S1x256x1024.size inb_S8x256x1024_S1x256x1024_1_0_0) (fun _ => rfl)).squeeze S256x1024 squeezes_S1x256x1024_S256x1024
abbrev ptM2 : Memref sig .tc .vmem S256x1024 .bf16 :=
  ((Memref.whole cc0_scratch5).slice (Rect.unit (s := S8x256x1024) ![2, 0, 0] S1x256x1024.size inb_S8x256x1024_S1x256x1024_2_0_0) (fun _ => rfl)).squeeze S256x1024 squeezes_S1x256x1024_S256x1024
abbrev ptM3 : Memref sig .tc .vmem S256x1024 .bf16 :=
  ((Memref.whole cc0_scratch5).slice (Rect.unit (s := S8x256x1024) ![3, 0, 0] S1x256x1024.size inb_S8x256x1024_S1x256x1024_3_0_0) (fun _ => rfl)).squeeze S256x1024 squeezes_S1x256x1024_S256x1024
abbrev ptM4 : Memref sig .tc .vmem S256x1024 .bf16 :=
  ((Memref.whole cc0_scratch5).slice (Rect.unit (s := S8x256x1024) ![4, 0, 0] S1x256x1024.size inb_S8x256x1024_S1x256x1024_4_0_0) (fun _ => rfl)).squeeze S256x1024 squeezes_S1x256x1024_S256x1024
abbrev ptM5 : Memref sig .tc .vmem S256x1024 .bf16 :=
  ((Memref.whole cc0_scratch5).slice (Rect.unit (s := S8x256x1024) ![5, 0, 0] S1x256x1024.size inb_S8x256x1024_S1x256x1024_5_0_0) (fun _ => rfl)).squeeze S256x1024 squeezes_S1x256x1024_S256x1024
abbrev ptM6 : Memref sig .tc .vmem S256x1024 .bf16 :=
  ((Memref.whole cc0_scratch5).slice (Rect.unit (s := S8x256x1024) ![6, 0, 0] S1x256x1024.size inb_S8x256x1024_S1x256x1024_6_0_0) (fun _ => rfl)).squeeze S256x1024 squeezes_S1x256x1024_S256x1024
abbrev ptM7 : Memref sig .tc .vmem S256x1024 .bf16 :=
  ((Memref.whole cc0_scratch5).slice (Rect.unit (s := S8x256x1024) ![7, 0, 0] S1x256x1024.size inb_S8x256x1024_S1x256x1024_7_0_0) (fun _ => rfl)).squeeze S256x1024 squeezes_S1x256x1024_S256x1024
abbrev raM0 : Memref sig .tc .vmem S256x1024 .bf16 :=
  ((Memref.whole cc0_scratch6).slice (Rect.unit (s := S4x256x1024) ![0, 0, 0] S1x256x1024.size inb_S4x256x1024_S1x256x1024_0_0_0) (fun _ => rfl)).squeeze S256x1024 squeezes_S1x256x1024_S256x1024
abbrev raM1 : Memref sig .tc .vmem S256x1024 .bf16 :=
  ((Memref.whole cc0_scratch6).slice (Rect.unit (s := S4x256x1024) ![1, 0, 0] S1x256x1024.size inb_S4x256x1024_S1x256x1024_1_0_0) (fun _ => rfl)).squeeze S256x1024 squeezes_S1x256x1024_S256x1024
abbrev raM2 : Memref sig .tc .vmem S256x1024 .bf16 :=
  ((Memref.whole cc0_scratch6).slice (Rect.unit (s := S4x256x1024) ![2, 0, 0] S1x256x1024.size inb_S4x256x1024_S1x256x1024_2_0_0) (fun _ => rfl)).squeeze S256x1024 squeezes_S1x256x1024_S256x1024
abbrev raM3 : Memref sig .tc .vmem S256x1024 .bf16 :=
  ((Memref.whole cc0_scratch6).slice (Rect.unit (s := S4x256x1024) ![3, 0, 0] S1x256x1024.size inb_S4x256x1024_S1x256x1024_3_0_0) (fun _ => rfl)).squeeze S256x1024 squeezes_S1x256x1024_S256x1024
abbrev laM0 : Memref sig .tc .vmem S256x1024 .bf16 :=
  ((Memref.whole cc0_scratch7).slice (Rect.unit (s := S4x256x1024) ![0, 0, 0] S1x256x1024.size inb_S4x256x1024_S1x256x1024_0_0_0) (fun _ => rfl)).squeeze S256x1024 squeezes_S1x256x1024_S256x1024
abbrev laM1 : Memref sig .tc .vmem S256x1024 .bf16 :=
  ((Memref.whole cc0_scratch7).slice (Rect.unit (s := S4x256x1024) ![1, 0, 0] S1x256x1024.size inb_S4x256x1024_S1x256x1024_1_0_0) (fun _ => rfl)).squeeze S256x1024 squeezes_S1x256x1024_S256x1024
abbrev laM2 : Memref sig .tc .vmem S256x1024 .bf16 :=
  ((Memref.whole cc0_scratch7).slice (Rect.unit (s := S4x256x1024) ![2, 0, 0] S1x256x1024.size inb_S4x256x1024_S1x256x1024_2_0_0) (fun _ => rfl)).squeeze S256x1024 squeezes_S1x256x1024_S256x1024
abbrev laM3 : Memref sig .tc .vmem S256x1024 .bf16 :=
  ((Memref.whole cc0_scratch7).slice (Rect.unit (s := S4x256x1024) ![3, 0, 0] S1x256x1024.size inb_S4x256x1024_S1x256x1024_3_0_0) (fun _ => rfl)).squeeze S256x1024 squeezes_S1x256x1024_S256x1024
abbrev xdrM : Memref sig .tc .vmem S256x1024 .i8 := Memref.whole cc0_scratch2
abbrev xdlM : Memref sig .tc .vmem S256x1024 .i8 := Memref.whole cc0_scratch3
abbrev xzM : Memref sig .tc .vmem S256x1024 .i8 := Memref.whole cc0_scratch4
abbrev zrM : Memref sig .tc .vmem S256x1024 .bf16 := Memref.whole cc0_scratch8

/-! ## The cells -/

/-- The runtime's barrier semaphore. -/
abbrev barS : Sem sig := (SemArray.scalar (sig.barrier 0 rfl) : Sems sig S_).sem

/-- The semaphore the `t`-th transfer counts at its sender, -/
def ssem : Fin 14 → DmaSem sig := ![18, 14, 16, 6, 10, 32, 7, 11, 26, 20, 27, 21, 28, 22]
/-- and at its receiver. -/
def rsem : Fin 14 → DmaSem sig := ![19, 15, 17, 8, 12, 33, 9, 13, 29, 23, 30, 24, 31, 25]

/-- Which transfer a semaphore belongs to, and on which side: `true` at the receiver. -/
def kind : DmaSem sig → Option (Bool × Fin 14) := (
  ![none, none, none, none, none, none,
    some (false, 3), some (false, 6), some (true, 3), some (true, 6), some (false, 4), some (false, 7), some (true, 4), some (true, 7),
    some (false, 1), some (true, 1), some (false, 2), some (true, 2), some (false, 0), some (true, 0),
    some (false, 9), some (false, 11), some (false, 13), some (true, 9), some (true, 11), some (true, 13),
    some (false, 8), some (false, 10), some (false, 12), some (true, 8), some (true, 10), some (true, 12),
    some (false, 5), some (true, 5)] : Fin 34 → Option (Bool × Fin 14))

theorem kind_s (t : Fin 14) : kind (ssem t) = some (false, t) := by revert t; decide
theorem kind_r (t : Fin 14) : kind (rsem t) = some (true, t) := by revert t; decide

abbrev barCell (c : Dev nD) : GSem nD τ sig := ((c : Thread nD τ), .reg barS)
abbrev sCell (c : Dev nD) (t : Fin 14) : GSem nD τ sig := ((c : Thread nD τ), .dma (ssem t))
abbrev rCell (c : Dev nD) (t : Fin 14) : GSem nD τ sig := ((c : Thread nD τ), .dma (rsem t))

/-- The kernel's own semaphores as the launch numbers them, -/
def osem (k : Fin 28) : SemLoc sig := .dma (⟨k.val + 6, Nat.add_lt_add_right k.isLt 6⟩ : Fin 34)
/-- and all the exchange's, the barrier first. -/
def csem (k : Fin 29) : SemLoc sig := if h : k = 0 then .reg barS else .dma (⟨k.val + 5, Nat.add_lt_add_right k.isLt 5⟩ : Fin 34)
def kcell (ck : Dev nD × Fin 29) : GSem nD τ sig := ((ck.1 : Thread nD τ), csem ck.2)

def sIx : Fin 14 → Fin 29 := ![13, 9, 11, 1, 5, 27, 2, 6, 21, 15, 22, 16, 23, 17]
def rIx : Fin 14 → Fin 29 := ![14, 10, 12, 3, 7, 28, 4, 8, 24, 18, 25, 19, 26, 20]

theorem csem_s (t : Fin 14) : csem (sIx t) = .dma (ssem t) := by revert t; decide
theorem csem_r (t : Fin 14) : csem (rIx t) = .dma (rsem t) := by revert t; decide
theorem kcell_b (c : Dev nD) : kcell (c, 0) = barCell c := rfl
theorem kcell_s (c : Dev nD) (t : Fin 14) : kcell (c, sIx t) = sCell c t := by unfold kcell; rw [csem_s]
theorem kcell_r (c : Dev nD) (t : Fin 14) : kcell (c, rIx t) = rCell c t := by unfold kcell; rw [csem_r]

/-! ## What each buffer holds when it travels -/

/-- The blocks the pipeline stages on device `c`: its sequence and its four weights. -/
def xstg (c : Dev nD) : Vec F S1x256x1024 .bf16 := (win0_0.blk (0 : Fin 1)).view.read (Elt F) ((s₀ m ρ).mem ((c : Thread nD τ).loc main_arg0))
def qstg (c : Dev nD) : Vec F S1024x1024 .bf16 := (win0_1.blk (0 : Fin 1)).view.read (Elt F) ((s₀ m ρ).mem ((c : Thread nD τ).loc main_arg1))
def ostg (c : Dev nD) : Vec F S1024x1024 .bf16 := (win0_2.blk (0 : Fin 1)).view.read (Elt F) ((s₀ m ρ).mem ((c : Thread nD τ).loc main_arg2))
def kstg (c : Dev nD) : Vec F S1024x1024 .bf16 := (win0_3.blk (0 : Fin 1)).view.read (Elt F) ((s₀ m ρ).mem ((c : Thread nD τ).loc main_arg3))
def vstg (c : Dev nD) : Vec F S1024x1024 .bf16 := (win0_4.blk (0 : Fin 1)).view.read (Elt F) ((s₀ m ρ).mem ((c : Thread nD τ).loc main_arg4))

/-- Device `c`'s sequence as sent. -/
def qx (c : Dev nD) : IVec S256x1024 8 := quant (xstg m ρ c)
/-- Device `b`'s three projections side by side, and its output projection. -/
def wqkv (b : Dev nD) : FVec F S1024x3072 .bf16 := k0_pay5 (qstg m ρ b) (kstg m ρ b) (vstg m ρ b)
def wout (b : Dev nD) : FVec F S1024x1024 .bf16 := k0_pay6 (ostg m ρ b)
/-- Device `b`'s share of its own sequence, exact, -/
def own (b : Dev nD) : FVec F S256x1024 .bf16 := attn (wqkv m ρ b) (wout m ρ b) (k0_pay1 (xstg m ρ b))
/-- and of device `c`'s, as sent. -/
def oth (b c : Dev nD) : FVec F S256x1024 .bf16 := attn (wqkv m ρ b) (wout m ρ b) (deq (qx m ρ c))

/-- The sums on their way: towards the left and towards the right, after one, two and three devices' shares. -/
def la0 (b : Dev nD) : FVec F S256x1024 .bf16 := oth m ρ b (m3 b)
def la1 (b : Dev nD) : FVec F S256x1024 .bf16 := addf (la0 m ρ (rt b)) (oth m ρ b (lf (lf b)))
def la2 (b : Dev nD) : FVec F S256x1024 .bf16 := addf (la1 m ρ (rt b)) (oth m ρ b (lf b))
def ra0 (b : Dev nD) : FVec F S256x1024 .bf16 := oth m ρ b (p3 b)
def ra1 (b : Dev nD) : FVec F S256x1024 .bf16 := addf (ra0 m ρ (lf b)) (oth m ρ b (rt (rt b)))
def ra2 (b : Dev nD) : FVec F S256x1024 .bf16 := addf (ra1 m ρ (lf b)) (oth m ρ b (rt b))

/-- The result on device `c`. -/
def outv (c : Dev nD) : Vec F S1x256x1024 .f32 :=
  shapeCast S1x256x1024
    (addf (addf (addf (extf .f32 (own m ρ c) bitsLt_bf16_f32) (extf .f32 (la2 m ρ (rt c)) bitsLt_bf16_f32))
      (extf .f32 (ra2 m ρ (lf c)) bitsLt_bf16_f32)) (extf .f32 (oth m ρ (op c) c) bitsLt_bf16_f32))
    shapeCasts_S256x1024_S1x256x1024

/-! ## What the cells hand over -/

/-- A view of device `c`'s memory at given contents. -/
abbrev at' (c : Dev nD) {e : EltTy} (M : Memref sig .tc .vmem S256x1024 e) (q : PosShare TreeShare) (X : S256x1024.Idx → Elt F e) : sProp 𝕄 :=
  owns (Ix := Unit) (Name := ℕ) (U := UU) (Lvl := ℕ) (c : Thread nD τ) M q X
/-- The same at some contents. -/
abbrev free (c : Dev nD) {e : EltTy} (M : Memref sig .tc .vmem S256x1024 e) : sProp 𝕄 :=
  iprop(∃ X : S256x1024.Idx → Elt F e, at' c M fullShare X)

abbrev q1 : PosShare TreeShare := fullShare.left.left
abbrev q2 : PosShare TreeShare := fullShare.left.right
abbrev q3 : PosShare TreeShare := fullShare.right.left
abbrev q4 : PosShare TreeShare := fullShare.right.right
abbrev hL : PosShare TreeShare := fullShare.left
abbrev hR : PosShare TreeShare := fullShare.right

/-- What comes back to the sender: the source it lent. -/
def sendPay (c : Dev nD) : Fin 14 → sProp 𝕄
  | 0 => at' c xrM0 q1 (qx m ρ c)
  | 1 => at' c xrM0 q2 (qx m ρ c)
  | 2 => at' c xrM0 q3 (qx m ρ c)
  | 3 => at' c xrM0 q4 (qx m ρ c)
  | 4 => at' c xlM0 fullShare (qx m ρ c)
  | 5 => at' c ptM4 fullShare (oth m ρ c (op c))
  | 6 => at' c xrM1 hL (qx m ρ (lf c))
  | 7 => at' c xlM1 hL (qx m ρ (rt c))
  | 8 => at' c laM0 fullShare (la0 m ρ c)
  | 9 => at' c raM0 fullShare (ra0 m ρ c)
  | 10 => at' c laM1 fullShare (la1 m ρ c)
  | 11 => at' c raM1 fullShare (ra1 m ρ c)
  | 12 => at' c laM2 fullShare (la2 m ρ c)
  | 13 => at' c raM2 fullShare (ra2 m ρ c)

/-- What arrives at the receiver: its landing buffer, filled. -/
def recvPay (c : Dev nD) : Fin 14 → sProp 𝕄
  | 0 => at' c xzM fullShare (qx m ρ (op c))
  | 1 => at' c xdrM fullShare (qx m ρ (m3 c))
  | 2 => at' c xdlM fullShare (qx m ρ (p3 c))
  | 3 => at' c xrM1 fullShare (qx m ρ (lf c))
  | 4 => at' c xlM1 fullShare (qx m ρ (rt c))
  | 5 => at' c zrM fullShare (oth m ρ (op c) c)
  | 6 => at' c xrM2 fullShare (qx m ρ (lf (lf c)))
  | 7 => at' c xlM2 fullShare (qx m ρ (rt (rt c)))
  | 8 => at' c laM1 fullShare (la0 m ρ (rt c))
  | 9 => at' c raM1 fullShare (ra0 m ρ (lf c))
  | 10 => at' c laM2 fullShare (la1 m ρ (rt c))
  | 11 => at' c raM2 fullShare (ra1 m ρ (lf c))
  | 12 => at' c laM3 fullShare (la2 m ρ (rt c))
  | 13 => at' c raM3 fullShare (ra2 m ρ (lf c))

/-- The landing buffers device `n` keeps for the device its `d`-th signal goes to. -/
def lend (n : Dev nD) : Fin 5 → sProp 𝕄
  | 0 => iprop(free n xrM1 ∗ free n xrM2 ∗ free n raM1 ∗ free n raM2 ∗ free n raM3)
  | 1 => iprop(free n xlM1 ∗ free n xlM2 ∗ free n laM1 ∗ free n laM2 ∗ free n laM3)
  | 2 => free n xdlM
  | 3 => free n xdrM
  | 4 => iprop(free n xzM ∗ free n zrM)

/-- What the `d`-th signal reaching device `c` hands it: its sender's landing buffers. -/
def barPay (c : Dev nD) (d : Fin 5) : sProp 𝕄 := lend ((sigE d).symm c) d

instance sendPay_storable (c : Dev nD) (t : Fin 14) : BI.Storable (upEmb : UEmb _ 𝕄) (sendPay (F := F) m ρ c t) := by
  unfold sendPay; split <;> infer_instance
instance recvPay_storable (c : Dev nD) (t : Fin 14) : BI.Storable (upEmb : UEmb _ 𝕄) (recvPay (F := F) m ρ c t) := by
  unfold recvPay; split <;> infer_instance
instance lend_storable (c : Dev nD) (d : Fin 5) : BI.Storable (upEmb : UEmb _ 𝕄) (lend (F := F) c d) := by
  unfold lend; split <;> infer_instance
instance barPay_storable (c : Dev nD) (d : Fin 5) : BI.Storable (upEmb : UEmb _ 𝕄) (barPay (F := F) c d) := by
  unfold barPay; infer_instance

/-! ## The schedule -/

/-- The credit of one block of eight-bit integers, and of one of sixteen-bit numbers. -/
abbrev NI : ℕ := (xzM : Memref sig .tc .vmem S256x1024 .i8).view.dmaCredit
abbrev NB : ℕ := (zrM : Memref sig .tc .vmem S256x1024 .bf16).view.dmaCredit
theorem NI_pos : 0 < NI := View.dmaCredit_pos _ (by decide)
theorem NB_pos : 0 < NB := View.dmaCredit_pos _ (by decide)

def amt : Fin 14 → ℕ := ![NI, NI, NI, NI, NI, NB, NI, NI, NB, NB, NB, NB, NB, NB]
theorem amt_pos (t : Fin 14) : 0 < amt t := by
  fin_cases t <;> first | exact NI_pos | exact NB_pos

/-- One round. The barrier cell has five duties of one unit, one from each device it exchanges with; each transfer's
    two cells have one duty of the block's credit. -/
def rd : Rounds.Schedule (GSem nD τ sig) (Fin 5) 𝕄 where
  duties g r := if r = 0 ∧ g.1.2 = .tc then (match g.2 with
    | .reg _ => Finset.univ
    | .dma s => match kind s with | none => ∅ | some _ => {0}) else ∅
  unitless _ := False
  amount g _ _ := match g.2 with
    | .reg _ => 1
    | .dma s => match kind s with | none => 1 | some (_, t) => amt t
  payload g _ d := match g.2 with
    | .reg _ => barPay g.1.1 d
    | .dma s => match kind s with
      | none => iprop(emp)
      | some (false, t) => sendPay m ρ g.1.1 t
      | some (true, t) => recvPay m ρ g.1.1 t
  amount_pos g _ _ _ := by
    split
    · exact Nat.one_pos
    · split
      · exact Nat.one_pos
      · exact amt_pos _

instance rd_payload_storable (g : GSem nD τ sig) (r : ℕ) (d : Fin 5) :
    BI.Storable (upEmb : UEmb _ 𝕄) ((rd (F := F) m ρ).payload g r d) := by
  dsimp only [rd]
  split
  · infer_instance
  · split <;> infer_instance

section Sched
variable (c : Dev nD) (t : Fin 14)

theorem duties_bar : (rd (F := F) m ρ).duties (barCell c) 0 = Finset.univ := by dsimp only [rd]; exact if_pos ⟨rfl, rfl⟩
theorem duties_s : (rd (F := F) m ρ).duties (sCell c t) 0 = {0} := by dsimp only [rd]; rw [if_pos ⟨rfl, rfl⟩, kind_s]
theorem duties_r : (rd (F := F) m ρ).duties (rCell c t) 0 = {0} := by dsimp only [rd]; rw [if_pos ⟨rfl, rfl⟩, kind_r]
theorem duties_later (g : GSem nD τ sig) : ∀ r, 1 ≤ r → (rd (F := F) m ρ).duties g r = ∅ :=
  fun r hr => by dsimp only [rd]; rw [if_neg fun h => by omega]

theorem amount_bar (d : Fin 5) : (rd (F := F) m ρ).amount (barCell c) 0 d = 1 := rfl
theorem amount_s (d : Fin 5) : (rd (F := F) m ρ).amount (sCell c t) 0 d = amt t := by dsimp only [rd]; rw [kind_s]
theorem amount_r (d : Fin 5) : (rd (F := F) m ρ).amount (rCell c t) 0 d = amt t := by dsimp only [rd]; rw [kind_r]

theorem expect_bar : (rd (F := F) m ρ).expect (barCell c) 0 = 5 := by
  unfold Schedule.expect Schedule.amountOf
  rw [duties_bar, Finset.sum_congr rfl fun d _ => amount_bar m ρ c d, Finset.sum_const, Finset.card_univ, Fintype.card_fin, smul_eq_mul]
theorem expect_s : (rd (F := F) m ρ).expect (sCell c t) 0 = amt t := by
  unfold Schedule.expect Schedule.amountOf; rw [duties_s, Finset.sum_singleton, amount_s]
theorem expect_r : (rd (F := F) m ρ).expect (rCell c t) 0 = amt t := by
  unfold Schedule.expect Schedule.amountOf; rw [duties_r, Finset.sum_singleton, amount_r]

theorem payload_bar (d : Fin 5) : (rd (F := F) m ρ).payload (barCell c) 0 d = barPay c d := rfl
theorem payload_s (d : Fin 5) : (rd (F := F) m ρ).payload (sCell c t) 0 d = sendPay m ρ c t := by dsimp only [rd]; rw [kind_s]
theorem payload_r (d : Fin 5) : (rd (F := F) m ρ).payload (rCell c t) 0 d = recvPay m ρ c t := by dsimp only [rd]; rw [kind_r]

theorem rest_bar : bigSep ((rd (F := F) m ρ).duties (barCell c) 0 \ ∅) (fun d => (rd (F := F) m ρ).payload (barCell c) 0 d)
    = iprop(barPay c 0 ∗ barPay c 1 ∗ barPay c 2 ∗ barPay c 3 ∗ barPay c 4) := by
  rw [Finset.sdiff_empty, duties_bar, bigSep_univ_eq_bigSepL [(0 : Fin 5), 1, 2, 3, 4] (by decide) (by decide)]
  rfl
theorem rest_s : bigSep ((rd (F := F) m ρ).duties (sCell c t) 0 \ ∅) (fun d => (rd (F := F) m ρ).payload (sCell c t) 0 d) = sendPay m ρ c t := by
  rw [Finset.sdiff_empty, duties_s, bigSep_singleton, payload_s]
theorem rest_r : bigSep ((rd (F := F) m ρ).duties (rCell c t) 0 \ ∅) (fun d => (rd (F := F) m ρ).payload (rCell c t) 0 d) = recvPay m ρ c t := by
  rw [Finset.sdiff_empty, duties_r, bigSep_singleton, payload_r]

end Sched

/-! ## What each device owes, and the order of the waits -/

/-- What one step of device `c` pays: an opening signal, or a transfer's landing. -/
def stepCell (c : Dev nD) : Fin 5 ⊕ Fin 14 → GSem nD τ sig
  | .inl d => barCell (sigE d c)
  | .inr t => rCell (tgt t c) t
def stepAmt : Fin 5 ⊕ Fin 14 → ℕ
  | .inl _ => 1
  | .inr t => amt t

/-- What is owed for the steps still ahead. -/
def owe (c : Dev nD) : List (Fin 5 ⊕ Fin 14) → CellTallies nD τ sig Unit
  | [] => 0
  | s :: l => owe c l + tallyAt (stepCell c s) () (stepAmt s)

/-- The transfers in program order, and the whole list of steps. -/
abbrev sendsL : List (Fin 5 ⊕ Fin 14) :=
  [.inr 0, .inr 1, .inr 2, .inr 3, .inr 4, .inr 5, .inr 6, .inr 7, .inr 8, .inr 9, .inr 10, .inr 11, .inr 12, .inr 13]
abbrev stepsL : List (Fin 5 ⊕ Fin 14) := .inl 0 :: .inl 1 :: .inl 2 :: .inl 3 :: .inl 4 :: sendsL

def O₀ (c : Dev nD) : CellTallies nD τ sig Unit := owe c stepsL

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- A landing's place in the order. -/
def rlev : Fin 14 → ℕ := ![2, 2, 2, 2, 2, 3, 3, 3, 3, 3, 4, 4, 5, 5]
def slev : SemLoc sig → ℕ
  | .reg _ => 1
  | .dma s => match kind s with | some (true, t) => rlev t | _ => 0
def lv (g : GSem nD τ sig) (_ : Unit) : ℕ := slev g.2

def stepLev : Fin 5 ⊕ Fin 14 → ℕ
  | .inl _ => 1
  | .inr t => rlev t
theorem slev_step (c : Dev nD) (s : Fin 5 ⊕ Fin 14) : slev (stepCell c s).2 = stepLev s := by
  rcases s with d | t
  · rfl
  · show slev (.dma (rsem t)) = rlev t
    dsimp only [slev]; rw [kind_r]

theorem owe_pos {c : Dev nD} {l : List (Fin 5 ⊕ Fin 14)} {g : GSem nD τ sig} {u : Unit} (h : 0 < owe c l g u) :
    ∃ s ∈ l, g = stepCell c s := by
  induction l with
  | nil => exact absurd h (Nat.lt_irrefl 0)
  | cons s l ih =>
    unfold owe at h
    rw [Pi.add_apply, Finsupp.add_apply, tallyAt_apply] at h
    by_cases hg : g = stepCell c s
    · exact ⟨s, List.mem_cons_self, hg⟩
    · rw [if_neg (fun h' => hg h'.1)] at h
      obtain ⟨s', hs', e⟩ := ih h
      exact ⟨s', List.mem_cons_of_mem _ hs', e⟩

theorem stepCell_tc (c : Dev nD) (s : Fin 5 ⊕ Fin 14) : (stepCell c s).1.2 = .tc := by rcases s with d | t <;> rfl

/-- A device may wait at a cell that comes before everything it still owes. -/
theorem mayWait_owe (c : Dev nD) (sm : SemLoc sig) (l : List (Fin 5 ⊕ Fin 14)) (h : ∀ s ∈ l, slev sm < stepLev s) :
    (levAts L lv : sProp 𝕄) ⊢ MayWait (c : Thread nD τ) sm () (owe c l) :=
  MayOwe.of_cut (L := L) (lev := lv) (slev sm)
    (fun p hp => by rw [Finset.mem_singleton.mp hp, L_tc]; exact Finset.mem_singleton_self _)
    (fun g u hg => by
      obtain ⟨s, _, rfl⟩ := owe_pos hg
      rw [L, if_pos (stepCell_tc c s)]; exact Finset.mem_singleton_self _)
    (fun p hp => by rw [Finset.mem_singleton.mp hp]; exact le_refl _)
    (fun g u hg => by
      obtain ⟨s, hs, rfl⟩ := owe_pos hg
      show slev sm < slev (stepCell c s).2
      rw [slev_step]; exact h s hs)

end Cert.KernelProof

end
-- ==== Proof.Steps.lean ====
/-
One rule per kind of step the kernel takes: an opening signal, the opening wait, a transfer, and the wait at either
end of a transfer. Each is stated for the step's own number, with what the step pays and what it brings back.
-/
module

public import proofs.«01_k».proof.Proof.Protocol

@[expose] public section

set_option maxRecDepth 16384

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)
variable (K : Dev nD × Fin 29 → ℕ)

/-- What every device may use throughout: every cell's invariant, every cell at its round, the order of the waits. -/
def glb : sProp 𝕄 :=
  iprop((bigSep Finset.univ fun ck : Dev nD × Fin 29 => cellInv ER (rd m ρ) (K ck) (kcell ck))
    ∗ (bigSep Finset.univ fun ck : Dev nD × Fin 29 => reached ER (kcell ck) 0) ∗ levAts L lv)

instance glb_persistent : BI.Persistent (glb (F := F) m ρ K) := by unfold glb; infer_instance

theorem inv_all (ck : Dev nD × Fin 29) :
    (bigSep Finset.univ fun ck : Dev nD × Fin 29 => (cellInv ER (rd m ρ) (K ck) (kcell ck) : sProp 𝕄)) ⊢ cellInv ER (rd m ρ) (K ck) (kcell ck) :=
  bigSep_elim (Finset.mem_univ ck)
theorem reached_all (ck : Dev nD × Fin 29) :
    (bigSep Finset.univ fun ck : Dev nD × Fin 29 => (reached ER (kcell ck) 0 : sProp 𝕄)) ⊢ reached ER (kcell ck) 0 :=
  bigSep_elim (Finset.mem_univ ck)
theorem inv_at (ck : Dev nD × Fin 29) : (glb m ρ K : sProp 𝕄) ⊢ cellInv ER (rd m ρ) (K ck) (kcell ck) := by
  unfold glb; iintro ⟨H, -, -⟩; iapply (inv_all m ρ K ck); iexact H
theorem reached_at (ck : Dev nD × Fin 29) : (glb m ρ K : sProp 𝕄) ⊢ reached ER (kcell ck) 0 := by
  unfold glb; iintro ⟨-, H, -⟩; iapply (reached_all (F := F) ck); iexact H

theorem inv_bar (c : Dev nD) : (glb m ρ K : sProp 𝕄) ⊢ cellInv ER (rd m ρ) (K (c, 0)) (barCell c) := by
  rw [← kcell_b c]; exact inv_at m ρ K (c, 0)
theorem inv_s (c : Dev nD) (t : Fin 14) : (glb m ρ K : sProp 𝕄) ⊢ cellInv ER (rd m ρ) (K (c, sIx t)) (sCell c t) := by
  rw [← kcell_s c t]; exact inv_at m ρ K (c, sIx t)
theorem inv_r (c : Dev nD) (t : Fin 14) : (glb m ρ K : sProp 𝕄) ⊢ cellInv ER (rd m ρ) (K (c, rIx t)) (rCell c t) := by
  rw [← kcell_r c t]; exact inv_at m ρ K (c, rIx t)
theorem reached_bar (c : Dev nD) : (glb m ρ K : sProp 𝕄) ⊢ reached ER (barCell c) 0 := by
  rw [← kcell_b c]; exact reached_at m ρ K (c, 0)
theorem reached_s (c : Dev nD) (t : Fin 14) : (glb m ρ K : sProp 𝕄) ⊢ reached ER (sCell c t) 0 := by
  rw [← kcell_s c t]; exact reached_at m ρ K (c, sIx t)
theorem reached_r (c : Dev nD) (t : Fin 14) : (glb m ρ K : sProp 𝕄) ⊢ reached ER (rCell c t) 0 := by
  rw [← kcell_r c t]; exact reached_at m ρ K (c, rIx t)
theorem glb_lev : (glb m ρ K : sProp 𝕄) ⊢ levAts L lv := by unfold glb; iintro ⟨-, -, H⟩; iexact H

/-- What device `c` owes, whatever it has waited for so far. -/
def ow (c : Dev nD) (l : List (Fin 5 ⊕ Fin 14)) : sProp 𝕄 := iprop(∃ W, owes (c : Thread nD τ) (owe c l) W)

/-- The two duties transfer `t` pays. -/
def xtok (c : Dev nD) (t : Fin 14) : sProp 𝕄 := iprop(dutyTok ER (sCell c t) 0 (0 : Fin 5) ∗ dutyTok ER (rCell (tgt t c) t) 0 (0 : Fin 5))
/-- Transfer `t` on its way: the credit its own wait spends. -/
def scred (c : Dev nD) (t : Fin 14) : sProp 𝕄 := cred (tallyAt (sCell c t) () (amt t))
def rcred (c : Dev nD) (t : Fin 14) : sProp 𝕄 := cred (tallyAt (rCell c t) () (amt t))
def spos (c : Dev nD) (t : Fin 14) : sProp 𝕄 := atPos ER (sCell c t) 0 (∅ : Finset (Fin 5)) 0
def rpos (c : Dev nD) (t : Fin 14) : sProp 𝕄 := atPos ER (rCell c t) 0 (∅ : Finset (Fin 5)) 0

variable {α : Type} {Q : α → sProp (MT nD τ sig Unit (Elt F) ℕ UU ℕ)}

/-- The `d`-th opening signal: the landing buffers kept for the device it reaches go with it. -/
theorem wp_sig (c n : Dev nD) (d : Fin 5) (hn : n = sigE d c) (l : List (Fin 5 ⊕ Fin 14)) {k' : ℤ} (hk : k' = ((1 : ℕ) : ℤ))
    {k : PUnit → Prog (TpuEff nD τ sig (Elt F) Λ₀ .tc) α} :
    iprop(glb m ρ K ∗ ow c (.inl d :: l) ∗ dutyTok ER (barCell (sigE d c)) 0 d ∗ lend c d)
      ⊢ iprop((ow c l -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS k') k) Q) := by
  subst hn hk
  unfold ow
  iintro ⟨#HG, ⟨%W, HO⟩, Ht, Hl⟩ Hk
  iapply (Rounds.wp_signal 𝒱₀ ER (rd m ρ) (c : Thread nD τ) none (dst := (sigE d c : Thread nD τ)) (κ := K (sigE d c, 0))
      (d := d) (by rw [duties_bar]; exact Finset.mem_univ _) (amount_bar m ρ (sigE d c) d) () (owe c l) rfl (W := W)) $$ [HO Ht Hl]
  · isplitr; · iapply (inv_bar m ρ K); iexact HG
    isplitl [HO]; · iexact HO
    isplitl [Ht]; · iexact Ht
    isplitl [Hl]
    · rw [payload_bar]; unfold barPay; rw [Equiv.symm_apply_apply]; iexact Hl
    · iapply (reached_bar m ρ K); iexact HG
  iintro HO
  iapply Hk
  iexists W; iexact HO

/-- The opening wait: everybody's landing buffers for this device, and its barrier cell closed. -/
theorem wp_wbar (c : Dev nD) (l : List (Fin 5 ⊕ Fin 14)) (hl : ∀ s ∈ l, 1 < stepLev s) {k' : ℤ} (hk : k' = ((5 : ℕ) : ℤ))
    {k : PUnit → Prog (TpuEff nD τ sig (Elt F) Λ₀ .tc) α} :
    iprop(glb m ρ K ∗ cred (tallyAt (barCell c) () 5) ∗ ow c l ∗ atPos ER (barCell c) 0 ∅ 0)
      ⊢ iprop(((ow c l ∗ semVal (barCell c) 0 ∗ barPay c 0 ∗ barPay c 1 ∗ barPay c 2 ∗ barPay c 3 ∗ barPay c 4)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk
  unfold ow
  iintro ⟨#HG, Hc, ⟨%W, HO⟩, Ha⟩ Hk
  iapply (Rounds.wp_wait_rest_token 𝒱₀ ER (rd m ρ) (c : Thread nD τ) none (κ := K (c, 0))
      (wpE_semWait_eq 𝒱₀ (c : Thread nD τ) none Set.univ) (Set.mem_univ _) () (O := owe c l) (W := W) (R := 0) (m := 0) (T := ∅)
      (by rw [expect_bar])) $$ [Hc HO Ha]
  · isplitr; · iapply (inv_bar m ρ K); iexact HG
    isplitl [Hc]; · iexact Hc
    isplitl [HO]; · iexact HO
    isplitr; · iapply (mayWait_owe c (.reg barS) l hl); iapply (glb_lev m ρ K); iexact HG
    iexact Ha
  iintro ⟨HO, Ha, -, Hpay⟩
  ihave Hp := (Entails.of_eq (rest_bar m ρ c)) $$ Hpay
  imod (Rounds.cell_close ER (rd m ρ) (Set.mem_univ (K (c, 0))) (fun h => h) (R := 0 + 1) (duties_later m ρ (barCell c))) $$ [Ha] with Hz
  · isplitr; · iapply (inv_bar m ρ K); iexact HG
    iexact Ha
  iapply Hk
  isplitl [HO]; · iexists _; iexact HO
  isplitl [Hz]; · iexact Hz
  iexact Hp

/-- Transfer `t`: its source at the sender is lent, its landing buffer at the receiver filled. -/
theorem wp_xfer (c n : Dev nD) (t : Fin 14) (hn : n = tgt t c) (l : List (Fin 5 ⊕ Fin 14))
    {e : EltTy} (src dst : Memref sig .tc .vmem S256x1024 e) {sS sR : DmaSem sig} (hS : sS = ssem t) (hR : sR = rsem t)
    (q : PosShare TreeShare) (X : S256x1024.Idx → Elt F e)
    (h₁ : at' c src q X = sendPay m ρ c t) (h₂ : at' (tgt t c) dst fullShare X = recvPay m ρ (tgt t c) t)
    (hN : dst.view.dmaCredit = amt t)
    {hsc : dst.view.ref.isScScratch = false}
    {hsrc : src.view.WordExact} {hdst : dst.view.WordExact}
    {hsem : DmaTarget.Typed .vmem (.dma sR) (.remote (Dev.tc n : Thread nD τ) dst (.dma sS) hsc)}
    {k : PUnit → Prog (TpuEff nD τ sig (Elt F) Λ₀ .tc) α} :
    iprop(glb m ρ K ∗ at' c src q X ∗ free (tgt t c) dst ∗ ow c (.inr t :: l) ∗ xtok c t)
      ⊢ iprop(((scred c t ∗ ow c l) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k) Q) := by
  subst hn hS hR
  unfold ow xtok scred
  iintro ⟨#HG, Hs, ⟨%Y, Hd⟩, ⟨%W, HO⟩, Ht1, Ht2⟩ Hk
  have e₁ := h₁
  have e₂ := h₂
  unfold at' owns at e₁ e₂
  ihave Hs' := (show (at' c src q X : sProp 𝕄) ⊢ iprop(∃ f, ⌜src.view.read (Elt F) f = X⌝ ∗ (src.view.loc (c : Thread nD τ) ↦[src.view.set]{q} f)) from .rfl) $$ Hs
  icases Hs' with ⟨%fs, %hfs, Hs⟩
  ihave Hd' := (show (at' (tgt t c) dst fullShare Y : sProp 𝕄) ⊢ iprop(∃ f, ⌜dst.view.read (Elt F) f = Y⌝ ∗ (dst.view.loc (tgt t c : Thread nD τ) ↦[dst.view.set]{fullShare} f)) from .rfl) $$ Hd
  icases Hd' with ⟨%fd, -, Hd⟩
  iapply (Rounds.wp_send_pointsTo 𝒱₀ ER (rd m ρ) (c : Thread nD τ) none (κ₁ := K (c, sIx t)) (κ₂ := K (tgt t c, rIx t))
    (c' := (tgt t c : Thread nD τ)) (src := src) (dst := dst)
    (r₁ := 0) (r₂ := 0) (d₁ := (0 : Fin 5)) (d₂ := (0 : Fin 5)) (q := q) (fs := fs) (fd := fd)
    (by rw [duties_s]; exact Finset.mem_singleton_self _) (by rw [duties_r]; exact Finset.mem_singleton_self _)
    () () (amt t) (show dst.view.amount (.dma (rsem t)) = amt t from hN) (amount_s m ρ c t 0) (amount_r m ρ (tgt t c) t 0) (owe c l) rfl (W := W)
    (by
      rw [payload_s, ← e₁]
      iintro H; iexists fs; isplitr; · ipureintro; exact hfs
      iexact H)
    (by
      rw [payload_r, ← e₂]
      iintro H; iexists (dst.view.write (Elt F) fd (src.view.read (Elt F) fs) Finset.univ); isplitr
      · ipureintro; exact (View.read_write_univ (v := dst.view) fd (src.view.read (Elt F) fs)).trans hfs
      iexact H)) $$ [Hs Hd HO Ht1 Ht2]
  · isplitr; · iapply (inv_s m ρ K); iexact HG
    isplitr; · iapply (inv_r m ρ K); iexact HG
    isplitl [Hs]; · iexact Hs
    isplitl [Hd]; · iexact Hd
    isplitl [HO]; · iexact HO
    isplitl [Ht1]; · iexact Ht1
    isplitr; · iapply (reached_s m ρ K); iexact HG
    isplitl [Ht2]; · iexact Ht2
    iapply (reached_r m ρ K); iexact HG
  iintro ⟨Hc, HO⟩
  iapply Hk
  isplitl [Hc]; · iexact Hc
  iexists W; iexact HO

/-- The wait at the sending end of transfer `t`: the source comes back, the cell is closed. -/
theorem wp_ws (c : Dev nD) (t : Fin 14) (l : List (Fin 5 ⊕ Fin 14)) (hl : ∀ s ∈ l, slev (.dma (ssem t)) < stepLev s)
    {e : EltTy} {src dst : Memref sig .tc .vmem S256x1024 e} {sS : DmaSem sig} (hS : sS = ssem t)
    (hN : dst.view.dmaCredit = amt t)
    {hsrc : src.view.WordExact} {hdst : dst.view.WordExact}
    {k : PUnit → Prog (TpuEff nD τ sig (Elt F) Λ₀ .tc) α} :
    iprop(glb m ρ K ∗ scred c t ∗ ow c l ∗ spos c t)
      ⊢ iprop(((ow c l ∗ semVal (sCell c t) 0 ∗ sendPay m ρ c t)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sS src dst hsrc hdst) k) Q) := by
  subst hS
  unfold ow scred spos
  iintro ⟨#HG, Hc, ⟨%W, HO⟩, Ha⟩ Hk
  rw [← hN]
  iapply (Rounds.wp_wait_rest_token 𝒱₀ ER (rd m ρ) (c : Thread nD τ) none (κ := K (c, sIx t))
      (wpE_waitDma2_eq 𝒱₀ (c : Thread nD τ) none Set.univ) (Set.mem_univ _) () (O := owe c l) (W := W) (R := 0) (m := 0) (T := ∅)
      (by rw [expect_s, Nat.zero_add]; exact hN)) $$ [Hc HO Ha]
  · isplitr; · iapply (inv_s m ρ K); iexact HG
    isplitl [Hc]; · iexact Hc
    isplitl [HO]; · iexact HO
    isplitr; · iapply (mayWait_owe c (.dma (ssem t)) l hl); iapply (glb_lev m ρ K); iexact HG
    iexact Ha
  iintro ⟨HO, Ha, -, Hpay⟩
  ihave Hp := (Entails.of_eq (rest_s m ρ c t)) $$ Hpay
  imod (Rounds.cell_close ER (rd m ρ) (Set.mem_univ (K (c, sIx t))) (fun h => h) (R := 0 + 1) (duties_later m ρ (sCell c t))) $$ [Ha] with Hz
  · isplitr; · iapply (inv_s m ρ K); iexact HG
    iexact Ha
  iapply Hk
  isplitl [HO]; · iexists _; iexact HO
  isplitl [Hz]; · iexact Hz
  iexact Hp

/-- The wait at the receiving end: the landing buffer, filled. -/
theorem wp_wr (c : Dev nD) (t : Fin 14) (l : List (Fin 5 ⊕ Fin 14)) (hl : ∀ s ∈ l, slev (.dma (rsem t)) < stepLev s)
    {e : EltTy} {src dst : Memref sig .tc .vmem S256x1024 e} {sR : DmaSem sig} (hR : sR = rsem t)
    (hN : dst.view.dmaCredit = amt t)
    {hsrc : src.view.WordExact} {hdst : dst.view.WordExact}
    {k : PUnit → Prog (TpuEff nD τ sig (Elt F) Λ₀ .tc) α} :
    iprop(glb m ρ K ∗ rcred c t ∗ ow c l ∗ rpos c t)
      ⊢ iprop(((ow c l ∗ semVal (rCell c t) 0 ∗ recvPay m ρ c t)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sR src dst hsrc hdst) k) Q) := by
  subst hR
  unfold ow rcred rpos
  iintro ⟨#HG, Hc, ⟨%W, HO⟩, Ha⟩ Hk
  rw [← hN]
  iapply (Rounds.wp_wait_rest_token 𝒱₀ ER (rd m ρ) (c : Thread nD τ) none (κ := K (c, rIx t))
      (wpE_waitDma2_eq 𝒱₀ (c : Thread nD τ) none Set.univ) (Set.mem_univ _) () (O := owe c l) (W := W) (R := 0) (m := 0) (T := ∅)
      (by rw [expect_r, Nat.zero_add]; exact hN)) $$ [Hc HO Ha]
  · isplitr; · iapply (inv_r m ρ K); iexact HG
    isplitl [Hc]; · iexact Hc
    isplitl [HO]; · iexact HO
    isplitr; · iapply (mayWait_owe c (.dma (rsem t)) l hl); iapply (glb_lev m ρ K); iexact HG
    iexact Ha
  iintro ⟨HO, Ha, -, Hpay⟩
  ihave Hp := (Entails.of_eq (rest_r m ρ c t)) $$ Hpay
  imod (Rounds.cell_close ER (rd m ρ) (Set.mem_univ (K (c, rIx t))) (fun h => h) (R := 0 + 1) (duties_later m ρ (rCell c t))) $$ [Ha] with Hz
  · isplitr; · iapply (inv_r m ρ K); iexact HG
    iexact Ha
  iapply Hk
  isplitl [HO]; · iexists _; iexact HO
  isplitl [Hz]; · iexact Hz
  iexact Hp

/-! ## Whole buffers -/

abbrev inM0 : Memref sig .tc .vmem S1x256x1024 .bf16 := Memref.whole cc0_stg0_0
abbrev inM1 : Memref sig .tc .vmem S1024x1024 .bf16 := Memref.whole cc0_stg1_0
abbrev inM2 : Memref sig .tc .vmem S1024x1024 .bf16 := Memref.whole cc0_stg2_0
abbrev inM3 : Memref sig .tc .vmem S1024x1024 .bf16 := Memref.whole cc0_stg3_0
abbrev inM4 : Memref sig .tc .vmem S1024x1024 .bf16 := Memref.whole cc0_stg4_0
abbrev outM : Memref sig .tc .vmem S1x256x1024 .f32 := Memref.whole cc0_stg5_0

/-- A whole buffer of device `c` at given contents, and at some. -/
abbrev atS (c : Dev nD) {s : Shape} {e : EltTy} (M : Memref sig .tc .vmem s e) (X : s.Idx → Elt F e) : sProp 𝕄 :=
  owns (Ix := Unit) (Name := ℕ) (U := UU) (Lvl := ℕ) (c : Thread nD τ) M fullShare X
abbrev freeS (c : Dev nD) {s : Shape} {e : EltTy} (M : Memref sig .tc .vmem s e) : sProp 𝕄 :=
  iprop(∃ X : s.Idx → Elt F e, atS c M X)

theorem hz2 : (![0, 0] : Fin 2 → Nat) = fun _ => 0 := funext fun a => by fin_cases a <;> rfl
theorem hz3 : (![0, 0, 0] : Fin 3 → Nat) = fun _ => 0 := funext fun a => by fin_cases a <;> rfl
theorem rd_inM0 (f : (cc0_stg0_0 : Ref sig .tc).ty.Contents (Elt F)) : (inM0).view.readAt (Elt F) (Rect.unit (s := S1x256x1024) ![0, 0, 0] S1x256x1024.size inb_S1x256x1024_S1x256x1024_0_0_0).toLoadRect f = (inM0).view.read (Elt F) f :=
  Memref.readAt_unit_zero (Elt F) cc0_stg0_0 hz3 _ f
theorem rd_inM1 (f : (cc0_stg1_0 : Ref sig .tc).ty.Contents (Elt F)) : (inM1).view.readAt (Elt F) (Rect.unit (s := S1024x1024) ![0, 0] S1024x1024.size inb_S1024x1024_S1024x1024_0_0).toLoadRect f = (inM1).view.read (Elt F) f :=
  Memref.readAt_unit_zero (Elt F) cc0_stg1_0 hz2 _ f
theorem rd_inM2 (f : (cc0_stg2_0 : Ref sig .tc).ty.Contents (Elt F)) : (inM2).view.readAt (Elt F) (Rect.unit (s := S1024x1024) ![0, 0] S1024x1024.size inb_S1024x1024_S1024x1024_0_0).toLoadRect f = (inM2).view.read (Elt F) f :=
  Memref.readAt_unit_zero (Elt F) cc0_stg2_0 hz2 _ f
theorem rd_inM3 (f : (cc0_stg3_0 : Ref sig .tc).ty.Contents (Elt F)) : (inM3).view.readAt (Elt F) (Rect.unit (s := S1024x1024) ![0, 0] S1024x1024.size inb_S1024x1024_S1024x1024_0_0).toLoadRect f = (inM3).view.read (Elt F) f :=
  Memref.readAt_unit_zero (Elt F) cc0_stg3_0 hz2 _ f
theorem rd_inM4 (f : (cc0_stg4_0 : Ref sig .tc).ty.Contents (Elt F)) : (inM4).view.readAt (Elt F) (Rect.unit (s := S1024x1024) ![0, 0] S1024x1024.size inb_S1024x1024_S1024x1024_0_0).toLoadRect f = (inM4).view.read (Elt F) f :=
  Memref.readAt_unit_zero (Elt F) cc0_stg4_0 hz2 _ f
theorem rd_outM (f : (cc0_stg5_0 : Ref sig .tc).ty.Contents (Elt F)) : (outM).view.readAt (Elt F) (Rect.unit (s := S1x256x1024) ![0, 0, 0] S1x256x1024.size inb_S1x256x1024_S1x256x1024_0_0_0).toLoadRect f = (outM).view.read (Elt F) f :=
  Memref.readAt_unit_zero (Elt F) cc0_stg5_0 hz3 _ f
theorem rd_xdrM (f : (cc0_scratch2 : Ref sig .tc).ty.Contents (Elt F)) : (xdrM).view.readAt (Elt F) (Rect.unit (s := S256x1024) ![0, 0] S256x1024.size inb_S256x1024_S256x1024_0_0).toLoadRect f = (xdrM).view.read (Elt F) f :=
  Memref.readAt_unit_zero (Elt F) cc0_scratch2 hz2 _ f
theorem rd_xdlM (f : (cc0_scratch3 : Ref sig .tc).ty.Contents (Elt F)) : (xdlM).view.readAt (Elt F) (Rect.unit (s := S256x1024) ![0, 0] S256x1024.size inb_S256x1024_S256x1024_0_0).toLoadRect f = (xdlM).view.read (Elt F) f :=
  Memref.readAt_unit_zero (Elt F) cc0_scratch3 hz2 _ f
theorem rd_xzM (f : (cc0_scratch4 : Ref sig .tc).ty.Contents (Elt F)) : (xzM).view.readAt (Elt F) (Rect.unit (s := S256x1024) ![0, 0] S256x1024.size inb_S256x1024_S256x1024_0_0).toLoadRect f = (xzM).view.read (Elt F) f :=
  Memref.readAt_unit_zero (Elt F) cc0_scratch4 hz2 _ f
theorem rd_zrM (f : (cc0_scratch8 : Ref sig .tc).ty.Contents (Elt F)) : (zrM).view.readAt (Elt F) (Rect.unit (s := S256x1024) ![0, 0] S256x1024.size inb_S256x1024_S256x1024_0_0).toLoadRect f = (zrM).view.read (Elt F) f :=
  Memref.readAt_unit_zero (Elt F) cc0_scratch8 hz2 _ f
theorem wr_outM (f w : (cc0_stg5_0 : Ref sig .tc).ty.Contents (Elt F)) :
    (outM).view.read (Elt F) (((outM).access (Rect.unit (s := S1x256x1024) ![0, 0, 0] S1x256x1024.size inb_S1x256x1024_S1x256x1024_0_0_0) : View sig .tc _ _ _).write (Elt F) f w Finset.univ) = w := by
  have h := Memref.write_access_unit_zero_univ (Elt F) cc0_stg5_0 hz3 inb_S1x256x1024_S1x256x1024_0_0_0 f w
  exact (View.read_whole (Val := Elt F) cc0_stg5_0 _).trans h

end Cert.KernelProof

end
-- ==== Proof.Addr.lean ====
/-
The kernel's windows of statements, one rule each: what it needs, and what it leaves.
-/
module

public import proofs.«01_k».proof.Proof.Steps

@[expose] public section

set_option maxRecDepth 16384

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)

/-! ## Where the kernel's addresses point -/

theorem dev1_eq (c : Dev nD) : (⟨k0_dev1 c, k0_dev1_lt c⟩ : Dev nD) = sigE 0 c := by revert c; decide
theorem dev2_eq (c : Dev nD) : (⟨k0_dev2 c, k0_dev2_lt c⟩ : Dev nD) = sigE 1 c := by revert c; decide
theorem dev3_eq (c : Dev nD) : (⟨k0_dev3 c, k0_dev3_lt c⟩ : Dev nD) = sigE 2 c := by revert c; decide
theorem dev4_eq (c : Dev nD) : (⟨k0_dev4 c, k0_dev4_lt c⟩ : Dev nD) = sigE 3 c := by revert c; decide
theorem dev5_eq (c : Dev nD) : (⟨k0_dev5 c, k0_dev5_lt c⟩ : Dev nD) = sigE 4 c := by revert c; decide
theorem dev6_eq (c : Dev nD) : (⟨k0_dev6 c, k0_dev6_lt c⟩ : Dev nD) = tgt 0 c := by revert c; decide
theorem dev7_eq (c : Dev nD) : (⟨k0_dev7 c, k0_dev7_lt c⟩ : Dev nD) = tgt 1 c := by revert c; decide
theorem dev8_eq (c : Dev nD) : (⟨k0_dev8 c, k0_dev8_lt c⟩ : Dev nD) = tgt 2 c := by revert c; decide
theorem dev9_eq (c : Dev nD) : (⟨k0_dev9 c, k0_dev9_lt c⟩ : Dev nD) = tgt 3 c := by revert c; decide
theorem dev10_eq (c : Dev nD) : (⟨k0_dev10 c, k0_dev10_lt c⟩ : Dev nD) = tgt 4 c := by revert c; decide
theorem dev11_eq (c : Dev nD) : (⟨k0_dev11 c, k0_dev11_lt c⟩ : Dev nD) = tgt 5 c := by revert c; decide
theorem dev12_eq (c : Dev nD) : (⟨k0_dev12 c, k0_dev12_lt c⟩ : Dev nD) = tgt 6 c := by revert c; decide
theorem dev13_eq (c : Dev nD) : (⟨k0_dev13 c, k0_dev13_lt c⟩ : Dev nD) = tgt 7 c := by revert c; decide
theorem dev14_eq (c : Dev nD) : (⟨k0_dev14 c, k0_dev14_lt c⟩ : Dev nD) = tgt 8 c := by revert c; decide
theorem dev15_eq (c : Dev nD) : (⟨k0_dev15 c, k0_dev15_lt c⟩ : Dev nD) = tgt 9 c := by revert c; decide
theorem dev16_eq (c : Dev nD) : (⟨k0_dev16 c, k0_dev16_lt c⟩ : Dev nD) = tgt 10 c := by revert c; decide
theorem dev17_eq (c : Dev nD) : (⟨k0_dev17 c, k0_dev17_lt c⟩ : Dev nD) = tgt 11 c := by revert c; decide
theorem dev18_eq (c : Dev nD) : (⟨k0_dev18 c, k0_dev18_lt c⟩ : Dev nD) = tgt 12 c := by revert c; decide
theorem dev19_eq (c : Dev nD) : (⟨k0_dev19 c, k0_dev19_lt c⟩ : Dev nD) = tgt 13 c := by revert c; decide

theorem sem23_0 : (((cc0_scratch17 : DmaSems sig S1).slice (Rect.unit (s := S1) ![0] S1.size inb_S1_S1_0)).squeeze S_ squeezes_S1_S_).sem = ssem 0 := by decide
theorem sem24_0 : (((cc0_scratch18 : DmaSems sig S1).slice (Rect.unit (s := S1) ![0] S1.size inb_S1_S1_0)).squeeze S_ squeezes_S1_S_).sem = rsem 0 := by decide
theorem sem19_0 : (((cc0_scratch13 : DmaSems sig S1).slice (Rect.unit (s := S1) ![0] S1.size inb_S1_S1_0)).squeeze S_ squeezes_S1_S_).sem = ssem 1 := by decide
theorem sem20_0 : (((cc0_scratch14 : DmaSems sig S1).slice (Rect.unit (s := S1) ![0] S1.size inb_S1_S1_0)).squeeze S_ squeezes_S1_S_).sem = rsem 1 := by decide
theorem sem21_0 : (((cc0_scratch15 : DmaSems sig S1).slice (Rect.unit (s := S1) ![0] S1.size inb_S1_S1_0)).squeeze S_ squeezes_S1_S_).sem = ssem 2 := by decide
theorem sem22_0 : (((cc0_scratch16 : DmaSems sig S1).slice (Rect.unit (s := S1) ![0] S1.size inb_S1_S1_0)).squeeze S_ squeezes_S1_S_).sem = rsem 2 := by decide
theorem sem15_0 : (((cc0_scratch9 : DmaSems sig S2).slice (Rect.unit (s := S2) ![0] S1.size inb_S2_S1_0)).squeeze S_ squeezes_S1_S_).sem = ssem 3 := by decide
theorem sem16_0 : (((cc0_scratch10 : DmaSems sig S2).slice (Rect.unit (s := S2) ![0] S1.size inb_S2_S1_0)).squeeze S_ squeezes_S1_S_).sem = rsem 3 := by decide
theorem sem17_0 : (((cc0_scratch11 : DmaSems sig S2).slice (Rect.unit (s := S2) ![0] S1.size inb_S2_S1_0)).squeeze S_ squeezes_S1_S_).sem = ssem 4 := by decide
theorem sem18_0 : (((cc0_scratch12 : DmaSems sig S2).slice (Rect.unit (s := S2) ![0] S1.size inb_S2_S1_0)).squeeze S_ squeezes_S1_S_).sem = rsem 4 := by decide
theorem sem29_0 : (((cc0_scratch23 : DmaSems sig S1).slice (Rect.unit (s := S1) ![0] S1.size inb_S1_S1_0)).squeeze S_ squeezes_S1_S_).sem = ssem 5 := by decide
theorem sem30_0 : (((cc0_scratch24 : DmaSems sig S1).slice (Rect.unit (s := S1) ![0] S1.size inb_S1_S1_0)).squeeze S_ squeezes_S1_S_).sem = rsem 5 := by decide
theorem sem15_1 : (((cc0_scratch9 : DmaSems sig S2).slice (Rect.unit (s := S2) ![1] S1.size inb_S2_S1_1)).squeeze S_ squeezes_S1_S_).sem = ssem 6 := by decide
theorem sem16_1 : (((cc0_scratch10 : DmaSems sig S2).slice (Rect.unit (s := S2) ![1] S1.size inb_S2_S1_1)).squeeze S_ squeezes_S1_S_).sem = rsem 6 := by decide
theorem sem17_1 : (((cc0_scratch11 : DmaSems sig S2).slice (Rect.unit (s := S2) ![1] S1.size inb_S2_S1_1)).squeeze S_ squeezes_S1_S_).sem = ssem 7 := by decide
theorem sem18_1 : (((cc0_scratch12 : DmaSems sig S2).slice (Rect.unit (s := S2) ![1] S1.size inb_S2_S1_1)).squeeze S_ squeezes_S1_S_).sem = rsem 7 := by decide
theorem sem27_0 : (((cc0_scratch21 : DmaSems sig S3).slice (Rect.unit (s := S3) ![0] S1.size inb_S3_S1_0)).squeeze S_ squeezes_S1_S_).sem = ssem 8 := by decide
theorem sem28_0 : (((cc0_scratch22 : DmaSems sig S3).slice (Rect.unit (s := S3) ![0] S1.size inb_S3_S1_0)).squeeze S_ squeezes_S1_S_).sem = rsem 8 := by decide
theorem sem25_0 : (((cc0_scratch19 : DmaSems sig S3).slice (Rect.unit (s := S3) ![0] S1.size inb_S3_S1_0)).squeeze S_ squeezes_S1_S_).sem = ssem 9 := by decide
theorem sem26_0 : (((cc0_scratch20 : DmaSems sig S3).slice (Rect.unit (s := S3) ![0] S1.size inb_S3_S1_0)).squeeze S_ squeezes_S1_S_).sem = rsem 9 := by decide
theorem sem27_1 : (((cc0_scratch21 : DmaSems sig S3).slice (Rect.unit (s := S3) ![1] S1.size inb_S3_S1_1)).squeeze S_ squeezes_S1_S_).sem = ssem 10 := by decide
theorem sem28_1 : (((cc0_scratch22 : DmaSems sig S3).slice (Rect.unit (s := S3) ![1] S1.size inb_S3_S1_1)).squeeze S_ squeezes_S1_S_).sem = rsem 10 := by decide
theorem sem25_1 : (((cc0_scratch19 : DmaSems sig S3).slice (Rect.unit (s := S3) ![1] S1.size inb_S3_S1_1)).squeeze S_ squeezes_S1_S_).sem = ssem 11 := by decide
theorem sem26_1 : (((cc0_scratch20 : DmaSems sig S3).slice (Rect.unit (s := S3) ![1] S1.size inb_S3_S1_1)).squeeze S_ squeezes_S1_S_).sem = rsem 11 := by decide
theorem sem27_2 : (((cc0_scratch21 : DmaSems sig S3).slice (Rect.unit (s := S3) ![2] S1.size inb_S3_S1_2)).squeeze S_ squeezes_S1_S_).sem = ssem 12 := by decide
theorem sem28_2 : (((cc0_scratch22 : DmaSems sig S3).slice (Rect.unit (s := S3) ![2] S1.size inb_S3_S1_2)).squeeze S_ squeezes_S1_S_).sem = rsem 12 := by decide
theorem sem25_2 : (((cc0_scratch19 : DmaSems sig S3).slice (Rect.unit (s := S3) ![2] S1.size inb_S3_S1_2)).squeeze S_ squeezes_S1_S_).sem = ssem 13 := by decide
theorem sem26_2 : (((cc0_scratch20 : DmaSems sig S3).slice (Rect.unit (s := S3) ![2] S1.size inb_S3_S1_2)).squeeze S_ squeezes_S1_S_).sem = rsem 13 := by decide

theorem recv0_eq (c : Dev nD) : at' (tgt 0 c) xzM fullShare (qx m ρ c) = recvPay m ρ (tgt 0 c) 0 := by
  show at' (op c) xzM fullShare (qx m ρ c) = at' (op c) xzM fullShare (qx m ρ (op (op c)))
  rw [op_op]
theorem recv1_eq (c : Dev nD) : at' (tgt 1 c) xdrM fullShare (qx m ρ c) = recvPay m ρ (tgt 1 c) 1 := by
  show at' (p3 c) xdrM fullShare (qx m ρ c) = at' (p3 c) xdrM fullShare (qx m ρ (m3 (p3 c)))
  rw [m3_p3]
theorem recv2_eq (c : Dev nD) : at' (tgt 2 c) xdlM fullShare (qx m ρ c) = recvPay m ρ (tgt 2 c) 2 := by
  show at' (m3 c) xdlM fullShare (qx m ρ c) = at' (m3 c) xdlM fullShare (qx m ρ (p3 (m3 c)))
  rw [p3_m3]
theorem recv3_eq (c : Dev nD) : at' (tgt 3 c) xrM1 fullShare (qx m ρ c) = recvPay m ρ (tgt 3 c) 3 := by
  show at' (rt c) xrM1 fullShare (qx m ρ c) = at' (rt c) xrM1 fullShare (qx m ρ (lf (rt c)))
  rw [lf_rt]
theorem recv4_eq (c : Dev nD) : at' (tgt 4 c) xlM1 fullShare (qx m ρ c) = recvPay m ρ (tgt 4 c) 4 := by
  show at' (lf c) xlM1 fullShare (qx m ρ c) = at' (lf c) xlM1 fullShare (qx m ρ (rt (lf c)))
  rw [rt_lf]
theorem recv5_eq (c : Dev nD) : at' (tgt 5 c) zrM fullShare (oth m ρ c (op c)) = recvPay m ρ (tgt 5 c) 5 := by
  show at' (op c) zrM fullShare (oth m ρ c (op c)) = at' (op c) zrM fullShare (oth m ρ (op (op c)) (op c))
  rw [op_op]
theorem recv6_eq (c : Dev nD) : at' (tgt 6 c) xrM2 fullShare (qx m ρ (lf c)) = recvPay m ρ (tgt 6 c) 6 := by
  show at' (rt c) xrM2 fullShare (qx m ρ (lf c)) = at' (rt c) xrM2 fullShare (qx m ρ (lf (lf (rt c))))
  rw [lf_rt]
theorem recv7_eq (c : Dev nD) : at' (tgt 7 c) xlM2 fullShare (qx m ρ (rt c)) = recvPay m ρ (tgt 7 c) 7 := by
  show at' (lf c) xlM2 fullShare (qx m ρ (rt c)) = at' (lf c) xlM2 fullShare (qx m ρ (rt (rt (lf c))))
  rw [rt_lf]
theorem recv8_eq (c : Dev nD) : at' (tgt 8 c) laM1 fullShare (la0 m ρ c) = recvPay m ρ (tgt 8 c) 8 := by
  show at' (lf c) laM1 fullShare (la0 m ρ c) = at' (lf c) laM1 fullShare (la0 m ρ (rt (lf c)))
  rw [rt_lf]
theorem recv9_eq (c : Dev nD) : at' (tgt 9 c) raM1 fullShare (ra0 m ρ c) = recvPay m ρ (tgt 9 c) 9 := by
  show at' (rt c) raM1 fullShare (ra0 m ρ c) = at' (rt c) raM1 fullShare (ra0 m ρ (lf (rt c)))
  rw [lf_rt]
theorem recv10_eq (c : Dev nD) : at' (tgt 10 c) laM2 fullShare (la1 m ρ c) = recvPay m ρ (tgt 10 c) 10 := by
  show at' (lf c) laM2 fullShare (la1 m ρ c) = at' (lf c) laM2 fullShare (la1 m ρ (rt (lf c)))
  rw [rt_lf]
theorem recv11_eq (c : Dev nD) : at' (tgt 11 c) raM2 fullShare (ra1 m ρ c) = recvPay m ρ (tgt 11 c) 11 := by
  show at' (rt c) raM2 fullShare (ra1 m ρ c) = at' (rt c) raM2 fullShare (ra1 m ρ (lf (rt c)))
  rw [lf_rt]
theorem recv12_eq (c : Dev nD) : at' (tgt 12 c) laM3 fullShare (la2 m ρ c) = recvPay m ρ (tgt 12 c) 12 := by
  show at' (lf c) laM3 fullShare (la2 m ρ c) = at' (lf c) laM3 fullShare (la2 m ρ (rt (lf c)))
  rw [rt_lf]
theorem recv13_eq (c : Dev nD) : at' (tgt 13 c) raM3 fullShare (ra2 m ρ c) = recvPay m ρ (tgt 13 c) 13 := by
  show at' (rt c) raM3 fullShare (ra2 m ρ c) = at' (rt c) raM3 fullShare (ra2 m ρ (lf (rt c)))
  rw [lf_rt]

end Cert.KernelProof

end
-- ==== Proof.PartsA.lean ====
/-
The kernel's windows of statements, one rule each: what it needs, and what it leaves.
-/
module

public import proofs.«01_k».proof.Proof.Addr

@[expose] public section

set_option maxRecDepth 16384

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)
variable (K : Dev nD × Fin 29 → ℕ) {β : Type}

theorem w_part1 (c : Dev nD)
    {kk : (Σ' (d0 : Dev nD) (v2 : BitVec 32) (v13 : BitVec 32) (v24 : BitVec 32), BitVec 32) → Prog (TpuEff nD τ sig (Elt F) Λ₀ .tc) β} {Q : β → sProp (MT nD τ sig Unit (Elt F) ℕ UU ℕ)} :
    iprop(∀ (v2 : BitVec 32) (v13 : BitVec 32) (v24 : BitVec 32) (v35 : BitVec 32), wp frame (wpE (defs₀ (F := F)) 𝒱₀ (c : Thread nD τ) none) Set.univ (kk ⟨c, v2, v13, v24, v35⟩) Q)
      ⊢ wp frame (wpE (defs₀ (F := F)) 𝒱₀ (c : Thread nD τ) none) Set.univ (k0_part1 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24  >>= kk) Q := by
  rw [wp_bind, k0_part1_eq_skeleton]
  unfold k0_part1_skel
  simp only [semSignalWord, semWaitWord, Prog.lift, Prog.bind_op, Prog.bind_ret, Prog.pure_eq_ret, wp_deviceId]
  iintro Hk
  rw [wp_ret]; imodintro
  iapply Hk $$ %_ %_ %_ %_

theorem w_part2 (c : Dev nD) (v2 : BitVec 32) (v13 : BitVec 32) (v24 : BitVec 32) (v35 : BitVec 32)
    {kk : (Σ' (v46 : BitVec 32) (v57 : BitVec 32), Sems sig S_) → Prog (TpuEff nD τ sig (Elt F) Λ₀ .tc) β} {Q : β → sProp (MT nD τ sig Unit (Elt F) ℕ UU ℕ)} :
    iprop(glb m ρ K ∗ ow c [.inl 0, .inl 1, .inl 2, .inl 3, .inl 4, .inr 0, .inr 1, .inr 2, .inr 3, .inr 4, .inr 5, .inr 6, .inr 7, .inr 8, .inr 9, .inr 10, .inr 11, .inr 12, .inr 13] ∗ dutyTok ER (barCell (sigE 0 c)) 0 (0 : Fin 5) ∗ lend c 0 ∗ dutyTok ER (barCell (sigE 1 c)) 0 (1 : Fin 5) ∗ lend c 1 ∗ dutyTok ER (barCell (sigE 2 c)) 0 (2 : Fin 5) ∗ lend c 2)
      ⊢ iprop((∀ (v46 : BitVec 32) (v57 : BitVec 32), (ow c [.inl 3, .inl 4, .inr 0, .inr 1, .inr 2, .inr 3, .inr 4, .inr 5, .inr 6, .inr 7, .inr 8, .inr 9, .inr 10, .inr 11, .inr 12, .inr 13]) -∗ wp frame (wpE (defs₀ (F := F)) 𝒱₀ (c : Thread nD τ) none) Set.univ (kk ⟨v46, v57, (SemArray.scalar (sig.barrier 0 rfl) : Sems sig S_)⟩) Q)
        -∗ wp frame (wpE (defs₀ (F := F)) 𝒱₀ (c : Thread nD τ) none) Set.univ (k0_part2 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 c v2 v13 v24 v35 >>= kk) Q) := by
  rw [wp_bind, k0_part2_eq_skeleton]
  unfold k0_part2_skel
  simp only [semSignalWord, semWaitWord, Prog.lift, Prog.bind_op, Prog.bind_ret, Prog.pure_eq_ret, wp_deviceId]
  iintro ⟨#HG, HO, HB0, HL0, HB1, HL1, HB2, HL2⟩ Hk
  iapply (wp_sig m ρ K c _ 0 (dev1_eq c) [.inl 1, .inl 2, .inl 3, .inl 4, .inr 0, .inr 1, .inr 2, .inr 3, .inr 4, .inr 5, .inr 6, .inr 7, .inr 8, .inr 9, .inr 10, .inr 11, .inr 12, .inr 13] rfl) $$ [HO HB0 HL0]
  · isplitr; · iexact HG
    isplitl [HO]; · iexact HO
    isplitl [HB0]; · iexact HB0
    iexact HL0
  iintro HO
  iapply (wp_sig m ρ K c _ 1 (dev2_eq c) [.inl 2, .inl 3, .inl 4, .inr 0, .inr 1, .inr 2, .inr 3, .inr 4, .inr 5, .inr 6, .inr 7, .inr 8, .inr 9, .inr 10, .inr 11, .inr 12, .inr 13] rfl) $$ [HO HB1 HL1]
  · isplitr; · iexact HG
    isplitl [HO]; · iexact HO
    isplitl [HB1]; · iexact HB1
    iexact HL1
  iintro HO
  iapply (wp_sig m ρ K c _ 2 (dev3_eq c) [.inl 3, .inl 4, .inr 0, .inr 1, .inr 2, .inr 3, .inr 4, .inr 5, .inr 6, .inr 7, .inr 8, .inr 9, .inr 10, .inr 11, .inr 12, .inr 13] rfl) $$ [HO HB2 HL2]
  · isplitr; · iexact HG
    isplitl [HO]; · iexact HO
    isplitl [HB2]; · iexact HB2
    iexact HL2
  iintro HO
  rw [wp_ret]; imodintro
  iapply Hk $$ %_ %_
  iexact HO

theorem w_part3 (c : Dev nD) (v57 : BitVec 32) (hYxrM0 : shapeCast S256x1024 (k0_pay3 (xstg m ρ c)) shapeCasts_S1x256x1024_S256x1024 = qx m ρ c) (hYxlM0 : shapeCast S256x1024 (k0_pay4 (xstg m ρ c)) shapeCasts_S1x256x1024_S256x1024 = qx m ρ c)
    {kk : (FVec F S256x1024 .bf16) → Prog (TpuEff nD τ sig (Elt F) Λ₀ .tc) β} {Q : β → sProp (MT nD τ sig Unit (Elt F) ℕ UU ℕ)} :
    iprop(glb m ρ K ∗ ow c [.inl 3, .inl 4, .inr 0, .inr 1, .inr 2, .inr 3, .inr 4, .inr 5, .inr 6, .inr 7, .inr 8, .inr 9, .inr 10, .inr 11, .inr 12, .inr 13] ∗ dutyTok ER (barCell (sigE 3 c)) 0 (3 : Fin 5) ∗ lend c 3 ∗ dutyTok ER (barCell (sigE 4 c)) 0 (4 : Fin 5) ∗ lend c 4 ∗ cred (tallyAt (barCell c) () 5) ∗ atPos ER (barCell c) 0 (∅ : Finset (Fin 5)) 0 ∗ atS c inM0 (xstg m ρ c) ∗ free c xrM0 ∗ free c xlM0)
      ⊢ iprop(((ow c [.inr 0, .inr 1, .inr 2, .inr 3, .inr 4, .inr 5, .inr 6, .inr 7, .inr 8, .inr 9, .inr 10, .inr 11, .inr 12, .inr 13] ∗ semVal (barCell c) 0 ∗ barPay c 0 ∗ barPay c 1 ∗ barPay c 2 ∗ barPay c 3 ∗ barPay c 4 ∗ atS c inM0 (xstg m ρ c) ∗ at' c xlM0 fullShare (qx m ρ c) ∗ at' c xrM0 q1 (qx m ρ c) ∗ at' c xrM0 q2 (qx m ρ c) ∗ at' c xrM0 q3 (qx m ρ c) ∗ at' c xrM0 q4 (qx m ρ c)) -∗ wp frame (wpE (defs₀ (F := F)) 𝒱₀ (c : Thread nD τ) none) Set.univ (kk (k0_pay1 (xstg m ρ c))) Q)
        -∗ wp frame (wpE (defs₀ (F := F)) 𝒱₀ (c : Thread nD τ) none) Set.univ (k0_part3 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 c v57 (SemArray.scalar (sig.barrier 0 rfl) : Sems sig S_) >>= kk) Q) := by
  rw [wp_bind, k0_part3_eq_skeleton]
  unfold k0_part3_skel
  simp only [semSignalWord, semWaitWord, Prog.lift, Prog.bind_op, Prog.bind_ret, Prog.pure_eq_ret, wp_deviceId]
  iintro ⟨#HG, HO, HB3, HL3, HB4, HL4, HcB, HpB, HinM0, HxrM0, HxlM0⟩ Hk
  iapply (wp_sig m ρ K c _ 3 (dev4_eq c) [.inl 4, .inr 0, .inr 1, .inr 2, .inr 3, .inr 4, .inr 5, .inr 6, .inr 7, .inr 8, .inr 9, .inr 10, .inr 11, .inr 12, .inr 13] rfl) $$ [HO HB3 HL3]
  · isplitr; · iexact HG
    isplitl [HO]; · iexact HO
    isplitl [HB3]; · iexact HB3
    iexact HL3
  iintro HO
  iapply (wp_sig m ρ K c _ 4 (dev5_eq c) [.inr 0, .inr 1, .inr 2, .inr 3, .inr 4, .inr 5, .inr 6, .inr 7, .inr 8, .inr 9, .inr 10, .inr 11, .inr 12, .inr 13] rfl) $$ [HO HB4 HL4]
  · isplitr; · iexact HG
    isplitl [HO]; · iexact HO
    isplitl [HB4]; · iexact HB4
    iexact HL4
  iintro HO
  iapply (wp_wbar m ρ K c [.inr 0, .inr 1, .inr 2, .inr 3, .inr 4, .inr 5, .inr 6, .inr 7, .inr 8, .inr 9, .inr 10, .inr 11, .inr 12, .inr 13] (by decide) rfl) $$ [HO HcB HpB]
  · isplitr; · iexact HG
    isplitl [HcB]; · iexact HcB
    isplitl [HO]; · iexact HO
    iexact HpB
  iintro ⟨HO, HzB, HP0, HP1, HP2, HP3, HP4⟩
  iapply (wp_load_all 𝒱₀ (c : Thread nD τ) none (m := inM0) (View.set_whole _) (rd_inM0)) $$ [HinM0]
  · iexact HinM0
  iintro HinM0
  iapply (wp_load_all 𝒱₀ (c : Thread nD τ) none (m := inM0) (View.set_whole _) (rd_inM0)) $$ [HinM0]
  · iexact HinM0
  iintro HinM0
  icases HxrM0 with ⟨%XxrM0, HxrM0⟩
  iapply (wp_load_row 𝒱₀ (c : Thread nD τ) none (fun _ => rfl) squeezes_S1x256x1024_S256x1024 shapeCasts_S1x256x1024_S256x1024 shapeCasts_S256x1024_S1x256x1024) $$ [HxrM0]
  · iexact HxrM0
  iintro HxrM0
  iapply (wp_store_row 𝒱₀ (c : Thread nD τ) none (fun _ => rfl) squeezes_S1x256x1024_S256x1024 shapeCasts_S1x256x1024_S256x1024) $$ [HxrM0]
  · iexact HxrM0
  iintro HxrM0
  rw [hYxrM0]
  icases HxlM0 with ⟨%XxlM0, HxlM0⟩
  iapply (wp_load_row 𝒱₀ (c : Thread nD τ) none (fun _ => rfl) squeezes_S1x256x1024_S256x1024 shapeCasts_S1x256x1024_S256x1024 shapeCasts_S256x1024_S1x256x1024) $$ [HxlM0]
  · iexact HxlM0
  iintro HxlM0
  iapply (wp_store_row 𝒱₀ (c : Thread nD τ) none (fun _ => rfl) squeezes_S1x256x1024_S256x1024 shapeCasts_S1x256x1024_S256x1024) $$ [HxlM0]
  · iexact HxlM0
  iintro HxlM0
  rw [hYxlM0]
  ihave Hh := (owns_halves (c : Thread nD τ) xrM0 fullShare _).1 $$ HxrM0
  icases Hh with ⟨Hh1, Hh2⟩
  ihave Hh := (owns_halves (c : Thread nD τ) xrM0 fullShare.left _).1 $$ Hh1
  icases Hh with ⟨HxrM0a, HxrM0b⟩
  ihave Hh := (owns_halves (c : Thread nD τ) xrM0 fullShare.right _).1 $$ Hh2
  icases Hh with ⟨HxrM0d, HxrM0e⟩
  rw [wp_ret]; imodintro
  iapply Hk
  isplitl [HO]; · iexact HO
  isplitl [HzB]; · iexact HzB
  isplitl [HP0]; · iexact HP0
  isplitl [HP1]; · iexact HP1
  isplitl [HP2]; · iexact HP2
  isplitl [HP3]; · iexact HP3
  isplitl [HP4]; · iexact HP4
  isplitl [HinM0]; · iexact HinM0
  isplitl [HxlM0]; · iexact HxlM0
  isplitl [HxrM0a]; · iexact HxrM0a
  isplitl [HxrM0b]; · iexact HxrM0b
  isplitl [HxrM0d]; · iexact HxrM0d
  iexact HxrM0e

theorem w_part4 (c : Dev nD) (v24 : BitVec 32) (v35 : BitVec 32) (v46 : BitVec 32)
    {kk : (PUnit) → Prog (TpuEff nD τ sig (Elt F) Λ₀ .tc) β} {Q : β → sProp (MT nD τ sig Unit (Elt F) ℕ UU ℕ)} :
    iprop(glb m ρ K ∗ ow c [.inr 0, .inr 1, .inr 2, .inr 3, .inr 4, .inr 5, .inr 6, .inr 7, .inr 8, .inr 9, .inr 10, .inr 11, .inr 12, .inr 13] ∗ at' c xrM0 q1 (qx m ρ c) ∗ free (tgt 0 c) xzM ∗ xtok c 0 ∗ at' c xrM0 q2 (qx m ρ c) ∗ free (tgt 1 c) xdrM ∗ xtok c 1 ∗ at' c xrM0 q3 (qx m ρ c) ∗ free (tgt 2 c) xdlM ∗ xtok c 2 ∗ at' c xrM0 q4 (qx m ρ c) ∗ free (tgt 3 c) xrM1 ∗ xtok c 3)
      ⊢ iprop(((ow c [.inr 4, .inr 5, .inr 6, .inr 7, .inr 8, .inr 9, .inr 10, .inr 11, .inr 12, .inr 13] ∗ scred c 0 ∗ scred c 1 ∗ scred c 2 ∗ scred c 3) -∗ wp frame (wpE (defs₀ (F := F)) 𝒱₀ (c : Thread nD τ) none) Set.univ (kk ⟨⟩) Q)
        -∗ wp frame (wpE (defs₀ (F := F)) 𝒱₀ (c : Thread nD τ) none) Set.univ (k0_part4 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 c v24 v35 v46 >>= kk) Q) := by
  rw [wp_bind, k0_part4_eq_skeleton]
  unfold k0_part4_skel
  simp only [semSignalWord, semWaitWord, Prog.lift, Prog.bind_op, Prog.bind_ret, Prog.pure_eq_ret, wp_deviceId]
  iintro ⟨#HG, HO, HxrM0a, HF0, HT0, HxrM0b, HF1, HT1, HxrM0d, HF2, HT2, HxrM0e, HF3, HT3⟩ Hk
  iapply (wp_xfer m ρ K c _ 0 (dev6_eq c) [.inr 1, .inr 2, .inr 3, .inr 4, .inr 5, .inr 6, .inr 7, .inr 8, .inr 9, .inr 10, .inr 11, .inr 12, .inr 13] xrM0 xzM sem23_0 sem24_0 q1 (qx m ρ c) rfl (recv0_eq m ρ c) rfl) $$ [HO HxrM0a HF0 HT0]
  · isplitr; · iexact HG
    isplitl [HxrM0a]; · iexact HxrM0a
    isplitl [HF0]; · iexact HF0
    isplitl [HO]; · iexact HO
    iexact HT0
  iintro ⟨HC0, HO⟩
  iapply (wp_xfer m ρ K c _ 1 (dev7_eq c) [.inr 2, .inr 3, .inr 4, .inr 5, .inr 6, .inr 7, .inr 8, .inr 9, .inr 10, .inr 11, .inr 12, .inr 13] xrM0 xdrM sem19_0 sem20_0 q2 (qx m ρ c) rfl (recv1_eq m ρ c) rfl) $$ [HO HxrM0b HF1 HT1]
  · isplitr; · iexact HG
    isplitl [HxrM0b]; · iexact HxrM0b
    isplitl [HF1]; · iexact HF1
    isplitl [HO]; · iexact HO
    iexact HT1
  iintro ⟨HC1, HO⟩
  iapply (wp_xfer m ρ K c _ 2 (dev8_eq c) [.inr 3, .inr 4, .inr 5, .inr 6, .inr 7, .inr 8, .inr 9, .inr 10, .inr 11, .inr 12, .inr 13] xrM0 xdlM sem21_0 sem22_0 q3 (qx m ρ c) rfl (recv2_eq m ρ c) rfl) $$ [HO HxrM0d HF2 HT2]
  · isplitr; · iexact HG
    isplitl [HxrM0d]; · iexact HxrM0d
    isplitl [HF2]; · iexact HF2
    isplitl [HO]; · iexact HO
    iexact HT2
  iintro ⟨HC2, HO⟩
  iapply (wp_xfer m ρ K c _ 3 (dev9_eq c) [.inr 4, .inr 5, .inr 6, .inr 7, .inr 8, .inr 9, .inr 10, .inr 11, .inr 12, .inr 13] xrM0 xrM1 sem15_0 sem16_0 q4 (qx m ρ c) rfl (recv3_eq m ρ c) rfl) $$ [HO HxrM0e HF3 HT3]
  · isplitr; · iexact HG
    isplitl [HxrM0e]; · iexact HxrM0e
    isplitl [HF3]; · iexact HF3
    isplitl [HO]; · iexact HO
    iexact HT3
  iintro ⟨HC3, HO⟩
  rw [wp_ret]; imodintro
  iapply Hk
  isplitl [HO]; · iexact HO
  isplitl [HC0]; · iexact HC0
  isplitl [HC1]; · iexact HC1
  isplitl [HC2]; · iexact HC2
  iexact HC3

theorem w_part5 (c : Dev nD) (v13 : BitVec 32) (v70 : FVec F S256x1024 .bf16)
    {kk : (Σ' (v141 : FVec F S1024x3072 .bf16) (v143 : FVec F S1024x1024 .bf16) (v146 : FVec F S256x1024 .bf16) (v147 : FVec F S256x1024 .bf16) (v148 : FVec F S256x1024 .bf16) (v161 : FVec F S256x128 .bf16), FVec F S256x128 .bf16) → Prog (TpuEff nD τ sig (Elt F) Λ₀ .tc) β} {Q : β → sProp (MT nD τ sig Unit (Elt F) ℕ UU ℕ)} :
    iprop(glb m ρ K ∗ ow c [.inr 4, .inr 5, .inr 6, .inr 7, .inr 8, .inr 9, .inr 10, .inr 11, .inr 12, .inr 13] ∗ at' c xlM0 fullShare (qx m ρ c) ∗ free (tgt 4 c) xlM1 ∗ xtok c 4 ∗ atS c inM1 (qstg m ρ c) ∗ atS c inM3 (kstg m ρ c) ∗ atS c inM4 (vstg m ρ c) ∗ atS c inM2 (ostg m ρ c))
      ⊢ iprop(((ow c [.inr 5, .inr 6, .inr 7, .inr 8, .inr 9, .inr 10, .inr 11, .inr 12, .inr 13] ∗ scred c 4 ∗ atS c inM1 (qstg m ρ c) ∗ atS c inM3 (kstg m ρ c) ∗ atS c inM4 (vstg m ρ c) ∗ atS c inM2 (ostg m ρ c)) -∗ wp frame (wpE (defs₀ (F := F)) 𝒱₀ (c : Thread nD τ) none) Set.univ (kk ⟨k0_pay5 (qstg m ρ c) (kstg m ρ c) (vstg m ρ c), k0_pay6 (ostg m ρ c), k0_pay8 v70 (qstg m ρ c) (kstg m ρ c) (vstg m ρ c), k0_pay9 v70 (qstg m ρ c) (kstg m ρ c) (vstg m ρ c), k0_pay10 v70 (qstg m ρ c) (kstg m ρ c) (vstg m ρ c), k0_pay11 v70 (qstg m ρ c) (kstg m ρ c) (vstg m ρ c), k0_pay12 v70 (qstg m ρ c) (kstg m ρ c) (vstg m ρ c)⟩) Q)
        -∗ wp frame (wpE (defs₀ (F := F)) 𝒱₀ (c : Thread nD τ) none) Set.univ (k0_part5 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 c v13 v70 >>= kk) Q) := by
  rw [wp_bind, k0_part5_eq_skeleton]
  unfold k0_part5_skel
  simp only [semSignalWord, semWaitWord, Prog.lift, Prog.bind_op, Prog.bind_ret, Prog.pure_eq_ret, wp_deviceId]
  iintro ⟨#HG, HO, HxlM0, HF4, HT4, HinM1, HinM3, HinM4, HinM2⟩ Hk
  iapply (wp_xfer m ρ K c _ 4 (dev10_eq c) [.inr 5, .inr 6, .inr 7, .inr 8, .inr 9, .inr 10, .inr 11, .inr 12, .inr 13] xlM0 xlM1 sem17_0 sem18_0 fullShare (qx m ρ c) rfl (recv4_eq m ρ c) rfl) $$ [HO HxlM0 HF4 HT4]
  · isplitr; · iexact HG
    isplitl [HxlM0]; · iexact HxlM0
    isplitl [HF4]; · iexact HF4
    isplitl [HO]; · iexact HO
    iexact HT4
  iintro ⟨HC4, HO⟩
  iapply (wp_load_all 𝒱₀ (c : Thread nD τ) none (m := inM1) (View.set_whole _) (rd_inM1)) $$ [HinM1]
  · iexact HinM1
  iintro HinM1
  iapply (wp_load_all 𝒱₀ (c : Thread nD τ) none (m := inM3) (View.set_whole _) (rd_inM3)) $$ [HinM3]
  · iexact HinM3
  iintro HinM3
  iapply (wp_load_all 𝒱₀ (c : Thread nD τ) none (m := inM4) (View.set_whole _) (rd_inM4)) $$ [HinM4]
  · iexact HinM4
  iintro HinM4
  iapply (wp_load_all 𝒱₀ (c : Thread nD τ) none (m := inM2) (View.set_whole _) (rd_inM2)) $$ [HinM2]
  · iexact HinM2
  iintro HinM2
  rw [wp_ret]; imodintro
  iapply Hk
  isplitl [HO]; · iexact HO
  isplitl [HC4]; · iexact HC4
  isplitl [HinM1]; · iexact HinM1
  isplitl [HinM3]; · iexact HinM3
  isplitl [HinM4]; · iexact HinM4
  iexact HinM2

theorem w_part6 (c : Dev nD) (v146 : FVec F S256x1024 .bf16) (v147 : FVec F S256x1024 .bf16) (v148 : FVec F S256x1024 .bf16) (v162 : FVec F S256x128 .bf16)
    {kk : (Σ' (v174 : FVec F S256x128 .bf16) (v187 : FVec F S256x128 .bf16) (v200 : FVec F S256x128 .bf16) (v209 : FVec F S256x1 .f32), FVec F S256x128 .f32) → Prog (TpuEff nD τ sig (Elt F) Λ₀ .tc) β} {Q : β → sProp (MT nD τ sig Unit (Elt F) ℕ UU ℕ)} :
    (wp frame (wpE (defs₀ (F := F)) 𝒱₀ (c : Thread nD τ) none) Set.univ (kk ⟨k0_pay13 v147 v148 v162, k0_pay14 v146 v147 v148, k0_pay15 v146 v147 v148, k0_pay17 v146 v147, k0_pay18 v146 v147 v148⟩) Q : sProp 𝕄)
      ⊢ wp frame (wpE (defs₀ (F := F)) 𝒱₀ (c : Thread nD τ) none) Set.univ (k0_part6 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 v146 v147 v148 v162 >>= kk) Q := by
  rw [wp_bind, k0_part6_eq_skeleton]
  unfold k0_part6_skel
  simp only [semSignalWord, semWaitWord, Prog.lift, Prog.bind_op, Prog.bind_ret, Prog.pure_eq_ret, wp_deviceId]
  iintro Hk
  rw [wp_ret]; imodintro
  iapply Hk

theorem w_part7 (c : Dev nD) (v143 : FVec F S1024x1024 .bf16) (v146 : FVec F S256x1024 .bf16) (v147 : FVec F S256x1024 .bf16) (v148 : FVec F S256x1024 .bf16) (v161 : FVec F S256x128 .bf16) (v174 : FVec F S256x128 .bf16) (v187 : FVec F S256x128 .bf16) (v200 : FVec F S256x128 .bf16) (v209 : FVec F S256x1 .f32) (v210 : FVec F S256x128 .f32)
    {kk : (FVec F S256x1024 .bf16) → Prog (TpuEff nD τ sig (Elt F) Λ₀ .tc) β} {Q : β → sProp (MT nD τ sig Unit (Elt F) ℕ UU ℕ)} :
    iprop(free c ptM0)
      ⊢ iprop(((free c ptM0) -∗ wp frame (wpE (defs₀ (F := F)) 𝒱₀ (c : Thread nD τ) none) Set.univ (kk (k0_pay19 v143 v146 v147 v148 v161 v174 v187 v200 v209 v210)) Q)
        -∗ wp frame (wpE (defs₀ (F := F)) 𝒱₀ (c : Thread nD τ) none) Set.univ (k0_part7 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 v143 v146 v147 v148 v161 v174 v187 v200 v209 v210 >>= kk) Q) := by
  rw [wp_bind, k0_part7_eq_skeleton]
  unfold k0_part7_skel
  simp only [semSignalWord, semWaitWord, Prog.lift, Prog.bind_op, Prog.bind_ret, Prog.pure_eq_ret, wp_deviceId]
  iintro HptM0 Hk
  icases HptM0 with ⟨%XptM0, HptM0⟩
  iapply (wp_load_row 𝒱₀ (c : Thread nD τ) none (fun _ => rfl) squeezes_S1x256x1024_S256x1024 shapeCasts_S1x256x1024_S256x1024 shapeCasts_S256x1024_S1x256x1024) $$ [HptM0]
  · iexact HptM0
  iintro HptM0
  ihave HptM0x := (show (at' c ptM0 fullShare XptM0 : sProp 𝕄) ⊢ free c ptM0 from exists_intro (Φ := fun X => at' c ptM0 fullShare X) XptM0) $$ HptM0
  rw [wp_ret]; imodintro
  iapply Hk
  iexact HptM0x

theorem w_part8 (c : Dev nD) (v57 : BitVec 32) (v141 : FVec F S1024x3072 .bf16) (v255 : FVec F S256x1024 .bf16) (hYptM0 : shapeCast S256x1024 (k0_pay20 v255) shapeCasts_S1x256x1024_S256x1024 = own m ρ c)
    {kk : (Σ' (v272 : FVec F S256x1024 .bf16) (v273 : FVec F S256x1024 .bf16) (v274 : FVec F S256x1024 .bf16) (v287 : FVec F S256x128 .bf16) (v297 : FVec F S256x128 .f32), FVec F S256x128 .f32) → Prog (TpuEff nD τ sig (Elt F) Λ₀ .tc) β} {Q : β → sProp (MT nD τ sig Unit (Elt F) ℕ UU ℕ)} :
    iprop(glb m ρ K ∗ ow c [.inr 5, .inr 6, .inr 7, .inr 8, .inr 9, .inr 10, .inr 11, .inr 12, .inr 13] ∗ free c ptM0 ∗ rcred c 0 ∗ rpos c 0)
      ⊢ iprop(((ow c [.inr 5, .inr 6, .inr 7, .inr 8, .inr 9, .inr 10, .inr 11, .inr 12, .inr 13] ∗ at' c ptM0 fullShare (own m ρ c) ∗ semVal (rCell c 0) 0 ∗ at' c xzM fullShare (qx m ρ (op c))) -∗ wp frame (wpE (defs₀ (F := F)) 𝒱₀ (c : Thread nD τ) none) Set.univ (kk ⟨k0_pay22 v141 (qx m ρ (op c)), k0_pay23 v141 (qx m ρ (op c)), k0_pay24 v141 (qx m ρ (op c)), k0_pay25 v141 (qx m ρ (op c)), k0_pay27 v141 (qx m ρ (op c)), k0_pay28 v141 (qx m ρ (op c))⟩) Q)
        -∗ wp frame (wpE (defs₀ (F := F)) 𝒱₀ (c : Thread nD τ) none) Set.univ (k0_part8 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 v57 v141 v255 >>= kk) Q) := by
  rw [wp_bind, k0_part8_eq_skeleton]
  unfold k0_part8_skel
  simp only [semSignalWord, semWaitWord, Prog.lift, Prog.bind_op, Prog.bind_ret, Prog.pure_eq_ret, wp_deviceId]
  iintro ⟨#HG, HO, HptM0, HRc0, HRp0⟩ Hk
  icases HptM0 with ⟨%XptM0, HptM0⟩
  iapply (wp_store_row 𝒱₀ (c : Thread nD τ) none (fun _ => rfl) squeezes_S1x256x1024_S256x1024 shapeCasts_S1x256x1024_S256x1024) $$ [HptM0]
  · iexact HptM0
  iintro HptM0
  rw [hYptM0]
  iapply (wp_wr m ρ K c 0 [.inr 5, .inr 6, .inr 7, .inr 8, .inr 9, .inr 10, .inr 11, .inr 12, .inr 13] (by decide) (src := xrM0) (dst := xzM) sem24_0 rfl) $$ [HO HRc0 HRp0]
  · isplitr; · iexact HG
    isplitl [HRc0]; · iexact HRc0
    isplitl [HO]; · iexact HO
    iexact HRp0
  iintro ⟨HO, HzR0, HxzM⟩
  ihave HxzM := (show recvPay m ρ c 0 ⊢ at' c xzM fullShare (qx m ρ (op c)) from .rfl) $$ HxzM
  iapply (wp_load_all 𝒱₀ (c : Thread nD τ) none (m := xzM) (View.set_whole _) (rd_xzM)) $$ [HxzM]
  · iexact HxzM
  iintro HxzM
  rw [wp_ret]; imodintro
  iapply Hk
  isplitl [HO]; · iexact HO
  isplitl [HptM0]; · iexact HptM0
  isplitl [HzR0]; · iexact HzR0
  iexact HxzM

theorem w_part9 (c : Dev nD) (v272 : FVec F S256x1024 .bf16) (v273 : FVec F S256x1024 .bf16) (v274 : FVec F S256x1024 .bf16) (v297 : FVec F S256x128 .f32) (v298 : FVec F S256x128 .f32)
    {kk : (Σ' (v300 : FVec F S256x128 .bf16) (v313 : FVec F S256x128 .bf16) (v326 : FVec F S256x128 .bf16) (v339 : FVec F S256x128 .bf16) (v342 : FVec F S256x128 .bf16) (v345 : FVec F S256x256 .bf16), FVec F S256 .f32) → Prog (TpuEff nD τ sig (Elt F) Λ₀ .tc) β} {Q : β → sProp (MT nD τ sig Unit (Elt F) ℕ UU ℕ)} :
    (wp frame (wpE (defs₀ (F := F)) 𝒱₀ (c : Thread nD τ) none) Set.univ (kk ⟨k0_pay29 v297 v298, k0_pay30 v272 v273 v274, k0_pay31 v272 v273 v274, k0_pay32 v272 v273 v274, k0_pay33 v274, k0_pay34 v272 v273, k0_pay35 v272 v273⟩) Q : sProp 𝕄)
      ⊢ wp frame (wpE (defs₀ (F := F)) 𝒱₀ (c : Thread nD τ) none) Set.univ (k0_part9 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 v272 v273 v274 v297 v298 >>= kk) Q := by
  rw [wp_bind, k0_part9_eq_skeleton]
  unfold k0_part9_skel
  simp only [semSignalWord, semWaitWord, Prog.lift, Prog.bind_op, Prog.bind_ret, Prog.pure_eq_ret, wp_deviceId]
  iintro Hk
  rw [wp_ret]; imodintro
  iapply Hk

theorem w_part10 (c : Dev nD) (v57 : BitVec 32) (v143 : FVec F S1024x1024 .bf16) (v272 : FVec F S256x1024 .bf16) (v273 : FVec F S256x1024 .bf16) (v274 : FVec F S256x1024 .bf16) (v287 : FVec F S256x128 .bf16) (v300 : FVec F S256x128 .bf16) (v313 : FVec F S256x128 .bf16) (v326 : FVec F S256x128 .bf16) (v339 : FVec F S256x128 .bf16) (v342 : FVec F S256x128 .bf16) (v345 : FVec F S256x256 .bf16) (v347 : FVec F S256 .f32) (hYptM4 : shapeCast S256x1024 (k0_pay36 v143 v272 v273 v274 v287 v300 v313 v326 v339 v342 v345 v347) shapeCasts_S1x256x1024_S256x1024 = oth m ρ c (op c))
    {kk : (PUnit) → Prog (TpuEff nD τ sig (Elt F) Λ₀ .tc) β} {Q : β → sProp (MT nD τ sig Unit (Elt F) ℕ UU ℕ)} :
    iprop(free c ptM4)
      ⊢ iprop(((at' c ptM4 fullShare (oth m ρ c (op c))) -∗ wp frame (wpE (defs₀ (F := F)) 𝒱₀ (c : Thread nD τ) none) Set.univ (kk ⟨⟩) Q)
        -∗ wp frame (wpE (defs₀ (F := F)) 𝒱₀ (c : Thread nD τ) none) Set.univ (k0_part10 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 v57 v143 v272 v273 v274 v287 v300 v313 v326 v339 v342 v345 v347 >>= kk) Q) := by
  rw [wp_bind, k0_part10_eq_skeleton]
  unfold k0_part10_skel
  simp only [semSignalWord, semWaitWord, Prog.lift, Prog.bind_op, Prog.bind_ret, Prog.pure_eq_ret, wp_deviceId]
  iintro HptM4 Hk
  icases HptM4 with ⟨%XptM4, HptM4⟩
  iapply (wp_load_row 𝒱₀ (c : Thread nD τ) none (fun _ => rfl) squeezes_S1x256x1024_S256x1024 shapeCasts_S1x256x1024_S256x1024 shapeCasts_S256x1024_S1x256x1024) $$ [HptM4]
  · iexact HptM4
  iintro HptM4
  iapply (wp_store_row 𝒱₀ (c : Thread nD τ) none (fun _ => rfl) squeezes_S1x256x1024_S256x1024 shapeCasts_S1x256x1024_S256x1024) $$ [HptM4]
  · iexact HptM4
  iintro HptM4
  rw [hYptM4]
  rw [wp_ret]; imodintro
  iapply Hk
  iexact HptM4

end Cert.KernelProof

end
-- ==== Proof.PartsB.lean ====
/-
The kernel's windows of statements, one rule each: what it needs, and what it leaves.
-/
module

public import proofs.«01_k».proof.Proof.Addr

@[expose] public section

set_option maxRecDepth 16384

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)
variable (K : Dev nD × Fin 29 → ℕ) {β : Type}

theorem w_part11 (c : Dev nD) (v13 : BitVec 32) (v24 : BitVec 32)
    {kk : (PUnit) → Prog (TpuEff nD τ sig (Elt F) Λ₀ .tc) β} {Q : β → sProp (MT nD τ sig Unit (Elt F) ℕ UU ℕ)} :
    iprop(glb m ρ K ∗ ow c [.inr 5, .inr 6, .inr 7, .inr 8, .inr 9, .inr 10, .inr 11, .inr 12, .inr 13] ∗ at' c ptM4 fullShare (oth m ρ c (op c)) ∗ free (tgt 5 c) zrM ∗ xtok c 5 ∗ rcred c 3 ∗ rpos c 3 ∗ free (tgt 6 c) xrM2 ∗ xtok c 6)
      ⊢ iprop(((ow c [.inr 7, .inr 8, .inr 9, .inr 10, .inr 11, .inr 12, .inr 13] ∗ scred c 5 ∗ semVal (rCell c 3) 0 ∗ at' c xrM1 hR (qx m ρ (lf c)) ∗ scred c 6) -∗ wp frame (wpE (defs₀ (F := F)) 𝒱₀ (c : Thread nD τ) none) Set.univ (kk ⟨⟩) Q)
        -∗ wp frame (wpE (defs₀ (F := F)) 𝒱₀ (c : Thread nD τ) none) Set.univ (k0_part11 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 c v13 v24 >>= kk) Q) := by
  rw [wp_bind, k0_part11_eq_skeleton]
  unfold k0_part11_skel
  simp only [semSignalWord, semWaitWord, Prog.lift, Prog.bind_op, Prog.bind_ret, Prog.pure_eq_ret, wp_deviceId]
  iintro ⟨#HG, HO, HptM4, HF5, HT5, HRc3, HRp3, HF6, HT6⟩ Hk
  iapply (wp_xfer m ρ K c _ 5 (dev11_eq c) [.inr 6, .inr 7, .inr 8, .inr 9, .inr 10, .inr 11, .inr 12, .inr 13] ptM4 zrM sem29_0 sem30_0 fullShare (oth m ρ c (op c)) rfl (recv5_eq m ρ c) rfl) $$ [HO HptM4 HF5 HT5]
  · isplitr; · iexact HG
    isplitl [HptM4]; · iexact HptM4
    isplitl [HF5]; · iexact HF5
    isplitl [HO]; · iexact HO
    iexact HT5
  iintro ⟨HC5, HO⟩
  iapply (wp_wr m ρ K c 3 [.inr 6, .inr 7, .inr 8, .inr 9, .inr 10, .inr 11, .inr 12, .inr 13] (by decide) (src := xrM0) (dst := xrM1) sem16_0 rfl) $$ [HO HRc3 HRp3]
  · isplitr; · iexact HG
    isplitl [HRc3]; · iexact HRc3
    isplitl [HO]; · iexact HO
    iexact HRp3
  iintro ⟨HO, HzR3, HxrM1⟩
  ihave HxrM1 := (show recvPay m ρ c 3 ⊢ at' c xrM1 fullShare (qx m ρ (lf c)) from .rfl) $$ HxrM1
  ihave HxrM1x := (owns_halves (c : Thread nD τ) xrM1 fullShare _).1 $$ HxrM1
  icases HxrM1x with ⟨HxrM1l, HxrM1r⟩
  iapply (wp_xfer m ρ K c _ 6 (dev12_eq c) [.inr 7, .inr 8, .inr 9, .inr 10, .inr 11, .inr 12, .inr 13] xrM1 xrM2 sem15_1 sem16_1 hL (qx m ρ (lf c)) rfl (recv6_eq m ρ c) rfl) $$ [HO HxrM1l HF6 HT6]
  · isplitr; · iexact HG
    isplitl [HxrM1l]; · iexact HxrM1l
    isplitl [HF6]; · iexact HF6
    isplitl [HO]; · iexact HO
    iexact HT6
  iintro ⟨HC6, HO⟩
  rw [wp_ret]; imodintro
  iapply Hk
  isplitl [HO]; · iexact HO
  isplitl [HC5]; · iexact HC5
  isplitl [HzR3]; · iexact HzR3
  isplitl [HxrM1r]; · iexact HxrM1r
  iexact HC6

theorem w_part12 (c : Dev nD) (v13 : BitVec 32) (v35 : BitVec 32) (v141 : FVec F S1024x3072 .bf16)
    {kk : (Σ' (v442 : FVec F S256x1024 .bf16) (v443 : FVec F S256x1024 .bf16) (v444 : FVec F S256x1024 .bf16) (v447 : FVec F S256x128 .bf16), FVec F S256x256 .bf16) → Prog (TpuEff nD τ sig (Elt F) Λ₀ .tc) β} {Q : β → sProp (MT nD τ sig Unit (Elt F) ℕ UU ℕ)} :
    iprop(glb m ρ K ∗ ow c [.inr 7, .inr 8, .inr 9, .inr 10, .inr 11, .inr 12, .inr 13] ∗ rcred c 4 ∗ rpos c 4 ∗ free (tgt 7 c) xlM2 ∗ xtok c 7 ∗ rcred c 1 ∗ rpos c 1)
      ⊢ iprop(((ow c [.inr 8, .inr 9, .inr 10, .inr 11, .inr 12, .inr 13] ∗ semVal (rCell c 4) 0 ∗ at' c xlM1 hR (qx m ρ (rt c)) ∗ scred c 7 ∗ semVal (rCell c 1) 0 ∗ at' c xdrM fullShare (qx m ρ (m3 c))) -∗ wp frame (wpE (defs₀ (F := F)) 𝒱₀ (c : Thread nD τ) none) Set.univ (kk ⟨k0_pay38 v141 (qx m ρ (m3 c)), k0_pay39 v141 (qx m ρ (m3 c)), k0_pay40 v141 (qx m ρ (m3 c)), k0_pay41 v141 (qx m ρ (m3 c)), k0_pay42 v141 (qx m ρ (m3 c))⟩) Q)
        -∗ wp frame (wpE (defs₀ (F := F)) 𝒱₀ (c : Thread nD τ) none) Set.univ (k0_part12 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 c v13 v35 v141 >>= kk) Q) := by
  rw [wp_bind, k0_part12_eq_skeleton]
  unfold k0_part12_skel
  simp only [semSignalWord, semWaitWord, Prog.lift, Prog.bind_op, Prog.bind_ret, Prog.pure_eq_ret, wp_deviceId]
  iintro ⟨#HG, HO, HRc4, HRp4, HF7, HT7, HRc1, HRp1⟩ Hk
  iapply (wp_wr m ρ K c 4 [.inr 7, .inr 8, .inr 9, .inr 10, .inr 11, .inr 12, .inr 13] (by decide) (src := xlM0) (dst := xlM1) sem18_0 rfl) $$ [HO HRc4 HRp4]
  · isplitr; · iexact HG
    isplitl [HRc4]; · iexact HRc4
    isplitl [HO]; · iexact HO
    iexact HRp4
  iintro ⟨HO, HzR4, HxlM1⟩
  ihave HxlM1 := (show recvPay m ρ c 4 ⊢ at' c xlM1 fullShare (qx m ρ (rt c)) from .rfl) $$ HxlM1
  ihave HxlM1x := (owns_halves (c : Thread nD τ) xlM1 fullShare _).1 $$ HxlM1
  icases HxlM1x with ⟨HxlM1l, HxlM1r⟩
  iapply (wp_xfer m ρ K c _ 7 (dev13_eq c) [.inr 8, .inr 9, .inr 10, .inr 11, .inr 12, .inr 13] xlM1 xlM2 sem17_1 sem18_1 hL (qx m ρ (rt c)) rfl (recv7_eq m ρ c) rfl) $$ [HO HxlM1l HF7 HT7]
  · isplitr; · iexact HG
    isplitl [HxlM1l]; · iexact HxlM1l
    isplitl [HF7]; · iexact HF7
    isplitl [HO]; · iexact HO
    iexact HT7
  iintro ⟨HC7, HO⟩
  iapply (wp_wr m ρ K c 1 [.inr 8, .inr 9, .inr 10, .inr 11, .inr 12, .inr 13] (by decide) (src := xrM0) (dst := xdrM) sem20_0 rfl) $$ [HO HRc1 HRp1]
  · isplitr; · iexact HG
    isplitl [HRc1]; · iexact HRc1
    isplitl [HO]; · iexact HO
    iexact HRp1
  iintro ⟨HO, HzR1, HxdrM⟩
  ihave HxdrM := (show recvPay m ρ c 1 ⊢ at' c xdrM fullShare (qx m ρ (m3 c)) from .rfl) $$ HxdrM
  iapply (wp_load_all 𝒱₀ (c : Thread nD τ) none (m := xdrM) (View.set_whole _) (rd_xdrM)) $$ [HxdrM]
  · iexact HxdrM
  iintro HxdrM
  rw [wp_ret]; imodintro
  iapply Hk
  isplitl [HO]; · iexact HO
  isplitl [HzR4]; · iexact HzR4
  isplitl [HxlM1r]; · iexact HxlM1r
  isplitl [HC7]; · iexact HC7
  isplitl [HzR1]; · iexact HzR1
  iexact HxdrM

theorem w_part13 (c : Dev nD) (v442 : FVec F S256x1024 .bf16) (v443 : FVec F S256x1024 .bf16) (v444 : FVec F S256x1024 .bf16) (v447 : FVec F S256x128 .bf16) (v450 : FVec F S256x256 .bf16)
    {kk : (Σ' (v457 : FVec F S256x128 .bf16) (v470 : FVec F S256x128 .bf16) (v483 : FVec F S256x128 .bf16) (v496 : FVec F S256x128 .bf16) (v497 : FVec F S256x128 .bf16) (v498 : FVec F S256x128 .bf16), FVec F S256x128 .bf16) → Prog (TpuEff nD τ sig (Elt F) Λ₀ .tc) β} {Q : β → sProp (MT nD τ sig Unit (Elt F) ℕ UU ℕ)} :
    (wp frame (wpE (defs₀ (F := F)) 𝒱₀ (c : Thread nD τ) none) Set.univ (kk ⟨k0_pay43 v447 v450, k0_pay44 v442 v443 v444, k0_pay45 v442 v443 v444, k0_pay46 v442 v443 v444, k0_pay47 v442, k0_pay48 v443, k0_pay49 v444⟩) Q : sProp 𝕄)
      ⊢ wp frame (wpE (defs₀ (F := F)) 𝒱₀ (c : Thread nD τ) none) Set.univ (k0_part13 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 v442 v443 v444 v447 v450 >>= kk) Q := by
  rw [wp_bind, k0_part13_eq_skeleton]
  unfold k0_part13_skel
  simp only [semSignalWord, semWaitWord, Prog.lift, Prog.bind_op, Prog.bind_ret, Prog.pure_eq_ret, wp_deviceId]
  iintro Hk
  rw [wp_ret]; imodintro
  iapply Hk

theorem w_part14 (c : Dev nD) (v442 : FVec F S256x1024 .bf16) (v443 : FVec F S256x1024 .bf16) (v444 : FVec F S256x1024 .bf16) (v497 : FVec F S256x128 .bf16) (v498 : FVec F S256x128 .bf16) (v499 : FVec F S256x128 .bf16)
    {kk : (Σ' (v509 : FVec F S256x128 .bf16) (v522 : FVec F S256x128 .bf16) (v535 : FVec F S256x128 .bf16), FVec F S256x128 .f32) → Prog (TpuEff nD τ sig (Elt F) Λ₀ .tc) β} {Q : β → sProp (MT nD τ sig Unit (Elt F) ℕ UU ℕ)} :
    (wp frame (wpE (defs₀ (F := F)) 𝒱₀ (c : Thread nD τ) none) Set.univ (kk ⟨k0_pay50 v497 v498 v499, k0_pay51 v442 v443 v444, k0_pay52 v442 v443 v444, k0_pay53 v442 v443 v444⟩) Q : sProp 𝕄)
      ⊢ wp frame (wpE (defs₀ (F := F)) 𝒱₀ (c : Thread nD τ) none) Set.univ (k0_part14 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 v442 v443 v444 v497 v498 v499 >>= kk) Q := by
  rw [wp_bind, k0_part14_eq_skeleton]
  unfold k0_part14_skel
  simp only [semSignalWord, semWaitWord, Prog.lift, Prog.bind_op, Prog.bind_ret, Prog.pure_eq_ret, wp_deviceId]
  iintro Hk
  rw [wp_ret]; imodintro
  iapply Hk

theorem w_part15 (c : Dev nD) (v13 : BitVec 32) (v46 : BitVec 32) (v143 : FVec F S1024x1024 .bf16) (v457 : FVec F S256x128 .bf16) (v470 : FVec F S256x128 .bf16) (v483 : FVec F S256x128 .bf16) (v496 : FVec F S256x128 .bf16) (v509 : FVec F S256x128 .bf16) (v522 : FVec F S256x128 .bf16) (v535 : FVec F S256x128 .bf16) (v547 : FVec F S256x128 .f32) (hYptM3 : shapeCast S256x1024 (k0_pay54 v143 v457 v470 v483 v496 v509 v522 v535 v547) shapeCasts_S1x256x1024_S256x1024 = la0 m ρ c) (hYlaM0 : shapeCast S256x1024 (k0_pay55 (shapeCast S1x256x1024 (la0 m ρ c) shapeCasts_S256x1024_S1x256x1024)) shapeCasts_S1x256x1024_S256x1024 = la0 m ρ c)
    {kk : (PUnit) → Prog (TpuEff nD τ sig (Elt F) Λ₀ .tc) β} {Q : β → sProp (MT nD τ sig Unit (Elt F) ℕ UU ℕ)} :
    iprop(glb m ρ K ∗ ow c [.inr 8, .inr 9, .inr 10, .inr 11, .inr 12, .inr 13] ∗ free c ptM3 ∗ free c laM0 ∗ free (tgt 8 c) laM1 ∗ xtok c 8 ∗ rcred c 2 ∗ rpos c 2)
      ⊢ iprop(((ow c [.inr 9, .inr 10, .inr 11, .inr 12, .inr 13] ∗ at' c ptM3 fullShare (la0 m ρ c) ∗ scred c 8 ∗ semVal (rCell c 2) 0 ∗ at' c xdlM fullShare (qx m ρ (p3 c))) -∗ wp frame (wpE (defs₀ (F := F)) 𝒱₀ (c : Thread nD τ) none) Set.univ (kk ⟨⟩) Q)
        -∗ wp frame (wpE (defs₀ (F := F)) 𝒱₀ (c : Thread nD τ) none) Set.univ (k0_part15 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 c v13 v46 v143 v457 v470 v483 v496 v509 v522 v535 v547 >>= kk) Q) := by
  rw [wp_bind, k0_part15_eq_skeleton]
  unfold k0_part15_skel
  simp only [semSignalWord, semWaitWord, Prog.lift, Prog.bind_op, Prog.bind_ret, Prog.pure_eq_ret, wp_deviceId]
  iintro ⟨#HG, HO, HptM3, HlaM0, HF8, HT8, HRc2, HRp2⟩ Hk
  icases HptM3 with ⟨%XptM3, HptM3⟩
  iapply (wp_load_row 𝒱₀ (c : Thread nD τ) none (fun _ => rfl) squeezes_S1x256x1024_S256x1024 shapeCasts_S1x256x1024_S256x1024 shapeCasts_S256x1024_S1x256x1024) $$ [HptM3]
  · iexact HptM3
  iintro HptM3
  iapply (wp_store_row 𝒱₀ (c : Thread nD τ) none (fun _ => rfl) squeezes_S1x256x1024_S256x1024 shapeCasts_S1x256x1024_S256x1024) $$ [HptM3]
  · iexact HptM3
  iintro HptM3
  rw [hYptM3]
  iapply (wp_load_row_as 𝒱₀ (c : Thread nD τ) none (m := Memref.whole cc0_scratch5) (r := Rect.unit (s := S8x256x1024) ![3, 0, 0] S1x256x1024.size inb_S8x256x1024_S1x256x1024_3_0_0) (fun _ => rfl) squeezes_S1x256x1024_S256x1024 shapeCasts_S1x256x1024_S256x1024 shapeCasts_S256x1024_S1x256x1024 (X := la0 m ρ c) (shapeCast S1x256x1024 (la0 m ρ c) shapeCasts_S256x1024_S1x256x1024) rfl) $$ [HptM3]
  · iexact HptM3
  iintro HptM3
  icases HlaM0 with ⟨%XlaM0, HlaM0⟩
  iapply (wp_load_row 𝒱₀ (c : Thread nD τ) none (fun _ => rfl) squeezes_S1x256x1024_S256x1024 shapeCasts_S1x256x1024_S256x1024 shapeCasts_S256x1024_S1x256x1024) $$ [HlaM0]
  · iexact HlaM0
  iintro HlaM0
  iapply (wp_store_row 𝒱₀ (c : Thread nD τ) none (fun _ => rfl) squeezes_S1x256x1024_S256x1024 shapeCasts_S1x256x1024_S256x1024) $$ [HlaM0]
  · iexact HlaM0
  iintro HlaM0
  rw [hYlaM0]
  iapply (wp_xfer m ρ K c _ 8 (dev14_eq c) [.inr 9, .inr 10, .inr 11, .inr 12, .inr 13] laM0 laM1 sem27_0 sem28_0 fullShare (la0 m ρ c) rfl (recv8_eq m ρ c) rfl) $$ [HO HlaM0 HF8 HT8]
  · isplitr; · iexact HG
    isplitl [HlaM0]; · iexact HlaM0
    isplitl [HF8]; · iexact HF8
    isplitl [HO]; · iexact HO
    iexact HT8
  iintro ⟨HC8, HO⟩
  iapply (wp_wr m ρ K c 2 [.inr 9, .inr 10, .inr 11, .inr 12, .inr 13] (by decide) (src := xrM0) (dst := xdlM) sem22_0 rfl) $$ [HO HRc2 HRp2]
  · isplitr; · iexact HG
    isplitl [HRc2]; · iexact HRc2
    isplitl [HO]; · iexact HO
    iexact HRp2
  iintro ⟨HO, HzR2, HxdlM⟩
  ihave HxdlM := (show recvPay m ρ c 2 ⊢ at' c xdlM fullShare (qx m ρ (p3 c)) from .rfl) $$ HxdlM
  rw [wp_ret]; imodintro
  iapply Hk
  isplitl [HO]; · iexact HO
  isplitl [HptM3]; · iexact HptM3
  isplitl [HC8]; · iexact HC8
  isplitl [HzR2]; · iexact HzR2
  iexact HxdlM

theorem w_part16 (c : Dev nD) (v141 : FVec F S1024x3072 .bf16)
    {kk : (Σ' (v583 : FVec F S256x1024 .bf16) (v584 : FVec F S256x1024 .bf16) (v585 : FVec F S256x1024 .bf16) (v598 : FVec F S256x128 .bf16) (v611 : FVec F S256x128 .bf16), FVec F S256x128 .f32) → Prog (TpuEff nD τ sig (Elt F) Λ₀ .tc) β} {Q : β → sProp (MT nD τ sig Unit (Elt F) ℕ UU ℕ)} :
    iprop(at' c xdlM fullShare (qx m ρ (p3 c)))
      ⊢ iprop(((at' c xdlM fullShare (qx m ρ (p3 c))) -∗ wp frame (wpE (defs₀ (F := F)) 𝒱₀ (c : Thread nD τ) none) Set.univ (kk ⟨k0_pay57 v141 (qx m ρ (p3 c)), k0_pay58 v141 (qx m ρ (p3 c)), k0_pay59 v141 (qx m ρ (p3 c)), k0_pay60 v141 (qx m ρ (p3 c)), k0_pay61 v141 (qx m ρ (p3 c)), k0_pay62 v141 (qx m ρ (p3 c))⟩) Q)
        -∗ wp frame (wpE (defs₀ (F := F)) 𝒱₀ (c : Thread nD τ) none) Set.univ (k0_part16 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 v141 >>= kk) Q) := by
  rw [wp_bind, k0_part16_eq_skeleton]
  unfold k0_part16_skel
  simp only [semSignalWord, semWaitWord, Prog.lift, Prog.bind_op, Prog.bind_ret, Prog.pure_eq_ret, wp_deviceId]
  iintro HxdlM Hk
  iapply (wp_load_all 𝒱₀ (c : Thread nD τ) none (m := xdlM) (View.set_whole _) (rd_xdlM)) $$ [HxdlM]
  · iexact HxdlM
  iintro HxdlM
  rw [wp_ret]; imodintro
  iapply Hk
  iexact HxdlM

theorem w_part17 (c : Dev nD) (v583 : FVec F S256x1024 .bf16) (v584 : FVec F S256x1024 .bf16) (v585 : FVec F S256x1024 .bf16) (v623 : FVec F S256x128 .f32)
    {kk : (Σ' (v624 : FVec F S256x128 .bf16) (v637 : FVec F S256x128 .bf16) (v650 : FVec F S256x128 .bf16) (v663 : FVec F S256x128 .bf16) (v666 : FVec F S256x128 .bf16) (v669 : FVec F S256x256 .bf16), FVec F S256x1 .f32) → Prog (TpuEff nD τ sig (Elt F) Λ₀ .tc) β} {Q : β → sProp (MT nD τ sig Unit (Elt F) ℕ UU ℕ)} :
    (wp frame (wpE (defs₀ (F := F)) 𝒱₀ (c : Thread nD τ) none) Set.univ (kk ⟨k0_pay63 v623, k0_pay64 v583 v584 v585, k0_pay65 v583 v584 v585, k0_pay66 v583 v584 v585, k0_pay67 v585, k0_pay68 v583 v584, k0_pay69 v583 v584⟩) Q : sProp 𝕄)
      ⊢ wp frame (wpE (defs₀ (F := F)) 𝒱₀ (c : Thread nD τ) none) Set.univ (k0_part17 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 v583 v584 v585 v623 >>= kk) Q := by
  rw [wp_bind, k0_part17_eq_skeleton]
  unfold k0_part17_skel
  simp only [semSignalWord, semWaitWord, Prog.lift, Prog.bind_op, Prog.bind_ret, Prog.pure_eq_ret, wp_deviceId]
  iintro Hk
  rw [wp_ret]; imodintro
  iapply Hk

theorem w_part18 (c : Dev nD) (v24 : BitVec 32) (v143 : FVec F S1024x1024 .bf16) (v583 : FVec F S256x1024 .bf16) (v584 : FVec F S256x1024 .bf16) (v585 : FVec F S256x1024 .bf16) (v598 : FVec F S256x128 .bf16) (v611 : FVec F S256x128 .bf16) (v624 : FVec F S256x128 .bf16) (v637 : FVec F S256x128 .bf16) (v650 : FVec F S256x128 .bf16) (v663 : FVec F S256x128 .bf16) (v666 : FVec F S256x128 .bf16) (v669 : FVec F S256x256 .bf16) (v672 : FVec F S256x1 .f32) (hYptM5 : shapeCast S256x1024 (k0_pay70 v143 v583 v584 v585 v598 v611 v624 v637 v650 v663 v666 v669 v672) shapeCasts_S1x256x1024_S256x1024 = ra0 m ρ c) (hYraM0 : shapeCast S256x1024 (k0_pay71 (shapeCast S1x256x1024 (ra0 m ρ c) shapeCasts_S256x1024_S1x256x1024)) shapeCasts_S1x256x1024_S256x1024 = ra0 m ρ c)
    {kk : (PUnit) → Prog (TpuEff nD τ sig (Elt F) Λ₀ .tc) β} {Q : β → sProp (MT nD τ sig Unit (Elt F) ℕ UU ℕ)} :
    iprop(free c ptM5 ∗ free c raM0)
      ⊢ iprop(((at' c ptM5 fullShare (ra0 m ρ c) ∗ at' c raM0 fullShare (ra0 m ρ c)) -∗ wp frame (wpE (defs₀ (F := F)) 𝒱₀ (c : Thread nD τ) none) Set.univ (kk ⟨⟩) Q)
        -∗ wp frame (wpE (defs₀ (F := F)) 𝒱₀ (c : Thread nD τ) none) Set.univ (k0_part18 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 v24 v143 v583 v584 v585 v598 v611 v624 v637 v650 v663 v666 v669 v672 >>= kk) Q) := by
  rw [wp_bind, k0_part18_eq_skeleton]
  unfold k0_part18_skel
  simp only [semSignalWord, semWaitWord, Prog.lift, Prog.bind_op, Prog.bind_ret, Prog.pure_eq_ret, wp_deviceId]
  iintro ⟨HptM5, HraM0⟩ Hk
  icases HptM5 with ⟨%XptM5, HptM5⟩
  iapply (wp_load_row 𝒱₀ (c : Thread nD τ) none (fun _ => rfl) squeezes_S1x256x1024_S256x1024 shapeCasts_S1x256x1024_S256x1024 shapeCasts_S256x1024_S1x256x1024) $$ [HptM5]
  · iexact HptM5
  iintro HptM5
  iapply (wp_store_row 𝒱₀ (c : Thread nD τ) none (fun _ => rfl) squeezes_S1x256x1024_S256x1024 shapeCasts_S1x256x1024_S256x1024) $$ [HptM5]
  · iexact HptM5
  iintro HptM5
  rw [hYptM5]
  iapply (wp_load_row_as 𝒱₀ (c : Thread nD τ) none (m := Memref.whole cc0_scratch5) (r := Rect.unit (s := S8x256x1024) ![5, 0, 0] S1x256x1024.size inb_S8x256x1024_S1x256x1024_5_0_0) (fun _ => rfl) squeezes_S1x256x1024_S256x1024 shapeCasts_S1x256x1024_S256x1024 shapeCasts_S256x1024_S1x256x1024 (X := ra0 m ρ c) (shapeCast S1x256x1024 (ra0 m ρ c) shapeCasts_S256x1024_S1x256x1024) rfl) $$ [HptM5]
  · iexact HptM5
  iintro HptM5
  icases HraM0 with ⟨%XraM0, HraM0⟩
  iapply (wp_load_row 𝒱₀ (c : Thread nD τ) none (fun _ => rfl) squeezes_S1x256x1024_S256x1024 shapeCasts_S1x256x1024_S256x1024 shapeCasts_S256x1024_S1x256x1024) $$ [HraM0]
  · iexact HraM0
  iintro HraM0
  iapply (wp_store_row 𝒱₀ (c : Thread nD τ) none (fun _ => rfl) squeezes_S1x256x1024_S256x1024 shapeCasts_S1x256x1024_S256x1024) $$ [HraM0]
  · iexact HraM0
  iintro HraM0
  rw [hYraM0]
  rw [wp_ret]; imodintro
  iapply Hk
  isplitl [HptM5]; · iexact HptM5
  iexact HraM0

theorem w_part19 (c : Dev nD) (v24 : BitVec 32) (v141 : FVec F S1024x3072 .bf16)
    {kk : (Σ' (v727 : FVec F S256x1024 .bf16) (v728 : FVec F S256x1024 .bf16) (v729 : FVec F S256x1024 .bf16) (v742 : FVec F S256x128 .bf16) (v743 : FVec F S256x128 .bf16) (v744 : FVec F S256x128 .bf16) (v745 : FVec F S256x128 .bf16), FVec F S256x256 .f32) → Prog (TpuEff nD τ sig (Elt F) Λ₀ .tc) β} {Q : β → sProp (MT nD τ sig Unit (Elt F) ℕ UU ℕ)} :
    iprop(glb m ρ K ∗ ow c [.inr 9, .inr 10, .inr 11, .inr 12, .inr 13] ∗ at' c raM0 fullShare (ra0 m ρ c) ∗ free (tgt 9 c) raM1 ∗ xtok c 9 ∗ rcred c 6 ∗ rpos c 6)
      ⊢ iprop(((ow c [.inr 10, .inr 11, .inr 12, .inr 13] ∗ scred c 9 ∗ semVal (rCell c 6) 0 ∗ at' c xrM2 fullShare (qx m ρ (lf (lf c)))) -∗ wp frame (wpE (defs₀ (F := F)) 𝒱₀ (c : Thread nD τ) none) Set.univ (kk ⟨k0_pay73 v141 (shapeCast S1x256x1024 (qx m ρ (lf (lf c))) shapeCasts_S256x1024_S1x256x1024), k0_pay74 v141 (shapeCast S1x256x1024 (qx m ρ (lf (lf c))) shapeCasts_S256x1024_S1x256x1024), k0_pay75 v141 (shapeCast S1x256x1024 (qx m ρ (lf (lf c))) shapeCasts_S256x1024_S1x256x1024), k0_pay76 v141 (shapeCast S1x256x1024 (qx m ρ (lf (lf c))) shapeCasts_S256x1024_S1x256x1024), k0_pay77 v141 (shapeCast S1x256x1024 (qx m ρ (lf (lf c))) shapeCasts_S256x1024_S1x256x1024), k0_pay78 v141 (shapeCast S1x256x1024 (qx m ρ (lf (lf c))) shapeCasts_S256x1024_S1x256x1024), k0_pay79 v141 (shapeCast S1x256x1024 (qx m ρ (lf (lf c))) shapeCasts_S256x1024_S1x256x1024), (constant S256x256 .f32 0x00000000#32 : FVec F S256x256 .f32)⟩) Q)
        -∗ wp frame (wpE (defs₀ (F := F)) 𝒱₀ (c : Thread nD τ) none) Set.univ (k0_part19 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 c v24 v141 >>= kk) Q) := by
  rw [wp_bind, k0_part19_eq_skeleton]
  unfold k0_part19_skel
  simp only [semSignalWord, semWaitWord, Prog.lift, Prog.bind_op, Prog.bind_ret, Prog.pure_eq_ret, wp_deviceId]
  iintro ⟨#HG, HO, HraM0, HF9, HT9, HRc6, HRp6⟩ Hk
  iapply (wp_xfer m ρ K c _ 9 (dev15_eq c) [.inr 10, .inr 11, .inr 12, .inr 13] raM0 raM1 sem25_0 sem26_0 fullShare (ra0 m ρ c) rfl (recv9_eq m ρ c) rfl) $$ [HO HraM0 HF9 HT9]
  · isplitr; · iexact HG
    isplitl [HraM0]; · iexact HraM0
    isplitl [HF9]; · iexact HF9
    isplitl [HO]; · iexact HO
    iexact HT9
  iintro ⟨HC9, HO⟩
  iapply (wp_wr m ρ K c 6 [.inr 10, .inr 11, .inr 12, .inr 13] (by decide) (src := xrM1) (dst := xrM2) sem16_1 rfl) $$ [HO HRc6 HRp6]
  · isplitr; · iexact HG
    isplitl [HRc6]; · iexact HRc6
    isplitl [HO]; · iexact HO
    iexact HRp6
  iintro ⟨HO, HzR6, HxrM2⟩
  ihave HxrM2 := (show recvPay m ρ c 6 ⊢ at' c xrM2 fullShare (qx m ρ (lf (lf c))) from .rfl) $$ HxrM2
  iapply (wp_load_row_as 𝒱₀ (c : Thread nD τ) none (m := Memref.whole cc0_scratch0) (r := Rect.unit (s := S3x256x1024) ![2, 0, 0] S1x256x1024.size inb_S3x256x1024_S1x256x1024_2_0_0) (fun _ => rfl) squeezes_S1x256x1024_S256x1024 shapeCasts_S1x256x1024_S256x1024 shapeCasts_S256x1024_S1x256x1024 (X := qx m ρ (lf (lf c))) (shapeCast S1x256x1024 (qx m ρ (lf (lf c))) shapeCasts_S256x1024_S1x256x1024) rfl) $$ [HxrM2]
  · iexact HxrM2
  iintro HxrM2
  rw [wp_ret]; imodintro
  iapply Hk
  isplitl [HO]; · iexact HO
  isplitl [HC9]; · iexact HC9
  isplitl [HzR6]; · iexact HzR6
  iexact HxrM2

theorem w_part20 (c : Dev nD) (v727 : FVec F S256x1024 .bf16) (v728 : FVec F S256x1024 .bf16) (v729 : FVec F S256x1024 .bf16) (v743 : FVec F S256x128 .bf16) (v744 : FVec F S256x128 .bf16) (v745 : FVec F S256x128 .bf16) (cst_348 : FVec F S256x256 .f32)
    {kk : (Σ' (v755 : FVec F S256x128 .bf16) (v768 : FVec F S256x128 .bf16) (v781 : FVec F S256x128 .bf16), FVec F S256x128 .bf16) → Prog (TpuEff nD τ sig (Elt F) Λ₀ .tc) β} {Q : β → sProp (MT nD τ sig Unit (Elt F) ℕ UU ℕ)} :
    (wp frame (wpE (defs₀ (F := F)) 𝒱₀ (c : Thread nD τ) none) Set.univ (kk ⟨k0_pay80 v743 v744 v745 cst_348, k0_pay81 v727 v728 v729, k0_pay82 v727 v728 v729, k0_pay83 v727 v728 v729⟩) Q : sProp 𝕄)
      ⊢ wp frame (wpE (defs₀ (F := F)) 𝒱₀ (c : Thread nD τ) none) Set.univ (k0_part20 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 v727 v728 v729 v743 v744 v745 cst_348 >>= kk) Q := by
  rw [wp_bind, k0_part20_eq_skeleton]
  unfold k0_part20_skel
  simp only [semSignalWord, semWaitWord, Prog.lift, Prog.bind_op, Prog.bind_ret, Prog.pure_eq_ret, wp_deviceId]
  iintro Hk
  rw [wp_ret]; imodintro
  iapply Hk

theorem w_part21 (c : Dev nD) (v143 : FVec F S1024x1024 .bf16) (v727 : FVec F S256x1024 .bf16) (v728 : FVec F S256x1024 .bf16) (v729 : FVec F S256x1024 .bf16) (v742 : FVec F S256x128 .bf16) (v755 : FVec F S256x128 .bf16) (v768 : FVec F S256x128 .bf16) (v781 : FVec F S256x128 .bf16) (v794 : FVec F S256x128 .bf16) (hYptM2 : shapeCast S256x1024 (k0_pay84 v143 v727 v728 v729 v742 v755 v768 v781 v794) shapeCasts_S1x256x1024_S256x1024 = oth m ρ c (lf (lf c)))
    {kk : (PUnit) → Prog (TpuEff nD τ sig (Elt F) Λ₀ .tc) β} {Q : β → sProp (MT nD τ sig Unit (Elt F) ℕ UU ℕ)} :
    iprop(free c ptM2)
      ⊢ iprop(((at' c ptM2 fullShare (oth m ρ c (lf (lf c)))) -∗ wp frame (wpE (defs₀ (F := F)) 𝒱₀ (c : Thread nD τ) none) Set.univ (kk ⟨⟩) Q)
        -∗ wp frame (wpE (defs₀ (F := F)) 𝒱₀ (c : Thread nD τ) none) Set.univ (k0_part21 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 v143 v727 v728 v729 v742 v755 v768 v781 v794 >>= kk) Q) := by
  rw [wp_bind, k0_part21_eq_skeleton]
  unfold k0_part21_skel
  simp only [semSignalWord, semWaitWord, Prog.lift, Prog.bind_op, Prog.bind_ret, Prog.pure_eq_ret, wp_deviceId]
  iintro HptM2 Hk
  icases HptM2 with ⟨%XptM2, HptM2⟩
  iapply (wp_load_row 𝒱₀ (c : Thread nD τ) none (fun _ => rfl) squeezes_S1x256x1024_S256x1024 shapeCasts_S1x256x1024_S256x1024 shapeCasts_S256x1024_S1x256x1024) $$ [HptM2]
  · iexact HptM2
  iintro HptM2
  iapply (wp_store_row 𝒱₀ (c : Thread nD τ) none (fun _ => rfl) squeezes_S1x256x1024_S256x1024 shapeCasts_S1x256x1024_S256x1024) $$ [HptM2]
  · iexact HptM2
  iintro HptM2
  rw [hYptM2]
  rw [wp_ret]; imodintro
  iapply Hk
  iexact HptM2

theorem w_part22 (c : Dev nD) (v13 : BitVec 32) (v141 : FVec F S1024x3072 .bf16)
    {kk : (Σ' (v856 : FVec F S256x1024 .bf16) (v857 : FVec F S256x1024 .bf16) (v858 : FVec F S256x1024 .bf16) (v871 : FVec F S256x128 .bf16) (v874 : FVec F S256x128 .bf16) (v877 : FVec F S256x256 .bf16), FVec F S256 .f32) → Prog (TpuEff nD τ sig (Elt F) Λ₀ .tc) β} {Q : β → sProp (MT nD τ sig Unit (Elt F) ℕ UU ℕ)} :
    iprop(glb m ρ K ∗ ow c [.inr 10, .inr 11, .inr 12, .inr 13] ∗ rcred c 7 ∗ rpos c 7)
      ⊢ iprop(((ow c [.inr 10, .inr 11, .inr 12, .inr 13] ∗ semVal (rCell c 7) 0 ∗ at' c xlM2 fullShare (qx m ρ (rt (rt c)))) -∗ wp frame (wpE (defs₀ (F := F)) 𝒱₀ (c : Thread nD τ) none) Set.univ (kk ⟨k0_pay86 v141 (shapeCast S1x256x1024 (qx m ρ (rt (rt c))) shapeCasts_S256x1024_S1x256x1024), k0_pay87 v141 (shapeCast S1x256x1024 (qx m ρ (rt (rt c))) shapeCasts_S256x1024_S1x256x1024), k0_pay88 v141 (shapeCast S1x256x1024 (qx m ρ (rt (rt c))) shapeCasts_S256x1024_S1x256x1024), k0_pay89 v141 (shapeCast S1x256x1024 (qx m ρ (rt (rt c))) shapeCasts_S256x1024_S1x256x1024), k0_pay90 v141 (shapeCast S1x256x1024 (qx m ρ (rt (rt c))) shapeCasts_S256x1024_S1x256x1024), k0_pay91 v141 (shapeCast S1x256x1024 (qx m ρ (rt (rt c))) shapeCasts_S256x1024_S1x256x1024), k0_pay92 v141 (shapeCast S1x256x1024 (qx m ρ (rt (rt c))) shapeCasts_S256x1024_S1x256x1024)⟩) Q)
        -∗ wp frame (wpE (defs₀ (F := F)) 𝒱₀ (c : Thread nD τ) none) Set.univ (k0_part22 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 v13 v141 >>= kk) Q) := by
  rw [wp_bind, k0_part22_eq_skeleton]
  unfold k0_part22_skel
  simp only [semSignalWord, semWaitWord, Prog.lift, Prog.bind_op, Prog.bind_ret, Prog.pure_eq_ret, wp_deviceId]
  iintro ⟨#HG, HO, HRc7, HRp7⟩ Hk
  iapply (wp_wr m ρ K c 7 [.inr 10, .inr 11, .inr 12, .inr 13] (by decide) (src := xlM1) (dst := xlM2) sem18_1 rfl) $$ [HO HRc7 HRp7]
  · isplitr; · iexact HG
    isplitl [HRc7]; · iexact HRc7
    isplitl [HO]; · iexact HO
    iexact HRp7
  iintro ⟨HO, HzR7, HxlM2⟩
  ihave HxlM2 := (show recvPay m ρ c 7 ⊢ at' c xlM2 fullShare (qx m ρ (rt (rt c))) from .rfl) $$ HxlM2
  iapply (wp_load_row_as 𝒱₀ (c : Thread nD τ) none (m := Memref.whole cc0_scratch1) (r := Rect.unit (s := S3x256x1024) ![2, 0, 0] S1x256x1024.size inb_S3x256x1024_S1x256x1024_2_0_0) (fun _ => rfl) squeezes_S1x256x1024_S256x1024 shapeCasts_S1x256x1024_S256x1024 shapeCasts_S256x1024_S1x256x1024 (X := qx m ρ (rt (rt c))) (shapeCast S1x256x1024 (qx m ρ (rt (rt c))) shapeCasts_S256x1024_S1x256x1024) rfl) $$ [HxlM2]
  · iexact HxlM2
  iintro HxlM2
  rw [wp_ret]; imodintro
  iapply Hk
  isplitl [HO]; · iexact HO
  isplitl [HzR7]; · iexact HzR7
  iexact HxlM2

theorem w_part23 (c : Dev nD) (v856 : FVec F S256x1024 .bf16) (v857 : FVec F S256x1024 .bf16) (v858 : FVec F S256x1024 .bf16) (v874 : FVec F S256x128 .bf16) (v877 : FVec F S256x256 .bf16) (v879 : FVec F S256 .f32)
    {kk : (Σ' (v884 : FVec F S256x128 .bf16) (v897 : FVec F S256x128 .bf16) (v910 : FVec F S256x128 .bf16) (v923 : FVec F S256x128 .bf16) (v926 : FVec F S256x128 .bf16), FVec F S256x256 .bf16) → Prog (TpuEff nD τ sig (Elt F) Λ₀ .tc) β} {Q : β → sProp (MT nD τ sig Unit (Elt F) ℕ UU ℕ)} :
    (wp frame (wpE (defs₀ (F := F)) 𝒱₀ (c : Thread nD τ) none) Set.univ (kk ⟨k0_pay93 v874 v877 v879, k0_pay94 v856 v857 v858, k0_pay95 v856 v857 v858, k0_pay96 v856 v857 v858, k0_pay97 v858, k0_pay98 v856 v857⟩) Q : sProp 𝕄)
      ⊢ wp frame (wpE (defs₀ (F := F)) 𝒱₀ (c : Thread nD τ) none) Set.univ (k0_part23 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 v856 v857 v858 v874 v877 v879 >>= kk) Q := by
  rw [wp_bind, k0_part23_eq_skeleton]
  unfold k0_part23_skel
  simp only [semSignalWord, semWaitWord, Prog.lift, Prog.bind_op, Prog.bind_ret, Prog.pure_eq_ret, wp_deviceId]
  iintro Hk
  rw [wp_ret]; imodintro
  iapply Hk

theorem w_part24 (c : Dev nD) (v13 : BitVec 32) (v143 : FVec F S1024x1024 .bf16) (v856 : FVec F S256x1024 .bf16) (v857 : FVec F S256x1024 .bf16) (v858 : FVec F S256x1024 .bf16) (v871 : FVec F S256x128 .bf16) (v884 : FVec F S256x128 .bf16) (v897 : FVec F S256x128 .bf16) (v910 : FVec F S256x128 .bf16) (v923 : FVec F S256x128 .bf16) (v926 : FVec F S256x128 .bf16) (v928 : FVec F S256x256 .bf16) (hYptM6 : shapeCast S256x1024 (k0_pay99 v143 v856 v857 v858 v871 v884 v897 v910 v923 v926 v928) shapeCasts_S1x256x1024_S256x1024 = oth m ρ c (rt (rt c)))
    {kk : (Σ' (v969 : BitVec 32), BitVec 32) → Prog (TpuEff nD τ sig (Elt F) Λ₀ .tc) β} {Q : β → sProp (MT nD τ sig Unit (Elt F) ℕ UU ℕ)} :
    iprop(free c ptM6)
      ⊢ iprop((∀ (v969 : BitVec 32), (at' c ptM6 fullShare (oth m ρ c (rt (rt c)))) -∗ wp frame (wpE (defs₀ (F := F)) 𝒱₀ (c : Thread nD τ) none) Set.univ (kk ⟨v969, 0#32⟩) Q)
        -∗ wp frame (wpE (defs₀ (F := F)) 𝒱₀ (c : Thread nD τ) none) Set.univ (k0_part24 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 v13 v143 v856 v857 v858 v871 v884 v897 v910 v923 v926 v928 >>= kk) Q) := by
  rw [wp_bind, k0_part24_eq_skeleton]
  unfold k0_part24_skel
  simp only [semSignalWord, semWaitWord, Prog.lift, Prog.bind_op, Prog.bind_ret, Prog.pure_eq_ret, wp_deviceId]
  iintro HptM6 Hk
  icases HptM6 with ⟨%XptM6, HptM6⟩
  iapply (wp_load_row 𝒱₀ (c : Thread nD τ) none (fun _ => rfl) squeezes_S1x256x1024_S256x1024 shapeCasts_S1x256x1024_S256x1024 shapeCasts_S256x1024_S1x256x1024) $$ [HptM6]
  · iexact HptM6
  iintro HptM6
  iapply (wp_store_row 𝒱₀ (c : Thread nD τ) none (fun _ => rfl) squeezes_S1x256x1024_S256x1024 shapeCasts_S1x256x1024_S256x1024) $$ [HptM6]
  · iexact HptM6
  iintro HptM6
  rw [hYptM6]
  rw [wp_ret]; imodintro
  iapply Hk $$ %_
  iexact HptM6

end Cert.KernelProof

end
-- ==== Proof.PartsC.lean ====
/-
The kernel's windows of statements, one rule each: what it needs, and what it leaves.
-/
module

public import proofs.«01_k».proof.Proof.Addr

@[expose] public section

set_option maxRecDepth 16384

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)
variable (K : Dev nD × Fin 29 → ℕ) {β : Type}

theorem w_part25 (c : Dev nD) (v13 : BitVec 32) (v24 : BitVec 32) (v969 : BitVec 32) (c0_i32_420 : BitVec 32) (hYlaM1 : shapeCast S256x1024 (k0_pay100 (shapeCast S1x256x1024 (la0 m ρ (rt c)) shapeCasts_S256x1024_S1x256x1024) (shapeCast S1x256x1024 (oth m ρ c (lf (lf c))) shapeCasts_S256x1024_S1x256x1024)) shapeCasts_S1x256x1024_S256x1024 = la1 m ρ c)
    {kk : (PUnit) → Prog (TpuEff nD τ sig (Elt F) Λ₀ .tc) β} {Q : β → sProp (MT nD τ sig Unit (Elt F) ℕ UU ℕ)} :
    iprop(glb m ρ K ∗ ow c [.inr 10, .inr 11, .inr 12, .inr 13] ∗ rcred c 8 ∗ rpos c 8 ∗ at' c ptM2 fullShare (oth m ρ c (lf (lf c))) ∗ free (tgt 10 c) laM2 ∗ xtok c 10)
      ⊢ iprop(((ow c [.inr 11, .inr 12, .inr 13] ∗ semVal (rCell c 8) 0 ∗ at' c ptM2 fullShare (oth m ρ c (lf (lf c))) ∗ scred c 10) -∗ wp frame (wpE (defs₀ (F := F)) 𝒱₀ (c : Thread nD τ) none) Set.univ (kk ⟨⟩) Q)
        -∗ wp frame (wpE (defs₀ (F := F)) 𝒱₀ (c : Thread nD τ) none) Set.univ (k0_part25 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 c v13 v24 v969 c0_i32_420 >>= kk) Q) := by
  rw [wp_bind, k0_part25_eq_skeleton]
  unfold k0_part25_skel
  simp only [semSignalWord, semWaitWord, Prog.lift, Prog.bind_op, Prog.bind_ret, Prog.pure_eq_ret, wp_deviceId]
  iintro ⟨#HG, HO, HRc8, HRp8, HptM2, HF10, HT10⟩ Hk
  iapply (wp_wr m ρ K c 8 [.inr 10, .inr 11, .inr 12, .inr 13] (by decide) (src := laM0) (dst := laM1) sem28_0 rfl) $$ [HO HRc8 HRp8]
  · isplitr; · iexact HG
    isplitl [HRc8]; · iexact HRc8
    isplitl [HO]; · iexact HO
    iexact HRp8
  iintro ⟨HO, HzR8, HlaM1⟩
  ihave HlaM1 := (show recvPay m ρ c 8 ⊢ at' c laM1 fullShare (la0 m ρ (rt c)) from .rfl) $$ HlaM1
  iapply (wp_load_row_as 𝒱₀ (c : Thread nD τ) none (m := Memref.whole cc0_scratch7) (r := Rect.unit (s := S4x256x1024) ![1, 0, 0] S1x256x1024.size inb_S4x256x1024_S1x256x1024_1_0_0) (fun _ => rfl) squeezes_S1x256x1024_S256x1024 shapeCasts_S1x256x1024_S256x1024 shapeCasts_S256x1024_S1x256x1024 (X := la0 m ρ (rt c)) (shapeCast S1x256x1024 (la0 m ρ (rt c)) shapeCasts_S256x1024_S1x256x1024) rfl) $$ [HlaM1]
  · iexact HlaM1
  iintro HlaM1
  iapply (wp_load_row_as 𝒱₀ (c : Thread nD τ) none (m := Memref.whole cc0_scratch5) (r := Rect.unit (s := S8x256x1024) ![2, 0, 0] S1x256x1024.size inb_S8x256x1024_S1x256x1024_2_0_0) (fun _ => rfl) squeezes_S1x256x1024_S256x1024 shapeCasts_S1x256x1024_S256x1024 shapeCasts_S256x1024_S1x256x1024 (X := oth m ρ c (lf (lf c))) (shapeCast S1x256x1024 (oth m ρ c (lf (lf c))) shapeCasts_S256x1024_S1x256x1024) rfl) $$ [HptM2]
  · iexact HptM2
  iintro HptM2
  iapply (wp_load_row_as 𝒱₀ (c : Thread nD τ) none (m := Memref.whole cc0_scratch7) (r := Rect.unit (s := S4x256x1024) ![1, 0, 0] S1x256x1024.size inb_S4x256x1024_S1x256x1024_1_0_0) (fun _ => rfl) squeezes_S1x256x1024_S256x1024 shapeCasts_S1x256x1024_S256x1024 shapeCasts_S256x1024_S1x256x1024 (X := la0 m ρ (rt c)) (shapeCast S1x256x1024 (la0 m ρ (rt c)) shapeCasts_S256x1024_S1x256x1024) rfl) $$ [HlaM1]
  · iexact HlaM1
  iintro HlaM1
  iapply (wp_store_row 𝒱₀ (c : Thread nD τ) none (fun _ => rfl) squeezes_S1x256x1024_S256x1024 shapeCasts_S1x256x1024_S256x1024) $$ [HlaM1]
  · iexact HlaM1
  iintro HlaM1
  rw [hYlaM1]
  iapply (wp_xfer m ρ K c _ 10 (dev16_eq c) [.inr 11, .inr 12, .inr 13] laM1 laM2 sem27_1 sem28_1 fullShare (la1 m ρ c) rfl (recv10_eq m ρ c) rfl) $$ [HO HlaM1 HF10 HT10]
  · isplitr; · iexact HG
    isplitl [HlaM1]; · iexact HlaM1
    isplitl [HF10]; · iexact HF10
    isplitl [HO]; · iexact HO
    iexact HT10
  iintro ⟨HC10, HO⟩
  rw [wp_ret]; imodintro
  iapply Hk
  isplitl [HO]; · iexact HO
  isplitl [HzR8]; · iexact HzR8
  isplitl [HptM2]; · iexact HptM2
  iexact HC10

theorem w_part26 (c : Dev nD) (v24 : BitVec 32) (hYraM1 : shapeCast S256x1024 (k0_pay101 (shapeCast S1x256x1024 (ra0 m ρ (lf c)) shapeCasts_S256x1024_S1x256x1024) (shapeCast S1x256x1024 (oth m ρ c (rt (rt c))) shapeCasts_S256x1024_S1x256x1024)) shapeCasts_S1x256x1024_S256x1024 = ra1 m ρ c)
    {kk : (Σ' (v1026 : FVec F S256x1024 .bf16), FVec F S256x3072 .f32) → Prog (TpuEff nD τ sig (Elt F) Λ₀ .tc) β} {Q : β → sProp (MT nD τ sig Unit (Elt F) ℕ UU ℕ)} :
    iprop(glb m ρ K ∗ ow c [.inr 11, .inr 12, .inr 13] ∗ rcred c 9 ∗ rpos c 9 ∗ at' c ptM6 fullShare (oth m ρ c (rt (rt c))) ∗ free (tgt 11 c) raM2 ∗ xtok c 11 ∗ at' c xrM1 hR (qx m ρ (lf c)))
      ⊢ iprop(((ow c [.inr 12, .inr 13] ∗ semVal (rCell c 9) 0 ∗ at' c ptM6 fullShare (oth m ρ c (rt (rt c))) ∗ scred c 11 ∗ at' c xrM1 hR (qx m ρ (lf c))) -∗ wp frame (wpE (defs₀ (F := F)) 𝒱₀ (c : Thread nD τ) none) Set.univ (kk ⟨k0_pay102 (shapeCast S1x256x1024 (qx m ρ (lf c)) shapeCasts_S256x1024_S1x256x1024), (constant S256x3072 .f32 0x00000000#32 : FVec F S256x3072 .f32)⟩) Q)
        -∗ wp frame (wpE (defs₀ (F := F)) 𝒱₀ (c : Thread nD τ) none) Set.univ (k0_part26 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 c v24 >>= kk) Q) := by
  rw [wp_bind, k0_part26_eq_skeleton]
  unfold k0_part26_skel
  simp only [semSignalWord, semWaitWord, Prog.lift, Prog.bind_op, Prog.bind_ret, Prog.pure_eq_ret, wp_deviceId]
  iintro ⟨#HG, HO, HRc9, HRp9, HptM6, HF11, HT11, HxrM1r⟩ Hk
  iapply (wp_wr m ρ K c 9 [.inr 11, .inr 12, .inr 13] (by decide) (src := raM0) (dst := raM1) sem26_0 rfl) $$ [HO HRc9 HRp9]
  · isplitr; · iexact HG
    isplitl [HRc9]; · iexact HRc9
    isplitl [HO]; · iexact HO
    iexact HRp9
  iintro ⟨HO, HzR9, HraM1⟩
  ihave HraM1 := (show recvPay m ρ c 9 ⊢ at' c raM1 fullShare (ra0 m ρ (lf c)) from .rfl) $$ HraM1
  iapply (wp_load_row_as 𝒱₀ (c : Thread nD τ) none (m := Memref.whole cc0_scratch6) (r := Rect.unit (s := S4x256x1024) ![1, 0, 0] S1x256x1024.size inb_S4x256x1024_S1x256x1024_1_0_0) (fun _ => rfl) squeezes_S1x256x1024_S256x1024 shapeCasts_S1x256x1024_S256x1024 shapeCasts_S256x1024_S1x256x1024 (X := ra0 m ρ (lf c)) (shapeCast S1x256x1024 (ra0 m ρ (lf c)) shapeCasts_S256x1024_S1x256x1024) rfl) $$ [HraM1]
  · iexact HraM1
  iintro HraM1
  iapply (wp_load_row_as 𝒱₀ (c : Thread nD τ) none (m := Memref.whole cc0_scratch5) (r := Rect.unit (s := S8x256x1024) ![6, 0, 0] S1x256x1024.size inb_S8x256x1024_S1x256x1024_6_0_0) (fun _ => rfl) squeezes_S1x256x1024_S256x1024 shapeCasts_S1x256x1024_S256x1024 shapeCasts_S256x1024_S1x256x1024 (X := oth m ρ c (rt (rt c))) (shapeCast S1x256x1024 (oth m ρ c (rt (rt c))) shapeCasts_S256x1024_S1x256x1024) rfl) $$ [HptM6]
  · iexact HptM6
  iintro HptM6
  iapply (wp_load_row_as 𝒱₀ (c : Thread nD τ) none (m := Memref.whole cc0_scratch6) (r := Rect.unit (s := S4x256x1024) ![1, 0, 0] S1x256x1024.size inb_S4x256x1024_S1x256x1024_1_0_0) (fun _ => rfl) squeezes_S1x256x1024_S256x1024 shapeCasts_S1x256x1024_S256x1024 shapeCasts_S256x1024_S1x256x1024 (X := ra0 m ρ (lf c)) (shapeCast S1x256x1024 (ra0 m ρ (lf c)) shapeCasts_S256x1024_S1x256x1024) rfl) $$ [HraM1]
  · iexact HraM1
  iintro HraM1
  iapply (wp_store_row 𝒱₀ (c : Thread nD τ) none (fun _ => rfl) squeezes_S1x256x1024_S256x1024 shapeCasts_S1x256x1024_S256x1024) $$ [HraM1]
  · iexact HraM1
  iintro HraM1
  rw [hYraM1]
  iapply (wp_xfer m ρ K c _ 11 (dev17_eq c) [.inr 12, .inr 13] raM1 raM2 sem25_1 sem26_1 fullShare (ra1 m ρ c) rfl (recv11_eq m ρ c) rfl) $$ [HO HraM1 HF11 HT11]
  · isplitr; · iexact HG
    isplitl [HraM1]; · iexact HraM1
    isplitl [HF11]; · iexact HF11
    isplitl [HO]; · iexact HO
    iexact HT11
  iintro ⟨HC11, HO⟩
  iapply (wp_load_row_as 𝒱₀ (c : Thread nD τ) none (m := Memref.whole cc0_scratch0) (r := Rect.unit (s := S3x256x1024) ![1, 0, 0] S1x256x1024.size inb_S3x256x1024_S1x256x1024_1_0_0) (fun _ => rfl) squeezes_S1x256x1024_S256x1024 shapeCasts_S1x256x1024_S256x1024 shapeCasts_S256x1024_S1x256x1024 (X := qx m ρ (lf c)) (shapeCast S1x256x1024 (qx m ρ (lf c)) shapeCasts_S256x1024_S1x256x1024) rfl) $$ [HxrM1r]
  · iexact HxrM1r
  iintro HxrM1r
  rw [wp_ret]; imodintro
  iapply Hk
  isplitl [HO]; · iexact HO
  isplitl [HzR9]; · iexact HzR9
  isplitl [HptM6]; · iexact HptM6
  isplitl [HC11]; · iexact HC11
  iexact HxrM1r

theorem w_part27 (c : Dev nD) (v141 : FVec F S1024x3072 .bf16) (v1026 : FVec F S256x1024 .bf16) (cst_476 : FVec F S256x3072 .f32)
    {kk : (Σ' (v1029 : FVec F S256x1024 .bf16) (v1030 : FVec F S256x1024 .bf16) (v1031 : FVec F S256x1024 .bf16) (v1044 : FVec F S256x128 .bf16) (v1057 : FVec F S256x128 .bf16) (v1070 : FVec F S256x128 .bf16) (v1073 : FVec F S256x128 .bf16), FVec F S256x256 .bf16) → Prog (TpuEff nD τ sig (Elt F) Λ₀ .tc) β} {Q : β → sProp (MT nD τ sig Unit (Elt F) ℕ UU ℕ)} :
    (wp frame (wpE (defs₀ (F := F)) 𝒱₀ (c : Thread nD τ) none) Set.univ (kk ⟨k0_pay104 v141 v1026 cst_476, k0_pay105 v141 v1026 cst_476, k0_pay106 v141 v1026 cst_476, k0_pay107 v141 v1026 cst_476, k0_pay108 v141 v1026 cst_476, k0_pay109 v141 v1026 cst_476, k0_pay110 v141 v1026 cst_476, k0_pay111 v141 v1026 cst_476⟩) Q : sProp 𝕄)
      ⊢ wp frame (wpE (defs₀ (F := F)) 𝒱₀ (c : Thread nD τ) none) Set.univ (k0_part27 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 v141 v1026 cst_476 >>= kk) Q := by
  rw [wp_bind, k0_part27_eq_skeleton]
  unfold k0_part27_skel
  simp only [semSignalWord, semWaitWord, Prog.lift, Prog.bind_op, Prog.bind_ret, Prog.pure_eq_ret, wp_deviceId]
  iintro Hk
  rw [wp_ret]; imodintro
  iapply Hk

theorem w_part28 (c : Dev nD) (v1029 : FVec F S256x1024 .bf16) (v1030 : FVec F S256x1024 .bf16) (v1031 : FVec F S256x1024 .bf16) (v1073 : FVec F S256x128 .bf16) (v1076 : FVec F S256x256 .bf16)
    {kk : (Σ' (v1083 : FVec F S256x128 .bf16) (v1096 : FVec F S256x128 .bf16) (v1109 : FVec F S256x128 .bf16) (v1122 : FVec F S256x128 .bf16) (v1123 : FVec F S256x128 .bf16) (v1124 : FVec F S256x128 .bf16), FVec F S256x128 .bf16) → Prog (TpuEff nD τ sig (Elt F) Λ₀ .tc) β} {Q : β → sProp (MT nD τ sig Unit (Elt F) ℕ UU ℕ)} :
    (wp frame (wpE (defs₀ (F := F)) 𝒱₀ (c : Thread nD τ) none) Set.univ (kk ⟨k0_pay112 v1073 v1076, k0_pay113 v1029 v1030 v1031, k0_pay114 v1029 v1030 v1031, k0_pay115 v1029 v1030 v1031, k0_pay116 v1029, k0_pay117 v1030, k0_pay118 v1031⟩) Q : sProp 𝕄)
      ⊢ wp frame (wpE (defs₀ (F := F)) 𝒱₀ (c : Thread nD τ) none) Set.univ (k0_part28 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 v1029 v1030 v1031 v1073 v1076 >>= kk) Q := by
  rw [wp_bind, k0_part28_eq_skeleton]
  unfold k0_part28_skel
  simp only [semSignalWord, semWaitWord, Prog.lift, Prog.bind_op, Prog.bind_ret, Prog.pure_eq_ret, wp_deviceId]
  iintro Hk
  rw [wp_ret]; imodintro
  iapply Hk

theorem w_part29 (c : Dev nD) (v141 : FVec F S1024x3072 .bf16) (v143 : FVec F S1024x1024 .bf16) (v1044 : FVec F S256x128 .bf16) (v1057 : FVec F S256x128 .bf16) (v1070 : FVec F S256x128 .bf16) (v1083 : FVec F S256x128 .bf16) (v1096 : FVec F S256x128 .bf16) (v1109 : FVec F S256x128 .bf16) (v1122 : FVec F S256x128 .bf16) (v1123 : FVec F S256x128 .bf16) (v1124 : FVec F S256x128 .bf16) (v1125 : FVec F S256x128 .bf16) (hYptM1 : shapeCast S256x1024 (k0_pay119 v143 v1044 v1057 v1070 v1083 v1096 v1109 v1122 v1123 v1124 v1125) shapeCasts_S1x256x1024_S256x1024 = oth m ρ c (lf c))
    {kk : (Σ' (v1150 : FVec F S256x1024 .bf16) (v1151 : FVec F S256x1024 .bf16) (v1152 : FVec F S256x1024 .bf16) (v1165 : FVec F S256x128 .bf16) (v1166 : FVec F S256x128 .bf16) (v1167 : FVec F S256x128 .bf16) (v1168 : FVec F S256x128 .bf16), FVec F S256x256 .f32) → Prog (TpuEff nD τ sig (Elt F) Λ₀ .tc) β} {Q : β → sProp (MT nD τ sig Unit (Elt F) ℕ UU ℕ)} :
    iprop(free c ptM1 ∗ at' c xlM1 hR (qx m ρ (rt c)))
      ⊢ iprop(((at' c ptM1 fullShare (oth m ρ c (lf c)) ∗ at' c xlM1 hR (qx m ρ (rt c))) -∗ wp frame (wpE (defs₀ (F := F)) 𝒱₀ (c : Thread nD τ) none) Set.univ (kk ⟨k0_pay121 v141 (shapeCast S1x256x1024 (qx m ρ (rt c)) shapeCasts_S256x1024_S1x256x1024), k0_pay122 v141 (shapeCast S1x256x1024 (qx m ρ (rt c)) shapeCasts_S256x1024_S1x256x1024), k0_pay123 v141 (shapeCast S1x256x1024 (qx m ρ (rt c)) shapeCasts_S256x1024_S1x256x1024), k0_pay124 v141 (shapeCast S1x256x1024 (qx m ρ (rt c)) shapeCasts_S256x1024_S1x256x1024), k0_pay125 v141 (shapeCast S1x256x1024 (qx m ρ (rt c)) shapeCasts_S256x1024_S1x256x1024), k0_pay126 v141 (shapeCast S1x256x1024 (qx m ρ (rt c)) shapeCasts_S256x1024_S1x256x1024), k0_pay127 v141 (shapeCast S1x256x1024 (qx m ρ (rt c)) shapeCasts_S256x1024_S1x256x1024), (constant S256x256 .f32 0x00000000#32 : FVec F S256x256 .f32)⟩) Q)
        -∗ wp frame (wpE (defs₀ (F := F)) 𝒱₀ (c : Thread nD τ) none) Set.univ (k0_part29 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 v141 v143 v1044 v1057 v1070 v1083 v1096 v1109 v1122 v1123 v1124 v1125 >>= kk) Q) := by
  rw [wp_bind, k0_part29_eq_skeleton]
  unfold k0_part29_skel
  simp only [semSignalWord, semWaitWord, Prog.lift, Prog.bind_op, Prog.bind_ret, Prog.pure_eq_ret, wp_deviceId]
  iintro ⟨HptM1, HxlM1r⟩ Hk
  icases HptM1 with ⟨%XptM1, HptM1⟩
  iapply (wp_load_row 𝒱₀ (c : Thread nD τ) none (fun _ => rfl) squeezes_S1x256x1024_S256x1024 shapeCasts_S1x256x1024_S256x1024 shapeCasts_S256x1024_S1x256x1024) $$ [HptM1]
  · iexact HptM1
  iintro HptM1
  iapply (wp_store_row 𝒱₀ (c : Thread nD τ) none (fun _ => rfl) squeezes_S1x256x1024_S256x1024 shapeCasts_S1x256x1024_S256x1024) $$ [HptM1]
  · iexact HptM1
  iintro HptM1
  rw [hYptM1]
  iapply (wp_load_row_as 𝒱₀ (c : Thread nD τ) none (m := Memref.whole cc0_scratch1) (r := Rect.unit (s := S3x256x1024) ![1, 0, 0] S1x256x1024.size inb_S3x256x1024_S1x256x1024_1_0_0) (fun _ => rfl) squeezes_S1x256x1024_S256x1024 shapeCasts_S1x256x1024_S256x1024 shapeCasts_S256x1024_S1x256x1024 (X := qx m ρ (rt c)) (shapeCast S1x256x1024 (qx m ρ (rt c)) shapeCasts_S256x1024_S1x256x1024) rfl) $$ [HxlM1r]
  · iexact HxlM1r
  iintro HxlM1r
  rw [wp_ret]; imodintro
  iapply Hk
  isplitl [HptM1]; · iexact HptM1
  iexact HxlM1r

theorem w_part30 (c : Dev nD) (v1150 : FVec F S256x1024 .bf16) (v1151 : FVec F S256x1024 .bf16) (v1152 : FVec F S256x1024 .bf16) (v1166 : FVec F S256x128 .bf16) (v1167 : FVec F S256x128 .bf16) (v1168 : FVec F S256x128 .bf16) (cst_513 : FVec F S256x256 .f32)
    {kk : (Σ' (v1178 : FVec F S256x128 .bf16) (v1191 : FVec F S256x128 .bf16) (v1204 : FVec F S256x128 .bf16), FVec F S256x128 .bf16) → Prog (TpuEff nD τ sig (Elt F) Λ₀ .tc) β} {Q : β → sProp (MT nD τ sig Unit (Elt F) ℕ UU ℕ)} :
    (wp frame (wpE (defs₀ (F := F)) 𝒱₀ (c : Thread nD τ) none) Set.univ (kk ⟨k0_pay128 v1166 v1167 v1168 cst_513, k0_pay129 v1150 v1151 v1152, k0_pay130 v1150 v1151 v1152, k0_pay131 v1150 v1151 v1152⟩) Q : sProp 𝕄)
      ⊢ wp frame (wpE (defs₀ (F := F)) 𝒱₀ (c : Thread nD τ) none) Set.univ (k0_part30 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 v1150 v1151 v1152 v1166 v1167 v1168 cst_513 >>= kk) Q := by
  rw [wp_bind, k0_part30_eq_skeleton]
  unfold k0_part30_skel
  simp only [semSignalWord, semWaitWord, Prog.lift, Prog.bind_op, Prog.bind_ret, Prog.pure_eq_ret, wp_deviceId]
  iintro Hk
  rw [wp_ret]; imodintro
  iapply Hk

theorem w_part31 (c : Dev nD) (v143 : FVec F S1024x1024 .bf16) (v1150 : FVec F S256x1024 .bf16) (v1151 : FVec F S256x1024 .bf16) (v1152 : FVec F S256x1024 .bf16) (v1165 : FVec F S256x128 .bf16) (v1178 : FVec F S256x128 .bf16) (v1191 : FVec F S256x128 .bf16) (v1204 : FVec F S256x128 .bf16) (v1217 : FVec F S256x128 .bf16) (hYptM7 : shapeCast S256x1024 (k0_pay132 v143 v1150 v1151 v1152 v1165 v1178 v1191 v1204 v1217) shapeCasts_S1x256x1024_S256x1024 = oth m ρ c (rt c))
    {kk : (PUnit) → Prog (TpuEff nD τ sig (Elt F) Λ₀ .tc) β} {Q : β → sProp (MT nD τ sig Unit (Elt F) ℕ UU ℕ)} :
    iprop(free c ptM7)
      ⊢ iprop(((at' c ptM7 fullShare (oth m ρ c (rt c))) -∗ wp frame (wpE (defs₀ (F := F)) 𝒱₀ (c : Thread nD τ) none) Set.univ (kk ⟨⟩) Q)
        -∗ wp frame (wpE (defs₀ (F := F)) 𝒱₀ (c : Thread nD τ) none) Set.univ (k0_part31 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 v143 v1150 v1151 v1152 v1165 v1178 v1191 v1204 v1217 >>= kk) Q) := by
  rw [wp_bind, k0_part31_eq_skeleton]
  unfold k0_part31_skel
  simp only [semSignalWord, semWaitWord, Prog.lift, Prog.bind_op, Prog.bind_ret, Prog.pure_eq_ret, wp_deviceId]
  iintro HptM7 Hk
  icases HptM7 with ⟨%XptM7, HptM7⟩
  iapply (wp_load_row 𝒱₀ (c : Thread nD τ) none (fun _ => rfl) squeezes_S1x256x1024_S256x1024 shapeCasts_S1x256x1024_S256x1024 shapeCasts_S256x1024_S1x256x1024) $$ [HptM7]
  · iexact HptM7
  iintro HptM7
  iapply (wp_store_row 𝒱₀ (c : Thread nD τ) none (fun _ => rfl) squeezes_S1x256x1024_S256x1024 shapeCasts_S1x256x1024_S256x1024) $$ [HptM7]
  · iexact HptM7
  iintro HptM7
  rw [hYptM7]
  rw [wp_ret]; imodintro
  iapply Hk
  iexact HptM7

theorem w_part32 (c : Dev nD) (v13 : BitVec 32) (hYlaM2 : shapeCast S256x1024 (k0_pay133 (shapeCast S1x256x1024 (la1 m ρ (rt c)) shapeCasts_S256x1024_S1x256x1024) (shapeCast S1x256x1024 (oth m ρ c (lf c)) shapeCasts_S256x1024_S1x256x1024)) shapeCasts_S1x256x1024_S256x1024 = la2 m ρ c)
    {kk : (PUnit) → Prog (TpuEff nD τ sig (Elt F) Λ₀ .tc) β} {Q : β → sProp (MT nD τ sig Unit (Elt F) ℕ UU ℕ)} :
    iprop(glb m ρ K ∗ ow c [.inr 12, .inr 13] ∗ rcred c 10 ∗ rpos c 10 ∗ at' c ptM1 fullShare (oth m ρ c (lf c)) ∗ free (tgt 12 c) laM3 ∗ xtok c 12)
      ⊢ iprop(((ow c [.inr 13] ∗ semVal (rCell c 10) 0 ∗ at' c ptM1 fullShare (oth m ρ c (lf c)) ∗ scred c 12) -∗ wp frame (wpE (defs₀ (F := F)) 𝒱₀ (c : Thread nD τ) none) Set.univ (kk ⟨⟩) Q)
        -∗ wp frame (wpE (defs₀ (F := F)) 𝒱₀ (c : Thread nD τ) none) Set.univ (k0_part32 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 c v13 >>= kk) Q) := by
  rw [wp_bind, k0_part32_eq_skeleton]
  unfold k0_part32_skel
  simp only [semSignalWord, semWaitWord, Prog.lift, Prog.bind_op, Prog.bind_ret, Prog.pure_eq_ret, wp_deviceId]
  iintro ⟨#HG, HO, HRc10, HRp10, HptM1, HF12, HT12⟩ Hk
  iapply (wp_wr m ρ K c 10 [.inr 12, .inr 13] (by decide) (src := laM1) (dst := laM2) sem28_1 rfl) $$ [HO HRc10 HRp10]
  · isplitr; · iexact HG
    isplitl [HRc10]; · iexact HRc10
    isplitl [HO]; · iexact HO
    iexact HRp10
  iintro ⟨HO, HzR10, HlaM2⟩
  ihave HlaM2 := (show recvPay m ρ c 10 ⊢ at' c laM2 fullShare (la1 m ρ (rt c)) from .rfl) $$ HlaM2
  iapply (wp_load_row_as 𝒱₀ (c : Thread nD τ) none (m := Memref.whole cc0_scratch7) (r := Rect.unit (s := S4x256x1024) ![2, 0, 0] S1x256x1024.size inb_S4x256x1024_S1x256x1024_2_0_0) (fun _ => rfl) squeezes_S1x256x1024_S256x1024 shapeCasts_S1x256x1024_S256x1024 shapeCasts_S256x1024_S1x256x1024 (X := la1 m ρ (rt c)) (shapeCast S1x256x1024 (la1 m ρ (rt c)) shapeCasts_S256x1024_S1x256x1024) rfl) $$ [HlaM2]
  · iexact HlaM2
  iintro HlaM2
  iapply (wp_load_row_as 𝒱₀ (c : Thread nD τ) none (m := Memref.whole cc0_scratch5) (r := Rect.unit (s := S8x256x1024) ![1, 0, 0] S1x256x1024.size inb_S8x256x1024_S1x256x1024_1_0_0) (fun _ => rfl) squeezes_S1x256x1024_S256x1024 shapeCasts_S1x256x1024_S256x1024 shapeCasts_S256x1024_S1x256x1024 (X := oth m ρ c (lf c)) (shapeCast S1x256x1024 (oth m ρ c (lf c)) shapeCasts_S256x1024_S1x256x1024) rfl) $$ [HptM1]
  · iexact HptM1
  iintro HptM1
  iapply (wp_load_row_as 𝒱₀ (c : Thread nD τ) none (m := Memref.whole cc0_scratch7) (r := Rect.unit (s := S4x256x1024) ![2, 0, 0] S1x256x1024.size inb_S4x256x1024_S1x256x1024_2_0_0) (fun _ => rfl) squeezes_S1x256x1024_S256x1024 shapeCasts_S1x256x1024_S256x1024 shapeCasts_S256x1024_S1x256x1024 (X := la1 m ρ (rt c)) (shapeCast S1x256x1024 (la1 m ρ (rt c)) shapeCasts_S256x1024_S1x256x1024) rfl) $$ [HlaM2]
  · iexact HlaM2
  iintro HlaM2
  iapply (wp_store_row 𝒱₀ (c : Thread nD τ) none (fun _ => rfl) squeezes_S1x256x1024_S256x1024 shapeCasts_S1x256x1024_S256x1024) $$ [HlaM2]
  · iexact HlaM2
  iintro HlaM2
  rw [hYlaM2]
  iapply (wp_xfer m ρ K c _ 12 (dev18_eq c) [.inr 13] laM2 laM3 sem27_2 sem28_2 fullShare (la2 m ρ c) rfl (recv12_eq m ρ c) rfl) $$ [HO HlaM2 HF12 HT12]
  · isplitr; · iexact HG
    isplitl [HlaM2]; · iexact HlaM2
    isplitl [HF12]; · iexact HF12
    isplitl [HO]; · iexact HO
    iexact HT12
  iintro ⟨HC12, HO⟩
  rw [wp_ret]; imodintro
  iapply Hk
  isplitl [HO]; · iexact HO
  isplitl [HzR10]; · iexact HzR10
  isplitl [HptM1]; · iexact HptM1
  iexact HC12

theorem w_part33 (c : Dev nD) (v24 : BitVec 32) (hYraM2 : shapeCast S256x1024 (k0_pay134 (shapeCast S1x256x1024 (ra1 m ρ (lf c)) shapeCasts_S256x1024_S1x256x1024) (shapeCast S1x256x1024 (oth m ρ c (rt c)) shapeCasts_S256x1024_S1x256x1024)) shapeCasts_S1x256x1024_S256x1024 = ra2 m ρ c)
    {kk : (BitVec 32) → Prog (TpuEff nD τ sig (Elt F) Λ₀ .tc) β} {Q : β → sProp (MT nD τ sig Unit (Elt F) ℕ UU ℕ)} :
    iprop(glb m ρ K ∗ ow c [.inr 13] ∗ rcred c 11 ∗ rpos c 11 ∗ at' c ptM7 fullShare (oth m ρ c (rt c)) ∗ free (tgt 13 c) raM3 ∗ xtok c 13)
      ⊢ iprop(((ow c [] ∗ semVal (rCell c 11) 0 ∗ at' c ptM7 fullShare (oth m ρ c (rt c)) ∗ scred c 13) -∗ wp frame (wpE (defs₀ (F := F)) 𝒱₀ (c : Thread nD τ) none) Set.univ (kk 1#32) Q)
        -∗ wp frame (wpE (defs₀ (F := F)) 𝒱₀ (c : Thread nD τ) none) Set.univ (k0_part33 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 c v24 >>= kk) Q) := by
  rw [wp_bind, k0_part33_eq_skeleton]
  unfold k0_part33_skel
  simp only [semSignalWord, semWaitWord, Prog.lift, Prog.bind_op, Prog.bind_ret, Prog.pure_eq_ret, wp_deviceId]
  iintro ⟨#HG, HO, HRc11, HRp11, HptM7, HF13, HT13⟩ Hk
  iapply (wp_wr m ρ K c 11 [.inr 13] (by decide) (src := raM1) (dst := raM2) sem26_1 rfl) $$ [HO HRc11 HRp11]
  · isplitr; · iexact HG
    isplitl [HRc11]; · iexact HRc11
    isplitl [HO]; · iexact HO
    iexact HRp11
  iintro ⟨HO, HzR11, HraM2⟩
  ihave HraM2 := (show recvPay m ρ c 11 ⊢ at' c raM2 fullShare (ra1 m ρ (lf c)) from .rfl) $$ HraM2
  iapply (wp_load_row_as 𝒱₀ (c : Thread nD τ) none (m := Memref.whole cc0_scratch6) (r := Rect.unit (s := S4x256x1024) ![2, 0, 0] S1x256x1024.size inb_S4x256x1024_S1x256x1024_2_0_0) (fun _ => rfl) squeezes_S1x256x1024_S256x1024 shapeCasts_S1x256x1024_S256x1024 shapeCasts_S256x1024_S1x256x1024 (X := ra1 m ρ (lf c)) (shapeCast S1x256x1024 (ra1 m ρ (lf c)) shapeCasts_S256x1024_S1x256x1024) rfl) $$ [HraM2]
  · iexact HraM2
  iintro HraM2
  iapply (wp_load_row_as 𝒱₀ (c : Thread nD τ) none (m := Memref.whole cc0_scratch5) (r := Rect.unit (s := S8x256x1024) ![7, 0, 0] S1x256x1024.size inb_S8x256x1024_S1x256x1024_7_0_0) (fun _ => rfl) squeezes_S1x256x1024_S256x1024 shapeCasts_S1x256x1024_S256x1024 shapeCasts_S256x1024_S1x256x1024 (X := oth m ρ c (rt c)) (shapeCast S1x256x1024 (oth m ρ c (rt c)) shapeCasts_S256x1024_S1x256x1024) rfl) $$ [HptM7]
  · iexact HptM7
  iintro HptM7
  iapply (wp_load_row_as 𝒱₀ (c : Thread nD τ) none (m := Memref.whole cc0_scratch6) (r := Rect.unit (s := S4x256x1024) ![2, 0, 0] S1x256x1024.size inb_S4x256x1024_S1x256x1024_2_0_0) (fun _ => rfl) squeezes_S1x256x1024_S256x1024 shapeCasts_S1x256x1024_S256x1024 shapeCasts_S256x1024_S1x256x1024 (X := ra1 m ρ (lf c)) (shapeCast S1x256x1024 (ra1 m ρ (lf c)) shapeCasts_S256x1024_S1x256x1024) rfl) $$ [HraM2]
  · iexact HraM2
  iintro HraM2
  iapply (wp_store_row 𝒱₀ (c : Thread nD τ) none (fun _ => rfl) squeezes_S1x256x1024_S256x1024 shapeCasts_S1x256x1024_S256x1024) $$ [HraM2]
  · iexact HraM2
  iintro HraM2
  rw [hYraM2]
  iapply (wp_xfer m ρ K c _ 13 (dev19_eq c) [] raM2 raM3 sem25_2 sem26_2 fullShare (ra2 m ρ c) rfl (recv13_eq m ρ c) rfl) $$ [HO HraM2 HF13 HT13]
  · isplitr; · iexact HG
    isplitl [HraM2]; · iexact HraM2
    isplitl [HF13]; · iexact HF13
    isplitl [HO]; · iexact HO
    iexact HT13
  iintro ⟨HC13, HO⟩
  rw [wp_ret]; imodintro
  iapply Hk
  isplitl [HO]; · iexact HO
  isplitl [HzR11]; · iexact HzR11
  isplitl [HptM7]; · iexact HptM7
  iexact HC13

theorem w_part34 (c : Dev nD) (v2 : BitVec 32) (v13 : BitVec 32) (v24 : BitVec 32) (c1_i32_599 : BitVec 32)
    {kk : (Σ' (v1341 : FVec F S256x1024 .f32), FVec F S256x1024 .bf16) → Prog (TpuEff nD τ sig (Elt F) Λ₀ .tc) β} {Q : β → sProp (MT nD τ sig Unit (Elt F) ℕ UU ℕ)} :
    iprop(glb m ρ K ∗ ow c [] ∗ rcred c 12 ∗ rpos c 12 ∗ rcred c 13 ∗ rpos c 13 ∗ rcred c 5 ∗ rpos c 5 ∗ at' c ptM0 fullShare (own m ρ c))
      ⊢ iprop(((ow c [] ∗ semVal (rCell c 12) 0 ∗ at' c laM3 fullShare (la2 m ρ (rt c)) ∗ semVal (rCell c 13) 0 ∗ at' c raM3 fullShare (ra2 m ρ (lf c)) ∗ semVal (rCell c 5) 0 ∗ at' c zrM fullShare (oth m ρ (op c) c) ∗ at' c ptM0 fullShare (own m ρ c)) -∗ wp frame (wpE (defs₀ (F := F)) 𝒱₀ (c : Thread nD τ) none) Set.univ (kk ⟨k0_pay135 (shapeCast S1x256x1024 (own m ρ c) shapeCasts_S256x1024_S1x256x1024) (shapeCast S1x256x1024 (la2 m ρ (rt c)) shapeCasts_S256x1024_S1x256x1024), k0_pay136 (shapeCast S1x256x1024 (ra2 m ρ (lf c)) shapeCasts_S256x1024_S1x256x1024)⟩) Q)
        -∗ wp frame (wpE (defs₀ (F := F)) 𝒱₀ (c : Thread nD τ) none) Set.univ (k0_part34 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 v2 v13 v24 c1_i32_599 >>= kk) Q) := by
  rw [wp_bind, k0_part34_eq_skeleton]
  unfold k0_part34_skel
  simp only [semSignalWord, semWaitWord, Prog.lift, Prog.bind_op, Prog.bind_ret, Prog.pure_eq_ret, wp_deviceId]
  iintro ⟨#HG, HO, HRc12, HRp12, HRc13, HRp13, HRc5, HRp5, HptM0⟩ Hk
  iapply (wp_wr m ρ K c 12 [] (by decide) (src := laM2) (dst := laM3) sem28_2 rfl) $$ [HO HRc12 HRp12]
  · isplitr; · iexact HG
    isplitl [HRc12]; · iexact HRc12
    isplitl [HO]; · iexact HO
    iexact HRp12
  iintro ⟨HO, HzR12, HlaM3⟩
  ihave HlaM3 := (show recvPay m ρ c 12 ⊢ at' c laM3 fullShare (la2 m ρ (rt c)) from .rfl) $$ HlaM3
  iapply (wp_wr m ρ K c 13 [] (by decide) (src := raM2) (dst := raM3) sem26_2 rfl) $$ [HO HRc13 HRp13]
  · isplitr; · iexact HG
    isplitl [HRc13]; · iexact HRc13
    isplitl [HO]; · iexact HO
    iexact HRp13
  iintro ⟨HO, HzR13, HraM3⟩
  ihave HraM3 := (show recvPay m ρ c 13 ⊢ at' c raM3 fullShare (ra2 m ρ (lf c)) from .rfl) $$ HraM3
  iapply (wp_wr m ρ K c 5 [] (by decide) (src := zrM) (dst := zrM) sem30_0 rfl) $$ [HO HRc5 HRp5]
  · isplitr; · iexact HG
    isplitl [HRc5]; · iexact HRc5
    isplitl [HO]; · iexact HO
    iexact HRp5
  iintro ⟨HO, HzR5, HzrM⟩
  ihave HzrM := (show recvPay m ρ c 5 ⊢ at' c zrM fullShare (oth m ρ (op c) c) from .rfl) $$ HzrM
  iapply (wp_load_row_as 𝒱₀ (c : Thread nD τ) none (m := Memref.whole cc0_scratch5) (r := Rect.unit (s := S8x256x1024) ![0, 0, 0] S1x256x1024.size inb_S8x256x1024_S1x256x1024_0_0_0) (fun _ => rfl) squeezes_S1x256x1024_S256x1024 shapeCasts_S1x256x1024_S256x1024 shapeCasts_S256x1024_S1x256x1024 (X := own m ρ c) (shapeCast S1x256x1024 (own m ρ c) shapeCasts_S256x1024_S1x256x1024) rfl) $$ [HptM0]
  · iexact HptM0
  iintro HptM0
  iapply (wp_load_row_as 𝒱₀ (c : Thread nD τ) none (m := Memref.whole cc0_scratch7) (r := Rect.unit (s := S4x256x1024) ![3, 0, 0] S1x256x1024.size inb_S4x256x1024_S1x256x1024_3_0_0) (fun _ => rfl) squeezes_S1x256x1024_S256x1024 shapeCasts_S1x256x1024_S256x1024 shapeCasts_S256x1024_S1x256x1024 (X := la2 m ρ (rt c)) (shapeCast S1x256x1024 (la2 m ρ (rt c)) shapeCasts_S256x1024_S1x256x1024) rfl) $$ [HlaM3]
  · iexact HlaM3
  iintro HlaM3
  iapply (wp_load_row_as 𝒱₀ (c : Thread nD τ) none (m := Memref.whole cc0_scratch6) (r := Rect.unit (s := S4x256x1024) ![3, 0, 0] S1x256x1024.size inb_S4x256x1024_S1x256x1024_3_0_0) (fun _ => rfl) squeezes_S1x256x1024_S256x1024 shapeCasts_S1x256x1024_S256x1024 shapeCasts_S256x1024_S1x256x1024 (X := ra2 m ρ (lf c)) (shapeCast S1x256x1024 (ra2 m ρ (lf c)) shapeCasts_S256x1024_S1x256x1024) rfl) $$ [HraM3]
  · iexact HraM3
  iintro HraM3
  rw [wp_ret]; imodintro
  iapply Hk
  isplitl [HO]; · iexact HO
  isplitl [HzR12]; · iexact HzR12
  isplitl [HlaM3]; · iexact HlaM3
  isplitl [HzR13]; · iexact HzR13
  isplitl [HraM3]; · iexact HraM3
  isplitl [HzR5]; · iexact HzR5
  isplitl [HzrM]; · iexact HzrM
  iexact HptM0

theorem w_part35 (c : Dev nD) (v1341 : FVec F S256x1024 .f32) (v1343 : FVec F S256x1024 .bf16) (hYoutM : (k0_pay137 v1341 v1343 (oth m ρ (op c) c)) = outv m ρ c)
    {kk : (PUnit) → Prog (TpuEff nD τ sig (Elt F) Λ₀ .tc) β} {Q : β → sProp (MT nD τ sig Unit (Elt F) ℕ UU ℕ)} :
    iprop(glb m ρ K ∗ ow c [] ∗ at' c zrM fullShare (oth m ρ (op c) c) ∗ freeS c outM ∗ scred c 0 ∗ spos c 0 ∗ scred c 1 ∗ spos c 1 ∗ scred c 2 ∗ spos c 2)
      ⊢ iprop(((ow c [] ∗ at' c zrM fullShare (oth m ρ (op c) c) ∗ atS c outM (outv m ρ c) ∗ semVal (sCell c 0) 0 ∗ at' c xrM0 q1 (qx m ρ c) ∗ semVal (sCell c 1) 0 ∗ at' c xrM0 q2 (qx m ρ c) ∗ semVal (sCell c 2) 0 ∗ at' c xrM0 q3 (qx m ρ c)) -∗ wp frame (wpE (defs₀ (F := F)) 𝒱₀ (c : Thread nD τ) none) Set.univ (kk ⟨⟩) Q)
        -∗ wp frame (wpE (defs₀ (F := F)) 𝒱₀ (c : Thread nD τ) none) Set.univ (k0_part35 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 v1341 v1343 >>= kk) Q) := by
  rw [wp_bind, k0_part35_eq_skeleton]
  unfold k0_part35_skel
  simp only [semSignalWord, semWaitWord, Prog.lift, Prog.bind_op, Prog.bind_ret, Prog.pure_eq_ret, wp_deviceId]
  iintro ⟨#HG, HO, HzrM, HoutM, HC0, HSp0, HC1, HSp1, HC2, HSp2⟩ Hk
  iapply (wp_load_all 𝒱₀ (c : Thread nD τ) none (m := zrM) (View.set_whole _) (rd_zrM)) $$ [HzrM]
  · iexact HzrM
  iintro HzrM
  icases HoutM with ⟨%Xo, HoutM⟩
  iapply (wp_load_all 𝒱₀ (c : Thread nD τ) none (m := outM) (View.set_whole _) (rd_outM)) $$ [HoutM]
  · iexact HoutM
  iintro HoutM
  iapply (wp_store_all 𝒱₀ (c : Thread nD τ) none (m := outM) (View.set_whole _) (wr_outM)) $$ [HoutM]
  · iexact HoutM
  iintro HoutM
  rw [hYoutM]
  iapply (wp_ws m ρ K c 0 [] (by decide) (src := xzM) (dst := xrM0) sem23_0 rfl) $$ [HO HC0 HSp0]
  · isplitr; · iexact HG
    isplitl [HC0]; · iexact HC0
    isplitl [HO]; · iexact HO
    iexact HSp0
  iintro ⟨HO, HzS0, HxrM0a⟩
  ihave HxrM0a := (show sendPay m ρ c 0 ⊢ at' c xrM0 q1 (qx m ρ c) from .rfl) $$ HxrM0a
  iapply (wp_ws m ρ K c 1 [] (by decide) (src := xdrM) (dst := xrM0) sem19_0 rfl) $$ [HO HC1 HSp1]
  · isplitr; · iexact HG
    isplitl [HC1]; · iexact HC1
    isplitl [HO]; · iexact HO
    iexact HSp1
  iintro ⟨HO, HzS1, HxrM0b⟩
  ihave HxrM0b := (show sendPay m ρ c 1 ⊢ at' c xrM0 q2 (qx m ρ c) from .rfl) $$ HxrM0b
  iapply (wp_ws m ρ K c 2 [] (by decide) (src := xdlM) (dst := xrM0) sem21_0 rfl) $$ [HO HC2 HSp2]
  · isplitr; · iexact HG
    isplitl [HC2]; · iexact HC2
    isplitl [HO]; · iexact HO
    iexact HSp2
  iintro ⟨HO, HzS2, HxrM0d⟩
  ihave HxrM0d := (show sendPay m ρ c 2 ⊢ at' c xrM0 q3 (qx m ρ c) from .rfl) $$ HxrM0d
  rw [wp_ret]; imodintro
  iapply Hk
  isplitl [HO]; · iexact HO
  isplitl [HzrM]; · iexact HzrM
  isplitl [HoutM]; · iexact HoutM
  isplitl [HzS0]; · iexact HzS0
  isplitl [HxrM0a]; · iexact HxrM0a
  isplitl [HzS1]; · iexact HzS1
  isplitl [HxrM0b]; · iexact HxrM0b
  isplitl [HzS2]; · iexact HzS2
  iexact HxrM0d

theorem w_part36 (c : Dev nD)
    {kk : (PUnit) → Prog (TpuEff nD τ sig (Elt F) Λ₀ .tc) β} {Q : β → sProp (MT nD τ sig Unit (Elt F) ℕ UU ℕ)} :
    iprop(glb m ρ K ∗ ow c [] ∗ scred c 3 ∗ spos c 3 ∗ scred c 4 ∗ spos c 4 ∗ scred c 5 ∗ spos c 5 ∗ scred c 6 ∗ spos c 6)
      ⊢ iprop(((ow c [] ∗ semVal (sCell c 3) 0 ∗ at' c xrM0 q4 (qx m ρ c) ∗ semVal (sCell c 4) 0 ∗ at' c xlM0 fullShare (qx m ρ c) ∗ semVal (sCell c 5) 0 ∗ at' c ptM4 fullShare (oth m ρ c (op c)) ∗ semVal (sCell c 6) 0 ∗ at' c xrM1 hL (qx m ρ (lf c))) -∗ wp frame (wpE (defs₀ (F := F)) 𝒱₀ (c : Thread nD τ) none) Set.univ (kk ⟨⟩) Q)
        -∗ wp frame (wpE (defs₀ (F := F)) 𝒱₀ (c : Thread nD τ) none) Set.univ (k0_part36 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24  >>= kk) Q) := by
  rw [wp_bind, k0_part36_eq_skeleton]
  unfold k0_part36_skel
  simp only [semSignalWord, semWaitWord, Prog.lift, Prog.bind_op, Prog.bind_ret, Prog.pure_eq_ret, wp_deviceId]
  iintro ⟨#HG, HO, HC3, HSp3, HC4, HSp4, HC5, HSp5, HC6, HSp6⟩ Hk
  iapply (wp_ws m ρ K c 3 [] (by decide) (src := xrM1) (dst := xrM0) sem15_0 rfl) $$ [HO HC3 HSp3]
  · isplitr; · iexact HG
    isplitl [HC3]; · iexact HC3
    isplitl [HO]; · iexact HO
    iexact HSp3
  iintro ⟨HO, HzS3, HxrM0e⟩
  ihave HxrM0e := (show sendPay m ρ c 3 ⊢ at' c xrM0 q4 (qx m ρ c) from .rfl) $$ HxrM0e
  iapply (wp_ws m ρ K c 4 [] (by decide) (src := xlM1) (dst := xlM0) sem17_0 rfl) $$ [HO HC4 HSp4]
  · isplitr; · iexact HG
    isplitl [HC4]; · iexact HC4
    isplitl [HO]; · iexact HO
    iexact HSp4
  iintro ⟨HO, HzS4, HxlM0⟩
  ihave HxlM0 := (show sendPay m ρ c 4 ⊢ at' c xlM0 fullShare (qx m ρ c) from .rfl) $$ HxlM0
  iapply (wp_ws m ρ K c 5 [] (by decide) (src := zrM) (dst := ptM4) sem29_0 rfl) $$ [HO HC5 HSp5]
  · isplitr; · iexact HG
    isplitl [HC5]; · iexact HC5
    isplitl [HO]; · iexact HO
    iexact HSp5
  iintro ⟨HO, HzS5, HptM4⟩
  ihave HptM4 := (show sendPay m ρ c 5 ⊢ at' c ptM4 fullShare (oth m ρ c (op c)) from .rfl) $$ HptM4
  iapply (wp_ws m ρ K c 6 [] (by decide) (src := xrM2) (dst := xrM1) sem15_1 rfl) $$ [HO HC6 HSp6]
  · isplitr; · iexact HG
    isplitl [HC6]; · iexact HC6
    isplitl [HO]; · iexact HO
    iexact HSp6
  iintro ⟨HO, HzS6, HxrM1l⟩
  ihave HxrM1l := (show sendPay m ρ c 6 ⊢ at' c xrM1 hL (qx m ρ (lf c)) from .rfl) $$ HxrM1l
  rw [wp_ret]; imodintro
  iapply Hk
  isplitl [HO]; · iexact HO
  isplitl [HzS3]; · iexact HzS3
  isplitl [HxrM0e]; · iexact HxrM0e
  isplitl [HzS4]; · iexact HzS4
  isplitl [HxlM0]; · iexact HxlM0
  isplitl [HzS5]; · iexact HzS5
  isplitl [HptM4]; · iexact HptM4
  isplitl [HzS6]; · iexact HzS6
  iexact HxrM1l

theorem w_part37 (c : Dev nD)
    {kk : (PUnit) → Prog (TpuEff nD τ sig (Elt F) Λ₀ .tc) β} {Q : β → sProp (MT nD τ sig Unit (Elt F) ℕ UU ℕ)} :
    iprop(glb m ρ K ∗ ow c [] ∗ scred c 7 ∗ spos c 7 ∗ scred c 8 ∗ spos c 8 ∗ scred c 9 ∗ spos c 9 ∗ scred c 10 ∗ spos c 10)
      ⊢ iprop(((ow c [] ∗ semVal (sCell c 7) 0 ∗ at' c xlM1 hL (qx m ρ (rt c)) ∗ semVal (sCell c 8) 0 ∗ at' c laM0 fullShare (la0 m ρ c) ∗ semVal (sCell c 9) 0 ∗ at' c raM0 fullShare (ra0 m ρ c) ∗ semVal (sCell c 10) 0 ∗ at' c laM1 fullShare (la1 m ρ c)) -∗ wp frame (wpE (defs₀ (F := F)) 𝒱₀ (c : Thread nD τ) none) Set.univ (kk ⟨⟩) Q)
        -∗ wp frame (wpE (defs₀ (F := F)) 𝒱₀ (c : Thread nD τ) none) Set.univ (k0_part37 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24  >>= kk) Q) := by
  rw [wp_bind, k0_part37_eq_skeleton]
  unfold k0_part37_skel
  simp only [semSignalWord, semWaitWord, Prog.lift, Prog.bind_op, Prog.bind_ret, Prog.pure_eq_ret, wp_deviceId]
  iintro ⟨#HG, HO, HC7, HSp7, HC8, HSp8, HC9, HSp9, HC10, HSp10⟩ Hk
  iapply (wp_ws m ρ K c 7 [] (by decide) (src := xlM2) (dst := xlM1) sem17_1 rfl) $$ [HO HC7 HSp7]
  · isplitr; · iexact HG
    isplitl [HC7]; · iexact HC7
    isplitl [HO]; · iexact HO
    iexact HSp7
  iintro ⟨HO, HzS7, HxlM1l⟩
  ihave HxlM1l := (show sendPay m ρ c 7 ⊢ at' c xlM1 hL (qx m ρ (rt c)) from .rfl) $$ HxlM1l
  iapply (wp_ws m ρ K c 8 [] (by decide) (src := laM1) (dst := laM0) sem27_0 rfl) $$ [HO HC8 HSp8]
  · isplitr; · iexact HG
    isplitl [HC8]; · iexact HC8
    isplitl [HO]; · iexact HO
    iexact HSp8
  iintro ⟨HO, HzS8, HlaM0⟩
  ihave HlaM0 := (show sendPay m ρ c 8 ⊢ at' c laM0 fullShare (la0 m ρ c) from .rfl) $$ HlaM0
  iapply (wp_ws m ρ K c 9 [] (by decide) (src := raM1) (dst := raM0) sem25_0 rfl) $$ [HO HC9 HSp9]
  · isplitr; · iexact HG
    isplitl [HC9]; · iexact HC9
    isplitl [HO]; · iexact HO
    iexact HSp9
  iintro ⟨HO, HzS9, HraM0⟩
  ihave HraM0 := (show sendPay m ρ c 9 ⊢ at' c raM0 fullShare (ra0 m ρ c) from .rfl) $$ HraM0
  iapply (wp_ws m ρ K c 10 [] (by decide) (src := laM2) (dst := laM1) sem27_1 rfl) $$ [HO HC10 HSp10]
  · isplitr; · iexact HG
    isplitl [HC10]; · iexact HC10
    isplitl [HO]; · iexact HO
    iexact HSp10
  iintro ⟨HO, HzS10, HlaM1⟩
  ihave HlaM1 := (show sendPay m ρ c 10 ⊢ at' c laM1 fullShare (la1 m ρ c) from .rfl) $$ HlaM1
  rw [wp_ret]; imodintro
  iapply Hk
  isplitl [HO]; · iexact HO
  isplitl [HzS7]; · iexact HzS7
  isplitl [HxlM1l]; · iexact HxlM1l
  isplitl [HzS8]; · iexact HzS8
  isplitl [HlaM0]; · iexact HlaM0
  isplitl [HzS9]; · iexact HzS9
  isplitl [HraM0]; · iexact HraM0
  isplitl [HzS10]; · iexact HzS10
  iexact HlaM1

end Cert.KernelProof

end
-- ==== Proof.Values.lean ====
/-
What the kernel stores: each block it makes is one device's share of one sequence, whatever order its heads
were worked out in.
-/
module

public import proofs.«01_k».proof.Proof.Protocol

@[expose] public section

set_option maxRecDepth 16384

noncomputable section

namespace Cert.KernelProof

open Cert.KernelIdeal Cert.KernelIdeal.Gen
open Idealize.ShloMosaic
open Idealize.ShloMosaic.TcCoe

variable {F : FTy → Type} [FloatOps F] [Named F]

/-- A row as stored and as read back through the row's own view. -/
theorem unrow {e : FTy} (v : FVec F S256x1024 e) :
    shapeCast S256x1024 (shapeCast S1x256x1024 v shapeCasts_S256x1024_S1x256x1024) shapeCasts_S1x256x1024_S256x1024 = v :=
  shapeCast_shapeCast _ _ _
theorem unrow_i (v : IVec S256x1024 8) :
    shapeCast S256x1024 (shapeCast S1x256x1024 v shapeCasts_S256x1024_S1x256x1024) shapeCasts_S1x256x1024_S256x1024 = v :=
  shapeCast_shapeCast _ _ _

theorem val3x (x : Vec F S1x256x1024 .bf16) : shapeCast S256x1024 (k0_pay3 x) shapeCasts_S1x256x1024_S256x1024 = quant x := unrow_i _
theorem val3y (x : Vec F S1x256x1024 .bf16) : shapeCast S256x1024 (k0_pay4 x) shapeCasts_S1x256x1024_S256x1024 = quant x := unrow_i _
theorem val8 (q k v o : Vec F S1024x1024 .bf16) (x : Vec F S1x256x1024 .bf16) :
    shapeCast S256x1024 (k0_pay20 (k0_pay19 (k0_pay6 o) (k0_pay8 (k0_pay1 x) q k v) (k0_pay9 (k0_pay1 x) q k v) (k0_pay10 (k0_pay1 x) q k v) (k0_pay11 (k0_pay1 x) q k v) (k0_pay13 (k0_pay9 (k0_pay1 x) q k v) (k0_pay10 (k0_pay1 x) q k v) (k0_pay12 (k0_pay1 x) q k v)) (k0_pay14 (k0_pay8 (k0_pay1 x) q k v) (k0_pay9 (k0_pay1 x) q k v) (k0_pay10 (k0_pay1 x) q k v)) (k0_pay15 (k0_pay8 (k0_pay1 x) q k v) (k0_pay9 (k0_pay1 x) q k v) (k0_pay10 (k0_pay1 x) q k v)) (k0_pay17 (k0_pay8 (k0_pay1 x) q k v) (k0_pay9 (k0_pay1 x) q k v)) (k0_pay18 (k0_pay8 (k0_pay1 x) q k v) (k0_pay9 (k0_pay1 x) q k v) (k0_pay10 (k0_pay1 x) q k v)))) shapeCasts_S1x256x1024_S256x1024 = attn (k0_pay5 q k v) (k0_pay6 o) (k0_pay1 x) :=
  unrow (attn (k0_pay5 q k v) (k0_pay6 o) (k0_pay1 x))
theorem val10 (W : FVec F S1024x3072 .bf16) (wo : FVec F S1024x1024 .bf16) (x : IVec S256x1024 8) :
    shapeCast S256x1024 (k0_pay36 wo (k0_pay22 W x) (k0_pay23 W x) (k0_pay24 W x) (k0_pay25 W x) (k0_pay29 (k0_pay27 W x) (k0_pay28 W x)) (k0_pay30 (k0_pay22 W x) (k0_pay23 W x) (k0_pay24 W x)) (k0_pay31 (k0_pay22 W x) (k0_pay23 W x) (k0_pay24 W x)) (k0_pay32 (k0_pay22 W x) (k0_pay23 W x) (k0_pay24 W x)) (k0_pay33 (k0_pay24 W x)) (k0_pay34 (k0_pay22 W x) (k0_pay23 W x)) (k0_pay35 (k0_pay22 W x) (k0_pay23 W x))) shapeCasts_S1x256x1024_S256x1024 = attn W wo (deq x) :=
  unrow (attn W wo (deq x))
theorem val15 (W : FVec F S1024x3072 .bf16) (wo : FVec F S1024x1024 .bf16) (x : IVec S256x1024 8) :
    shapeCast S256x1024 (k0_pay54 wo (k0_pay43 (k0_pay41 W x) (k0_pay42 W x)) (k0_pay44 (k0_pay38 W x) (k0_pay39 W x) (k0_pay40 W x)) (k0_pay45 (k0_pay38 W x) (k0_pay39 W x) (k0_pay40 W x)) (k0_pay46 (k0_pay38 W x) (k0_pay39 W x) (k0_pay40 W x)) (k0_pay50 (k0_pay47 (k0_pay38 W x)) (k0_pay48 (k0_pay39 W x)) (k0_pay49 (k0_pay40 W x))) (k0_pay51 (k0_pay38 W x) (k0_pay39 W x) (k0_pay40 W x)) (k0_pay52 (k0_pay38 W x) (k0_pay39 W x) (k0_pay40 W x)) (k0_pay53 (k0_pay38 W x) (k0_pay39 W x) (k0_pay40 W x))) shapeCasts_S1x256x1024_S256x1024 = attn W wo (deq x) :=
  unrow (attn W wo (deq x))
theorem val18 (W : FVec F S1024x3072 .bf16) (wo : FVec F S1024x1024 .bf16) (x : IVec S256x1024 8) :
    shapeCast S256x1024 (k0_pay70 wo (k0_pay57 W x) (k0_pay58 W x) (k0_pay59 W x) (k0_pay60 W x) (k0_pay61 W x) (k0_pay63 (k0_pay62 W x)) (k0_pay64 (k0_pay57 W x) (k0_pay58 W x) (k0_pay59 W x)) (k0_pay65 (k0_pay57 W x) (k0_pay58 W x) (k0_pay59 W x)) (k0_pay66 (k0_pay57 W x) (k0_pay58 W x) (k0_pay59 W x)) (k0_pay67 (k0_pay59 W x)) (k0_pay68 (k0_pay57 W x) (k0_pay58 W x)) (k0_pay69 (k0_pay57 W x) (k0_pay58 W x))) shapeCasts_S1x256x1024_S256x1024 = attn W wo (deq x) :=
  unrow (attn W wo (deq x))
theorem val21r (W : FVec F S1024x3072 .bf16) (wo : FVec F S1024x1024 .bf16) (r : IVec S1x256x1024 8) :
    shapeCast S256x1024 (k0_pay84 wo (k0_pay73 W r) (k0_pay74 W r) (k0_pay75 W r) (k0_pay76 W r) (k0_pay80 (k0_pay77 W r) (k0_pay78 W r) (k0_pay79 W r) (constant S256x256 .f32 0x00000000#32 : FVec F S256x256 .f32)) (k0_pay81 (k0_pay73 W r) (k0_pay74 W r) (k0_pay75 W r)) (k0_pay82 (k0_pay73 W r) (k0_pay74 W r) (k0_pay75 W r)) (k0_pay83 (k0_pay73 W r) (k0_pay74 W r) (k0_pay75 W r))) shapeCasts_S1x256x1024_S256x1024
      = attn W wo (deq (shapeCast S256x1024 r shapeCasts_S1x256x1024_S256x1024)) :=
  unrow (attn W wo (deq (shapeCast S256x1024 r shapeCasts_S1x256x1024_S256x1024)))
theorem val21 (W : FVec F S1024x3072 .bf16) (wo : FVec F S1024x1024 .bf16) (x : IVec S256x1024 8) :
    shapeCast S256x1024 (k0_pay84 wo (k0_pay73 W (shapeCast S1x256x1024 x shapeCasts_S256x1024_S1x256x1024)) (k0_pay74 W (shapeCast S1x256x1024 x shapeCasts_S256x1024_S1x256x1024)) (k0_pay75 W (shapeCast S1x256x1024 x shapeCasts_S256x1024_S1x256x1024)) (k0_pay76 W (shapeCast S1x256x1024 x shapeCasts_S256x1024_S1x256x1024)) (k0_pay80 (k0_pay77 W (shapeCast S1x256x1024 x shapeCasts_S256x1024_S1x256x1024)) (k0_pay78 W (shapeCast S1x256x1024 x shapeCasts_S256x1024_S1x256x1024)) (k0_pay79 W (shapeCast S1x256x1024 x shapeCasts_S256x1024_S1x256x1024)) (constant S256x256 .f32 0x00000000#32 : FVec F S256x256 .f32)) (k0_pay81 (k0_pay73 W (shapeCast S1x256x1024 x shapeCasts_S256x1024_S1x256x1024)) (k0_pay74 W (shapeCast S1x256x1024 x shapeCasts_S256x1024_S1x256x1024)) (k0_pay75 W (shapeCast S1x256x1024 x shapeCasts_S256x1024_S1x256x1024))) (k0_pay82 (k0_pay73 W (shapeCast S1x256x1024 x shapeCasts_S256x1024_S1x256x1024)) (k0_pay74 W (shapeCast S1x256x1024 x shapeCasts_S256x1024_S1x256x1024)) (k0_pay75 W (shapeCast S1x256x1024 x shapeCasts_S256x1024_S1x256x1024))) (k0_pay83 (k0_pay73 W (shapeCast S1x256x1024 x shapeCasts_S256x1024_S1x256x1024)) (k0_pay74 W (shapeCast S1x256x1024 x shapeCasts_S256x1024_S1x256x1024)) (k0_pay75 W (shapeCast S1x256x1024 x shapeCasts_S256x1024_S1x256x1024)))) shapeCasts_S1x256x1024_S256x1024 = attn W wo (deq x) :=
  (val21r W wo _).trans (by rw [unrow_i])
theorem val24r (W : FVec F S1024x3072 .bf16) (wo : FVec F S1024x1024 .bf16) (r : IVec S1x256x1024 8) :
    shapeCast S256x1024 (k0_pay99 wo (k0_pay86 W r) (k0_pay87 W r) (k0_pay88 W r) (k0_pay89 W r) (k0_pay93 (k0_pay90 W r) (k0_pay91 W r) (k0_pay92 W r)) (k0_pay94 (k0_pay86 W r) (k0_pay87 W r) (k0_pay88 W r)) (k0_pay95 (k0_pay86 W r) (k0_pay87 W r) (k0_pay88 W r)) (k0_pay96 (k0_pay86 W r) (k0_pay87 W r) (k0_pay88 W r)) (k0_pay97 (k0_pay88 W r)) (k0_pay98 (k0_pay86 W r) (k0_pay87 W r))) shapeCasts_S1x256x1024_S256x1024
      = attn W wo (deq (shapeCast S256x1024 r shapeCasts_S1x256x1024_S256x1024)) :=
  unrow (attn W wo (deq (shapeCast S256x1024 r shapeCasts_S1x256x1024_S256x1024)))
theorem val24 (W : FVec F S1024x3072 .bf16) (wo : FVec F S1024x1024 .bf16) (x : IVec S256x1024 8) :
    shapeCast S256x1024 (k0_pay99 wo (k0_pay86 W (shapeCast S1x256x1024 x shapeCasts_S256x1024_S1x256x1024)) (k0_pay87 W (shapeCast S1x256x1024 x shapeCasts_S256x1024_S1x256x1024)) (k0_pay88 W (shapeCast S1x256x1024 x shapeCasts_S256x1024_S1x256x1024)) (k0_pay89 W (shapeCast S1x256x1024 x shapeCasts_S256x1024_S1x256x1024)) (k0_pay93 (k0_pay90 W (shapeCast S1x256x1024 x shapeCasts_S256x1024_S1x256x1024)) (k0_pay91 W (shapeCast S1x256x1024 x shapeCasts_S256x1024_S1x256x1024)) (k0_pay92 W (shapeCast S1x256x1024 x shapeCasts_S256x1024_S1x256x1024))) (k0_pay94 (k0_pay86 W (shapeCast S1x256x1024 x shapeCasts_S256x1024_S1x256x1024)) (k0_pay87 W (shapeCast S1x256x1024 x shapeCasts_S256x1024_S1x256x1024)) (k0_pay88 W (shapeCast S1x256x1024 x shapeCasts_S256x1024_S1x256x1024))) (k0_pay95 (k0_pay86 W (shapeCast S1x256x1024 x shapeCasts_S256x1024_S1x256x1024)) (k0_pay87 W (shapeCast S1x256x1024 x shapeCasts_S256x1024_S1x256x1024)) (k0_pay88 W (shapeCast S1x256x1024 x shapeCasts_S256x1024_S1x256x1024))) (k0_pay96 (k0_pay86 W (shapeCast S1x256x1024 x shapeCasts_S256x1024_S1x256x1024)) (k0_pay87 W (shapeCast S1x256x1024 x shapeCasts_S256x1024_S1x256x1024)) (k0_pay88 W (shapeCast S1x256x1024 x shapeCasts_S256x1024_S1x256x1024))) (k0_pay97 (k0_pay88 W (shapeCast S1x256x1024 x shapeCasts_S256x1024_S1x256x1024))) (k0_pay98 (k0_pay86 W (shapeCast S1x256x1024 x shapeCasts_S256x1024_S1x256x1024)) (k0_pay87 W (shapeCast S1x256x1024 x shapeCasts_S256x1024_S1x256x1024)))) shapeCasts_S1x256x1024_S256x1024 = attn W wo (deq x) :=
  (val24r W wo _).trans (by rw [unrow_i])
theorem val29r (W : FVec F S1024x3072 .bf16) (wo : FVec F S1024x1024 .bf16) (r : IVec S1x256x1024 8) :
    shapeCast S256x1024 (k0_pay119 wo (k0_pay107 W (k0_pay102 r) (constant S256x3072 .f32 0x00000000#32 : FVec F S256x3072 .f32)) (k0_pay108 W (k0_pay102 r) (constant S256x3072 .f32 0x00000000#32 : FVec F S256x3072 .f32)) (k0_pay109 W (k0_pay102 r) (constant S256x3072 .f32 0x00000000#32 : FVec F S256x3072 .f32)) (k0_pay112 (k0_pay110 W (k0_pay102 r) (constant S256x3072 .f32 0x00000000#32 : FVec F S256x3072 .f32)) (k0_pay111 W (k0_pay102 r) (constant S256x3072 .f32 0x00000000#32 : FVec F S256x3072 .f32))) (k0_pay113 (k0_pay104 W (k0_pay102 r) (constant S256x3072 .f32 0x00000000#32 : FVec F S256x3072 .f32)) (k0_pay105 W (k0_pay102 r) (constant S256x3072 .f32 0x00000000#32 : FVec F S256x3072 .f32)) (k0_pay106 W (k0_pay102 r) (constant S256x3072 .f32 0x00000000#32 : FVec F S256x3072 .f32))) (k0_pay114 (k0_pay104 W (k0_pay102 r) (constant S256x3072 .f32 0x00000000#32 : FVec F S256x3072 .f32)) (k0_pay105 W (k0_pay102 r) (constant S256x3072 .f32 0x00000000#32 : FVec F S256x3072 .f32)) (k0_pay106 W (k0_pay102 r) (constant S256x3072 .f32 0x00000000#32 : FVec F S256x3072 .f32))) (k0_pay115 (k0_pay104 W (k0_pay102 r) (constant S256x3072 .f32 0x00000000#32 : FVec F S256x3072 .f32)) (k0_pay105 W (k0_pay102 r) (constant S256x3072 .f32 0x00000000#32 : FVec F S256x3072 .f32)) (k0_pay106 W (k0_pay102 r) (constant S256x3072 .f32 0x00000000#32 : FVec F S256x3072 .f32))) (k0_pay116 (k0_pay104 W (k0_pay102 r) (constant S256x3072 .f32 0x00000000#32 : FVec F S256x3072 .f32))) (k0_pay117 (k0_pay105 W (k0_pay102 r) (constant S256x3072 .f32 0x00000000#32 : FVec F S256x3072 .f32))) (k0_pay118 (k0_pay106 W (k0_pay102 r) (constant S256x3072 .f32 0x00000000#32 : FVec F S256x3072 .f32)))) shapeCasts_S1x256x1024_S256x1024
      = attn W wo (deq (shapeCast S256x1024 r shapeCasts_S1x256x1024_S256x1024)) :=
  unrow (attn W wo (deq (shapeCast S256x1024 r shapeCasts_S1x256x1024_S256x1024)))
theorem val29 (W : FVec F S1024x3072 .bf16) (wo : FVec F S1024x1024 .bf16) (x : IVec S256x1024 8) :
    shapeCast S256x1024 (k0_pay119 wo (k0_pay107 W (k0_pay102 (shapeCast S1x256x1024 x shapeCasts_S256x1024_S1x256x1024)) (constant S256x3072 .f32 0x00000000#32 : FVec F S256x3072 .f32)) (k0_pay108 W (k0_pay102 (shapeCast S1x256x1024 x shapeCasts_S256x1024_S1x256x1024)) (constant S256x3072 .f32 0x00000000#32 : FVec F S256x3072 .f32)) (k0_pay109 W (k0_pay102 (shapeCast S1x256x1024 x shapeCasts_S256x1024_S1x256x1024)) (constant S256x3072 .f32 0x00000000#32 : FVec F S256x3072 .f32)) (k0_pay112 (k0_pay110 W (k0_pay102 (shapeCast S1x256x1024 x shapeCasts_S256x1024_S1x256x1024)) (constant S256x3072 .f32 0x00000000#32 : FVec F S256x3072 .f32)) (k0_pay111 W (k0_pay102 (shapeCast S1x256x1024 x shapeCasts_S256x1024_S1x256x1024)) (constant S256x3072 .f32 0x00000000#32 : FVec F S256x3072 .f32))) (k0_pay113 (k0_pay104 W (k0_pay102 (shapeCast S1x256x1024 x shapeCasts_S256x1024_S1x256x1024)) (constant S256x3072 .f32 0x00000000#32 : FVec F S256x3072 .f32)) (k0_pay105 W (k0_pay102 (shapeCast S1x256x1024 x shapeCasts_S256x1024_S1x256x1024)) (constant S256x3072 .f32 0x00000000#32 : FVec F S256x3072 .f32)) (k0_pay106 W (k0_pay102 (shapeCast S1x256x1024 x shapeCasts_S256x1024_S1x256x1024)) (constant S256x3072 .f32 0x00000000#32 : FVec F S256x3072 .f32))) (k0_pay114 (k0_pay104 W (k0_pay102 (shapeCast S1x256x1024 x shapeCasts_S256x1024_S1x256x1024)) (constant S256x3072 .f32 0x00000000#32 : FVec F S256x3072 .f32)) (k0_pay105 W (k0_pay102 (shapeCast S1x256x1024 x shapeCasts_S256x1024_S1x256x1024)) (constant S256x3072 .f32 0x00000000#32 : FVec F S256x3072 .f32)) (k0_pay106 W (k0_pay102 (shapeCast S1x256x1024 x shapeCasts_S256x1024_S1x256x1024)) (constant S256x3072 .f32 0x00000000#32 : FVec F S256x3072 .f32))) (k0_pay115 (k0_pay104 W (k0_pay102 (shapeCast S1x256x1024 x shapeCasts_S256x1024_S1x256x1024)) (constant S256x3072 .f32 0x00000000#32 : FVec F S256x3072 .f32)) (k0_pay105 W (k0_pay102 (shapeCast S1x256x1024 x shapeCasts_S256x1024_S1x256x1024)) (constant S256x3072 .f32 0x00000000#32 : FVec F S256x3072 .f32)) (k0_pay106 W (k0_pay102 (shapeCast S1x256x1024 x shapeCasts_S256x1024_S1x256x1024)) (constant S256x3072 .f32 0x00000000#32 : FVec F S256x3072 .f32))) (k0_pay116 (k0_pay104 W (k0_pay102 (shapeCast S1x256x1024 x shapeCasts_S256x1024_S1x256x1024)) (constant S256x3072 .f32 0x00000000#32 : FVec F S256x3072 .f32))) (k0_pay117 (k0_pay105 W (k0_pay102 (shapeCast S1x256x1024 x shapeCasts_S256x1024_S1x256x1024)) (constant S256x3072 .f32 0x00000000#32 : FVec F S256x3072 .f32))) (k0_pay118 (k0_pay106 W (k0_pay102 (shapeCast S1x256x1024 x shapeCasts_S256x1024_S1x256x1024)) (constant S256x3072 .f32 0x00000000#32 : FVec F S256x3072 .f32)))) shapeCasts_S1x256x1024_S256x1024 = attn W wo (deq x) :=
  (val29r W wo _).trans (by rw [unrow_i])
theorem val31r (W : FVec F S1024x3072 .bf16) (wo : FVec F S1024x1024 .bf16) (r : IVec S1x256x1024 8) :
    shapeCast S256x1024 (k0_pay132 wo (k0_pay121 W r) (k0_pay122 W r) (k0_pay123 W r) (k0_pay124 W r) (k0_pay128 (k0_pay125 W r) (k0_pay126 W r) (k0_pay127 W r) (constant S256x256 .f32 0x00000000#32 : FVec F S256x256 .f32)) (k0_pay129 (k0_pay121 W r) (k0_pay122 W r) (k0_pay123 W r)) (k0_pay130 (k0_pay121 W r) (k0_pay122 W r) (k0_pay123 W r)) (k0_pay131 (k0_pay121 W r) (k0_pay122 W r) (k0_pay123 W r))) shapeCasts_S1x256x1024_S256x1024
      = attn W wo (deq (shapeCast S256x1024 r shapeCasts_S1x256x1024_S256x1024)) :=
  unrow (attn W wo (deq (shapeCast S256x1024 r shapeCasts_S1x256x1024_S256x1024)))
theorem val31 (W : FVec F S1024x3072 .bf16) (wo : FVec F S1024x1024 .bf16) (x : IVec S256x1024 8) :
    shapeCast S256x1024 (k0_pay132 wo (k0_pay121 W (shapeCast S1x256x1024 x shapeCasts_S256x1024_S1x256x1024)) (k0_pay122 W (shapeCast S1x256x1024 x shapeCasts_S256x1024_S1x256x1024)) (k0_pay123 W (shapeCast S1x256x1024 x shapeCasts_S256x1024_S1x256x1024)) (k0_pay124 W (shapeCast S1x256x1024 x shapeCasts_S256x1024_S1x256x1024)) (k0_pay128 (k0_pay125 W (shapeCast S1x256x1024 x shapeCasts_S256x1024_S1x256x1024)) (k0_pay126 W (shapeCast S1x256x1024 x shapeCasts_S256x1024_S1x256x1024)) (k0_pay127 W (shapeCast S1x256x1024 x shapeCasts_S256x1024_S1x256x1024)) (constant S256x256 .f32 0x00000000#32 : FVec F S256x256 .f32)) (k0_pay129 (k0_pay121 W (shapeCast S1x256x1024 x shapeCasts_S256x1024_S1x256x1024)) (k0_pay122 W (shapeCast S1x256x1024 x shapeCasts_S256x1024_S1x256x1024)) (k0_pay123 W (shapeCast S1x256x1024 x shapeCasts_S256x1024_S1x256x1024))) (k0_pay130 (k0_pay121 W (shapeCast S1x256x1024 x shapeCasts_S256x1024_S1x256x1024)) (k0_pay122 W (shapeCast S1x256x1024 x shapeCasts_S256x1024_S1x256x1024)) (k0_pay123 W (shapeCast S1x256x1024 x shapeCasts_S256x1024_S1x256x1024))) (k0_pay131 (k0_pay121 W (shapeCast S1x256x1024 x shapeCasts_S256x1024_S1x256x1024)) (k0_pay122 W (shapeCast S1x256x1024 x shapeCasts_S256x1024_S1x256x1024)) (k0_pay123 W (shapeCast S1x256x1024 x shapeCasts_S256x1024_S1x256x1024)))) shapeCasts_S1x256x1024_S256x1024 = attn W wo (deq x) :=
  (val31r W wo _).trans (by rw [unrow_i])

/-- A copied block, and a block added to the one that arrived. -/
theorem copy15 (x : FVec F S256x1024 .bf16) :
    shapeCast S256x1024 (k0_pay55 (shapeCast S1x256x1024 x shapeCasts_S256x1024_S1x256x1024)) shapeCasts_S1x256x1024_S256x1024 = x := by
  show shapeCast S256x1024 (shapeCast S1x256x1024 (shapeCast S256x1024 (shapeCast S1x256x1024 x _) shapeCasts_S1x256x1024_S256x1024) shapeCasts_S256x1024_S1x256x1024) _ = x
  rw [unrow, unrow]
theorem copy18 (x : FVec F S256x1024 .bf16) :
    shapeCast S256x1024 (k0_pay71 (shapeCast S1x256x1024 x shapeCasts_S256x1024_S1x256x1024)) shapeCasts_S1x256x1024_S256x1024 = x := by
  show shapeCast S256x1024 (shapeCast S1x256x1024 (shapeCast S256x1024 (shapeCast S1x256x1024 x _) shapeCasts_S1x256x1024_S256x1024) shapeCasts_S256x1024_S1x256x1024) _ = x
  rw [unrow, unrow]
theorem add25 (x y : FVec F S256x1024 .bf16) :
    shapeCast S256x1024 (k0_pay100 (shapeCast S1x256x1024 x shapeCasts_S256x1024_S1x256x1024) (shapeCast S1x256x1024 y shapeCasts_S256x1024_S1x256x1024)) shapeCasts_S1x256x1024_S256x1024 = addf x y := by
  show shapeCast S256x1024 (shapeCast S1x256x1024 (addf (shapeCast S256x1024 (shapeCast S1x256x1024 x _) shapeCasts_S1x256x1024_S256x1024) (shapeCast S256x1024 (shapeCast S1x256x1024 y _) shapeCasts_S1x256x1024_S256x1024)) shapeCasts_S256x1024_S1x256x1024) _ = _
  rw [unrow, unrow, unrow]
theorem add26 (x y : FVec F S256x1024 .bf16) :
    shapeCast S256x1024 (k0_pay101 (shapeCast S1x256x1024 x shapeCasts_S256x1024_S1x256x1024) (shapeCast S1x256x1024 y shapeCasts_S256x1024_S1x256x1024)) shapeCasts_S1x256x1024_S256x1024 = addf x y := by
  show shapeCast S256x1024 (shapeCast S1x256x1024 (addf (shapeCast S256x1024 (shapeCast S1x256x1024 x _) shapeCasts_S1x256x1024_S256x1024) (shapeCast S256x1024 (shapeCast S1x256x1024 y _) shapeCasts_S1x256x1024_S256x1024)) shapeCasts_S256x1024_S1x256x1024) _ = _
  rw [unrow, unrow, unrow]
theorem add32 (x y : FVec F S256x1024 .bf16) :
    shapeCast S256x1024 (k0_pay133 (shapeCast S1x256x1024 x shapeCasts_S256x1024_S1x256x1024) (shapeCast S1x256x1024 y shapeCasts_S256x1024_S1x256x1024)) shapeCasts_S1x256x1024_S256x1024 = addf x y := by
  show shapeCast S256x1024 (shapeCast S1x256x1024 (addf (shapeCast S256x1024 (shapeCast S1x256x1024 x _) shapeCasts_S1x256x1024_S256x1024) (shapeCast S256x1024 (shapeCast S1x256x1024 y _) shapeCasts_S1x256x1024_S256x1024)) shapeCasts_S256x1024_S1x256x1024) _ = _
  rw [unrow, unrow, unrow]
theorem add33 (x y : FVec F S256x1024 .bf16) :
    shapeCast S256x1024 (k0_pay134 (shapeCast S1x256x1024 x shapeCasts_S256x1024_S1x256x1024) (shapeCast S1x256x1024 y shapeCasts_S256x1024_S1x256x1024)) shapeCasts_S1x256x1024_S256x1024 = addf x y := by
  show shapeCast S256x1024 (shapeCast S1x256x1024 (addf (shapeCast S256x1024 (shapeCast S1x256x1024 x _) shapeCasts_S1x256x1024_S256x1024) (shapeCast S256x1024 (shapeCast S1x256x1024 y _) shapeCasts_S1x256x1024_S256x1024)) shapeCasts_S256x1024_S1x256x1024) _ = _
  rw [unrow, unrow, unrow]

/-- The four terms of the result. -/
theorem val35 (a b d e : FVec F S256x1024 .bf16) :
    k0_pay137 (k0_pay135 (shapeCast S1x256x1024 a shapeCasts_S256x1024_S1x256x1024) (shapeCast S1x256x1024 b shapeCasts_S256x1024_S1x256x1024))
        (k0_pay136 (shapeCast S1x256x1024 d shapeCasts_S256x1024_S1x256x1024)) e
      = shapeCast S1x256x1024
        (addf (addf (addf (extf .f32 a bitsLt_bf16_f32) (extf .f32 b bitsLt_bf16_f32)) (extf .f32 d bitsLt_bf16_f32)) (extf .f32 e bitsLt_bf16_f32))
        shapeCasts_S256x1024_S1x256x1024 := by
  show shapeCast S1x256x1024
    (addf (addf (addf (extf .f32 (shapeCast S256x1024 (shapeCast S1x256x1024 a _) shapeCasts_S1x256x1024_S256x1024) bitsLt_bf16_f32)
      (extf .f32 (shapeCast S256x1024 (shapeCast S1x256x1024 b _) shapeCasts_S1x256x1024_S256x1024) bitsLt_bf16_f32))
      (extf .f32 (shapeCast S256x1024 (shapeCast S1x256x1024 d _) shapeCasts_S1x256x1024_S256x1024) bitsLt_bf16_f32)) (extf .f32 e bitsLt_bf16_f32)) _ = _
  rw [unrow, unrow, unrow]

end Cert.KernelProof

end
-- ==== Proof.Body.lean ====
/-
The kernel's body on one device, window after window: what it starts from and what it ends with.
-/
module

public import proofs.«01_k».proof.Proof.PartsA
public import proofs.«01_k».proof.Proof.PartsB
public import proofs.«01_k».proof.Proof.PartsC
public import proofs.«01_k».proof.Proof.Values

@[expose] public section

set_option maxRecDepth 16384

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (ρ : Dev nD → PrngReg)
variable (K : Dev nD × Fin 29 → ℕ)

/-- What the body starts from, -/
def bodyIn (c : Dev nD) : sProp 𝕄 :=
  iprop(ow c [.inl 0, .inl 1, .inl 2, .inl 3, .inl 4, .inr 0, .inr 1, .inr 2, .inr 3, .inr 4, .inr 5, .inr 6, .inr 7, .inr 8, .inr 9, .inr 10, .inr 11, .inr 12, .inr 13] ∗ dutyTok ER (barCell (sigE 0 c)) 0 (0 : Fin 5) ∗ lend c 0 ∗ dutyTok ER (barCell (sigE 1 c)) 0 (1 : Fin 5) ∗ lend c 1 ∗ dutyTok ER (barCell (sigE 2 c)) 0 (2 : Fin 5) ∗ lend c 2 ∗ dutyTok ER (barCell (sigE 3 c)) 0 (3 : Fin 5) ∗ lend c 3 ∗ dutyTok ER (barCell (sigE 4 c)) 0 (4 : Fin 5) ∗ lend c 4 ∗ cred (tallyAt (barCell c) () 5) ∗ atPos ER (barCell c) 0 (∅ : Finset (Fin 5)) 0 ∗ atS c inM0 (xstg m ρ c) ∗ free c xrM0 ∗ free c xlM0 ∗ xtok c 0 ∗ xtok c 1 ∗ xtok c 2 ∗ xtok c 3 ∗ xtok c 4 ∗ atS c inM1 (qstg m ρ c) ∗ atS c inM3 (kstg m ρ c) ∗ atS c inM4 (vstg m ρ c) ∗ atS c inM2 (ostg m ρ c) ∗ free c ptM0 ∗ rcred c 0 ∗ rpos c 0 ∗ free c ptM4 ∗ xtok c 5 ∗ rcred c 3 ∗ rpos c 3 ∗ xtok c 6 ∗ rcred c 4 ∗ rpos c 4 ∗ xtok c 7 ∗ rcred c 1 ∗ rpos c 1 ∗ free c ptM3 ∗ free c laM0 ∗ xtok c 8 ∗ rcred c 2 ∗ rpos c 2 ∗ free c ptM5 ∗ free c raM0 ∗ xtok c 9 ∗ rcred c 6 ∗ rpos c 6 ∗ free c ptM2 ∗ rcred c 7 ∗ rpos c 7 ∗ free c ptM6 ∗ rcred c 8 ∗ rpos c 8 ∗ xtok c 10 ∗ rcred c 9 ∗ rpos c 9 ∗ xtok c 11 ∗ free c ptM1 ∗ free c ptM7 ∗ rcred c 10 ∗ rpos c 10 ∗ xtok c 12 ∗ rcred c 11 ∗ rpos c 11 ∗ xtok c 13 ∗ rcred c 12 ∗ rpos c 12 ∗ rcred c 13 ∗ rpos c 13 ∗ rcred c 5 ∗ rpos c 5 ∗ freeS c outM ∗ spos c 0 ∗ spos c 1 ∗ spos c 2 ∗ spos c 3 ∗ spos c 4 ∗ spos c 5 ∗ spos c 6 ∗ spos c 7 ∗ spos c 8 ∗ spos c 9 ∗ spos c 10 ∗ spos c 11 ∗ spos c 12 ∗ spos c 13)
/-- and what it ends with. -/
def bodyOut (c : Dev nD) : sProp 𝕄 :=
  iprop(semVal (barCell c) 0 ∗ atS c inM0 (xstg m ρ c) ∗ atS c inM1 (qstg m ρ c) ∗ atS c inM3 (kstg m ρ c) ∗ atS c inM4 (vstg m ρ c) ∗ atS c inM2 (ostg m ρ c) ∗ semVal (rCell c 0) 0 ∗ at' c xzM fullShare (qx m ρ (op c)) ∗ semVal (rCell c 3) 0 ∗ semVal (rCell c 4) 0 ∗ semVal (rCell c 1) 0 ∗ at' c xdrM fullShare (qx m ρ (m3 c)) ∗ at' c ptM3 fullShare (la0 m ρ c) ∗ semVal (rCell c 2) 0 ∗ at' c xdlM fullShare (qx m ρ (p3 c)) ∗ at' c ptM5 fullShare (ra0 m ρ c) ∗ semVal (rCell c 6) 0 ∗ at' c xrM2 fullShare (qx m ρ (lf (lf c))) ∗ semVal (rCell c 7) 0 ∗ at' c xlM2 fullShare (qx m ρ (rt (rt c))) ∗ semVal (rCell c 8) 0 ∗ at' c ptM2 fullShare (oth m ρ c (lf (lf c))) ∗ semVal (rCell c 9) 0 ∗ at' c ptM6 fullShare (oth m ρ c (rt (rt c))) ∗ at' c xrM1 hR (qx m ρ (lf c)) ∗ at' c xlM1 hR (qx m ρ (rt c)) ∗ semVal (rCell c 10) 0 ∗ at' c ptM1 fullShare (oth m ρ c (lf c)) ∗ semVal (rCell c 11) 0 ∗ at' c ptM7 fullShare (oth m ρ c (rt c)) ∗ semVal (rCell c 12) 0 ∗ at' c laM3 fullShare (la2 m ρ (rt c)) ∗ semVal (rCell c 13) 0 ∗ at' c raM3 fullShare (ra2 m ρ (lf c)) ∗ semVal (rCell c 5) 0 ∗ at' c ptM0 fullShare (own m ρ c) ∗ at' c zrM fullShare (oth m ρ (op c) c) ∗ atS c outM (outv m ρ c) ∗ semVal (sCell c 0) 0 ∗ at' c xrM0 q1 (qx m ρ c) ∗ semVal (sCell c 1) 0 ∗ at' c xrM0 q2 (qx m ρ c) ∗ semVal (sCell c 2) 0 ∗ at' c xrM0 q3 (qx m ρ c) ∗ semVal (sCell c 3) 0 ∗ at' c xrM0 q4 (qx m ρ c) ∗ semVal (sCell c 4) 0 ∗ at' c xlM0 fullShare (qx m ρ c) ∗ semVal (sCell c 5) 0 ∗ at' c ptM4 fullShare (oth m ρ c (op c)) ∗ semVal (sCell c 6) 0 ∗ at' c xrM1 hL (qx m ρ (lf c)) ∗ semVal (sCell c 7) 0 ∗ at' c xlM1 hL (qx m ρ (rt c)) ∗ semVal (sCell c 8) 0 ∗ at' c laM0 fullShare (la0 m ρ c) ∗ semVal (sCell c 9) 0 ∗ at' c raM0 fullShare (ra0 m ρ c) ∗ semVal (sCell c 10) 0 ∗ at' c laM1 fullShare (la1 m ρ c) ∗ semVal (sCell c 11) 0 ∗ at' c raM1 fullShare (ra1 m ρ c) ∗ semVal (sCell c 12) 0 ∗ at' c laM2 fullShare (la2 m ρ c) ∗ ow c [] ∗ semVal (sCell c 13) 0 ∗ at' c raM2 fullShare (ra2 m ρ c))

set_option maxHeartbeats 4000000 in
theorem w_body (c : Dev nD) (Q : PUnit → sProp (MT nD τ sig Unit (Elt F) ℕ UU ℕ)) :
    iprop(glb m ρ K ∗ bodyIn m ρ c)
      ⊢ iprop((bodyOut m ρ c -∗ Q ⟨⟩)
        -∗ wp frame (wpE (defs₀ (F := F)) 𝒱₀ (c : Thread nD τ) none) Set.univ (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24) Q) := by
  unfold bodyIn bodyOut
  rw [cc0_body_eq_skeleton]
  unfold cc0_body_skel
  rw [wp_bind, k0_part38_eq_skeleton]
  unfold k0_part38_skel
  iintro ⟨#HG, HO, HB0, HL0, HB1, HL1, HB2, HL2, HB3, HL3, HB4, HL4, HcB, HpB, HinM0, HxrM0, HxlM0, HT0, HT1, HT2, HT3, HT4, HinM1, HinM3, HinM4, HinM2, HptM0, HRc0, HRp0, HptM4, HT5, HRc3, HRp3, HT6, HRc4, HRp4, HT7, HRc1, HRp1, HptM3, HlaM0, HT8, HRc2, HRp2, HptM5, HraM0, HT9, HRc6, HRp6, HptM2, HRc7, HRp7, HptM6, HRc8, HRp8, HT10, HRc9, HRp9, HT11, HptM1, HptM7, HRc10, HRp10, HT12, HRc11, HRp11, HT13, HRc12, HRp12, HRc13, HRp13, HRc5, HRp5, HoutM, HSp0, HSp1, HSp2, HSp3, HSp4, HSp5, HSp6, HSp7, HSp8, HSp9, HSp10, HSp11, HSp12, HSp13⟩ Hk
  iapply (w_part1 c)
  iintro %v2 %v13 %v24 %v35
  iapply (w_part2 m ρ K c _ _ _ _) $$ [HO HB0 HL0 HB1 HL1 HB2 HL2]
  · isplitr; · iexact HG
    isplitl [HO]; · iexact HO
    isplitl [HB0]; · iexact HB0
    isplitl [HL0]; · iexact HL0
    isplitl [HB1]; · iexact HB1
    isplitl [HL1]; · iexact HL1
    isplitl [HB2]; · iexact HB2
    iexact HL2
  iintro %v46 %v57 HO
  iapply (w_part3 m ρ K c _ (val3x _) (val3y _)) $$ [HO HB3 HL3 HB4 HL4 HcB HpB HinM0 HxrM0 HxlM0]
  · isplitr; · iexact HG
    isplitl [HO]; · iexact HO
    isplitl [HB3]; · iexact HB3
    isplitl [HL3]; · iexact HL3
    isplitl [HB4]; · iexact HB4
    isplitl [HL4]; · iexact HL4
    isplitl [HcB]; · iexact HcB
    isplitl [HpB]; · iexact HpB
    isplitl [HinM0]; · iexact HinM0
    isplitl [HxrM0]; · iexact HxrM0
    iexact HxlM0
  iintro ⟨HO, HzB, HP0, HP1, HP2, HP3, HP4, HinM0, HxlM0, HxrM0a, HxrM0b, HxrM0d, HxrM0e⟩
  ihave HP0 := (show (barPay c 0 : sProp 𝕄) ⊢ iprop(free (tgt 3 c) xrM1 ∗ free (tgt 6 c) xrM2 ∗ free (tgt 9 c) raM1 ∗ free (tgt 11 c) raM2 ∗ free (tgt 13 c) raM3) from .rfl) $$ HP0
  icases HP0 with ⟨HF3, HF6, HF9, HF11, HF13⟩
  ihave HP1 := (show (barPay c 1 : sProp 𝕄) ⊢ iprop(free (tgt 4 c) xlM1 ∗ free (tgt 7 c) xlM2 ∗ free (tgt 8 c) laM1 ∗ free (tgt 10 c) laM2 ∗ free (tgt 12 c) laM3) from .rfl) $$ HP1
  icases HP1 with ⟨HF4, HF7, HF8, HF10, HF12⟩
  ihave HP2 := (show (barPay c 2 : sProp 𝕄) ⊢ iprop(free (tgt 2 c) xdlM) from .rfl) $$ HP2
  irename HP2 => HF2
  ihave HP3 := (show (barPay c 3 : sProp 𝕄) ⊢ iprop(free (tgt 1 c) xdrM) from .rfl) $$ HP3
  irename HP3 => HF1
  ihave HP4 := (show (barPay c 4 : sProp 𝕄) ⊢ iprop(free (tgt 0 c) xzM ∗ free (tgt 5 c) zrM) from .rfl) $$ HP4
  icases HP4 with ⟨HF0, HF5⟩
  iapply (w_part4 m ρ K c _ _ _) $$ [HO HxrM0a HF0 HT0 HxrM0b HF1 HT1 HxrM0d HF2 HT2 HxrM0e HF3 HT3]
  · isplitr; · iexact HG
    isplitl [HO]; · iexact HO
    isplitl [HxrM0a]; · iexact HxrM0a
    isplitl [HF0]; · iexact HF0
    isplitl [HT0]; · iexact HT0
    isplitl [HxrM0b]; · iexact HxrM0b
    isplitl [HF1]; · iexact HF1
    isplitl [HT1]; · iexact HT1
    isplitl [HxrM0d]; · iexact HxrM0d
    isplitl [HF2]; · iexact HF2
    isplitl [HT2]; · iexact HT2
    isplitl [HxrM0e]; · iexact HxrM0e
    isplitl [HF3]; · iexact HF3
    iexact HT3
  iintro ⟨HO, HC0, HC1, HC2, HC3⟩
  iapply (w_part5 m ρ K c _ _) $$ [HO HxlM0 HF4 HT4 HinM1 HinM3 HinM4 HinM2]
  · isplitr; · iexact HG
    isplitl [HO]; · iexact HO
    isplitl [HxlM0]; · iexact HxlM0
    isplitl [HF4]; · iexact HF4
    isplitl [HT4]; · iexact HT4
    isplitl [HinM1]; · iexact HinM1
    isplitl [HinM3]; · iexact HinM3
    isplitl [HinM4]; · iexact HinM4
    iexact HinM2
  iintro ⟨HO, HC4, HinM1, HinM3, HinM4, HinM2⟩
  iapply (w_part6 c _ _ _ _)
  iapply (w_part7 c _ _ _ _ _ _ _ _ _ _) $$ [HptM0]
  · iexact HptM0
  iintro HptM0
  iapply (w_part8 m ρ K c _ _ _ (val8 (qstg m ρ c) (kstg m ρ c) (vstg m ρ c) (ostg m ρ c) (xstg m ρ c))) $$ [HO HptM0 HRc0 HRp0]
  · isplitr; · iexact HG
    isplitl [HO]; · iexact HO
    isplitl [HptM0]; · iexact HptM0
    isplitl [HRc0]; · iexact HRc0
    iexact HRp0
  iintro ⟨HO, HptM0, HzR0, HxzM⟩
  iapply (w_part9 c _ _ _ _ _)
  iapply (w_part10 m ρ c _ _ _ _ _ _ _ _ _ _ _ _ _ (val10 (wqkv m ρ c) (wout m ρ c) (qx m ρ (op c)))) $$ [HptM4]
  · iexact HptM4
  iintro HptM4
  iapply (w_part11 m ρ K c _ _) $$ [HO HptM4 HF5 HT5 HRc3 HRp3 HF6 HT6]
  · isplitr; · iexact HG
    isplitl [HO]; · iexact HO
    isplitl [HptM4]; · iexact HptM4
    isplitl [HF5]; · iexact HF5
    isplitl [HT5]; · iexact HT5
    isplitl [HRc3]; · iexact HRc3
    isplitl [HRp3]; · iexact HRp3
    isplitl [HF6]; · iexact HF6
    iexact HT6
  iintro ⟨HO, HC5, HzR3, HxrM1r, HC6⟩
  iapply (w_part12 m ρ K c _ _ _) $$ [HO HRc4 HRp4 HF7 HT7 HRc1 HRp1]
  · isplitr; · iexact HG
    isplitl [HO]; · iexact HO
    isplitl [HRc4]; · iexact HRc4
    isplitl [HRp4]; · iexact HRp4
    isplitl [HF7]; · iexact HF7
    isplitl [HT7]; · iexact HT7
    isplitl [HRc1]; · iexact HRc1
    iexact HRp1
  iintro ⟨HO, HzR4, HxlM1r, HC7, HzR1, HxdrM⟩
  iapply (w_part13 c _ _ _ _ _)
  iapply (w_part14 c _ _ _ _ _ _)
  iapply (w_part15 m ρ K c _ _ _ _ _ _ _ _ _ _ _ (val15 (wqkv m ρ c) (wout m ρ c) (qx m ρ (m3 c))) (copy15 _)) $$ [HO HptM3 HlaM0 HF8 HT8 HRc2 HRp2]
  · isplitr; · iexact HG
    isplitl [HO]; · iexact HO
    isplitl [HptM3]; · iexact HptM3
    isplitl [HlaM0]; · iexact HlaM0
    isplitl [HF8]; · iexact HF8
    isplitl [HT8]; · iexact HT8
    isplitl [HRc2]; · iexact HRc2
    iexact HRp2
  iintro ⟨HO, HptM3, HC8, HzR2, HxdlM⟩
  iapply (w_part16 m ρ c _) $$ [HxdlM]
  · iexact HxdlM
  iintro HxdlM
  iapply (w_part17 c _ _ _ _)
  iapply (w_part18 m ρ c _ _ _ _ _ _ _ _ _ _ _ _ _ _ (val18 (wqkv m ρ c) (wout m ρ c) (qx m ρ (p3 c))) (copy18 _)) $$ [HptM5 HraM0]
  · isplitl [HptM5]; · iexact HptM5
    iexact HraM0
  iintro ⟨HptM5, HraM0⟩
  iapply (w_part19 m ρ K c _ _) $$ [HO HraM0 HF9 HT9 HRc6 HRp6]
  · isplitr; · iexact HG
    isplitl [HO]; · iexact HO
    isplitl [HraM0]; · iexact HraM0
    isplitl [HF9]; · iexact HF9
    isplitl [HT9]; · iexact HT9
    isplitl [HRc6]; · iexact HRc6
    iexact HRp6
  iintro ⟨HO, HC9, HzR6, HxrM2⟩
  iapply (w_part20 c _ _ _ _ _ _ _)
  iapply (w_part21 m ρ c _ _ _ _ _ _ _ _ _ (val21 (wqkv m ρ c) (wout m ρ c) (qx m ρ (lf (lf c))))) $$ [HptM2]
  · iexact HptM2
  iintro HptM2
  iapply (w_part22 m ρ K c _ _) $$ [HO HRc7 HRp7]
  · isplitr; · iexact HG
    isplitl [HO]; · iexact HO
    isplitl [HRc7]; · iexact HRc7
    iexact HRp7
  iintro ⟨HO, HzR7, HxlM2⟩
  iapply (w_part23 c _ _ _ _ _ _)
  iapply (w_part24 m ρ c _ _ _ _ _ _ _ _ _ _ _ _ (val24 (wqkv m ρ c) (wout m ρ c) (qx m ρ (rt (rt c))))) $$ [HptM6]
  · iexact HptM6
  iintro %v969 HptM6
  iapply (w_part25 m ρ K c _ _ _ _ (add25 _ _)) $$ [HO HRc8 HRp8 HptM2 HF10 HT10]
  · isplitr; · iexact HG
    isplitl [HO]; · iexact HO
    isplitl [HRc8]; · iexact HRc8
    isplitl [HRp8]; · iexact HRp8
    isplitl [HptM2]; · iexact HptM2
    isplitl [HF10]; · iexact HF10
    iexact HT10
  iintro ⟨HO, HzR8, HptM2, HC10⟩
  iapply (w_part26 m ρ K c _ (add26 _ _)) $$ [HO HRc9 HRp9 HptM6 HF11 HT11 HxrM1r]
  · isplitr; · iexact HG
    isplitl [HO]; · iexact HO
    isplitl [HRc9]; · iexact HRc9
    isplitl [HRp9]; · iexact HRp9
    isplitl [HptM6]; · iexact HptM6
    isplitl [HF11]; · iexact HF11
    isplitl [HT11]; · iexact HT11
    iexact HxrM1r
  iintro ⟨HO, HzR9, HptM6, HC11, HxrM1r⟩
  iapply (w_part27 c _ _ _)
  iapply (w_part28 c _ _ _ _ _)
  iapply (w_part29 m ρ c _ _ _ _ _ _ _ _ _ _ _ _ (val29 (wqkv m ρ c) (wout m ρ c) (qx m ρ (lf c)))) $$ [HptM1 HxlM1r]
  · isplitl [HptM1]; · iexact HptM1
    iexact HxlM1r
  iintro ⟨HptM1, HxlM1r⟩
  iapply (w_part30 c _ _ _ _ _ _ _)
  iapply (w_part31 m ρ c _ _ _ _ _ _ _ _ _ (val31 (wqkv m ρ c) (wout m ρ c) (qx m ρ (rt c)))) $$ [HptM7]
  · iexact HptM7
  iintro HptM7
  iapply (w_part32 m ρ K c _ (add32 _ _)) $$ [HO HRc10 HRp10 HptM1 HF12 HT12]
  · isplitr; · iexact HG
    isplitl [HO]; · iexact HO
    isplitl [HRc10]; · iexact HRc10
    isplitl [HRp10]; · iexact HRp10
    isplitl [HptM1]; · iexact HptM1
    isplitl [HF12]; · iexact HF12
    iexact HT12
  iintro ⟨HO, HzR10, HptM1, HC12⟩
  iapply (w_part33 m ρ K c _ (add33 _ _)) $$ [HO HRc11 HRp11 HptM7 HF13 HT13]
  · isplitr; · iexact HG
    isplitl [HO]; · iexact HO
    isplitl [HRc11]; · iexact HRc11
    isplitl [HRp11]; · iexact HRp11
    isplitl [HptM7]; · iexact HptM7
    isplitl [HF13]; · iexact HF13
    iexact HT13
  iintro ⟨HO, HzR11, HptM7, HC13⟩
  iapply (w_part34 m ρ K c _ _ _ _) $$ [HO HRc12 HRp12 HRc13 HRp13 HRc5 HRp5 HptM0]
  · isplitr; · iexact HG
    isplitl [HO]; · iexact HO
    isplitl [HRc12]; · iexact HRc12
    isplitl [HRp12]; · iexact HRp12
    isplitl [HRc13]; · iexact HRc13
    isplitl [HRp13]; · iexact HRp13
    isplitl [HRc5]; · iexact HRc5
    isplitl [HRp5]; · iexact HRp5
    iexact HptM0
  iintro ⟨HO, HzR12, HlaM3, HzR13, HraM3, HzR5, HzrM, HptM0⟩
  iapply (w_part35 m ρ K c _ _ (val35 _ _ _ _)) $$ [HO HzrM HoutM HC0 HSp0 HC1 HSp1 HC2 HSp2]
  · isplitr; · iexact HG
    isplitl [HO]; · iexact HO
    isplitl [HzrM]; · iexact HzrM
    isplitl [HoutM]; · iexact HoutM
    isplitl [HC0]; · iexact HC0
    isplitl [HSp0]; · iexact HSp0
    isplitl [HC1]; · iexact HC1
    isplitl [HSp1]; · iexact HSp1
    isplitl [HC2]; · iexact HC2
    iexact HSp2
  iintro ⟨HO, HzrM, HoutM, HzS0, HxrM0a, HzS1, HxrM0b, HzS2, HxrM0d⟩
  iapply (w_part36 m ρ K c) $$ [HO HC3 HSp3 HC4 HSp4 HC5 HSp5 HC6 HSp6]
  · isplitr; · iexact HG
    isplitl [HO]; · iexact HO
    isplitl [HC3]; · iexact HC3
    isplitl [HSp3]; · iexact HSp3
    isplitl [HC4]; · iexact HC4
    isplitl [HSp4]; · iexact HSp4
    isplitl [HC5]; · iexact HC5
    isplitl [HSp5]; · iexact HSp5
    isplitl [HC6]; · iexact HC6
    iexact HSp6
  iintro ⟨HO, HzS3, HxrM0e, HzS4, HxlM0, HzS5, HptM4, HzS6, HxrM1l⟩
  iapply (w_part37 m ρ K c) $$ [HO HC7 HSp7 HC8 HSp8 HC9 HSp9 HC10 HSp10]
  · isplitr; · iexact HG
    isplitl [HO]; · iexact HO
    isplitl [HC7]; · iexact HC7
    isplitl [HSp7]; · iexact HSp7
    isplitl [HC8]; · iexact HC8
    isplitl [HSp8]; · iexact HSp8
    isplitl [HC9]; · iexact HC9
    isplitl [HSp9]; · iexact HSp9
    isplitl [HC10]; · iexact HC10
    iexact HSp10
  iintro ⟨HO, HzS7, HxlM1l, HzS8, HlaM0, HzS9, HraM0, HzS10, HlaM1⟩
  simp only [Prog.lift, Prog.bind_op, Prog.bind_ret, Prog.pure_eq_ret]
  iapply (wp_ws m ρ K c 11 [] (by decide) (src := raM2) (dst := raM1) sem25_1 rfl) $$ [HO HC11 HSp11]
  · isplitr; · iexact HG
    isplitl [HC11]; · iexact HC11
    isplitl [HO]; · iexact HO
    iexact HSp11
  iintro ⟨HO, HzS11, HraM1⟩
  ihave HraM1 := (show sendPay m ρ c 11 ⊢ at' c raM1 fullShare (ra1 m ρ c) from .rfl) $$ HraM1
  iapply (wp_ws m ρ K c 12 [] (by decide) (src := laM3) (dst := laM2) sem27_2 rfl) $$ [HO HC12 HSp12]
  · isplitr; · iexact HG
    isplitl [HC12]; · iexact HC12
    isplitl [HO]; · iexact HO
    iexact HSp12
  iintro ⟨HO, HzS12, HlaM2⟩
  ihave HlaM2 := (show sendPay m ρ c 12 ⊢ at' c laM2 fullShare (la2 m ρ c) from .rfl) $$ HlaM2
  rw [wp_ret]; imodintro
  try simp only [Prog.lift, Prog.bind_op, Prog.bind_ret, Prog.pure_eq_ret]
  iapply (wp_ws m ρ K c 13 [] (by decide) (src := raM3) (dst := raM2) sem25_2 rfl) $$ [HO HC13 HSp13]
  · isplitr; · iexact HG
    isplitl [HC13]; · iexact HC13
    isplitl [HO]; · iexact HO
    iexact HSp13
  iintro ⟨HO, HzS13, HraM2⟩
  ihave HraM2 := (show sendPay m ρ c 13 ⊢ at' c raM2 fullShare (ra2 m ρ c) from .rfl) $$ HraM2
  rw [wp_ret]; imodintro
  iapply Hk
  isplitl [HzB]; · iexact HzB
  isplitl [HinM0]; · iexact HinM0
  isplitl [HinM1]; · iexact HinM1
  isplitl [HinM3]; · iexact HinM3
  isplitl [HinM4]; · iexact HinM4
  isplitl [HinM2]; · iexact HinM2
  isplitl [HzR0]; · iexact HzR0
  isplitl [HxzM]; · iexact HxzM
  isplitl [HzR3]; · iexact HzR3
  isplitl [HzR4]; · iexact HzR4
  isplitl [HzR1]; · iexact HzR1
  isplitl [HxdrM]; · iexact HxdrM
  isplitl [HptM3]; · iexact HptM3
  isplitl [HzR2]; · iexact HzR2
  isplitl [HxdlM]; · iexact HxdlM
  isplitl [HptM5]; · iexact HptM5
  isplitl [HzR6]; · iexact HzR6
  isplitl [HxrM2]; · iexact HxrM2
  isplitl [HzR7]; · iexact HzR7
  isplitl [HxlM2]; · iexact HxlM2
  isplitl [HzR8]; · iexact HzR8
  isplitl [HptM2]; · iexact HptM2
  isplitl [HzR9]; · iexact HzR9
  isplitl [HptM6]; · iexact HptM6
  isplitl [HxrM1r]; · iexact HxrM1r
  isplitl [HxlM1r]; · iexact HxlM1r
  isplitl [HzR10]; · iexact HzR10
  isplitl [HptM1]; · iexact HptM1
  isplitl [HzR11]; · iexact HzR11
  isplitl [HptM7]; · iexact HptM7
  isplitl [HzR12]; · iexact HzR12
  isplitl [HlaM3]; · iexact HlaM3
  isplitl [HzR13]; · iexact HzR13
  isplitl [HraM3]; · iexact HraM3
  isplitl [HzR5]; · iexact HzR5
  isplitl [HptM0]; · iexact HptM0
  isplitl [HzrM]; · iexact HzrM
  isplitl [HoutM]; · iexact HoutM
  isplitl [HzS0]; · iexact HzS0
  isplitl [HxrM0a]; · iexact HxrM0a
  isplitl [HzS1]; · iexact HzS1
  isplitl [HxrM0b]; · iexact HxrM0b
  isplitl [HzS2]; · iexact HzS2
  isplitl [HxrM0d]; · iexact HxrM0d
  isplitl [HzS3]; · iexact HzS3
  isplitl [HxrM0e]; · iexact HxrM0e
  isplitl [HzS4]; · iexact HzS4
  isplitl [HxlM0]; · iexact HxlM0
  isplitl [HzS5]; · iexact HzS5
  isplitl [HptM4]; · iexact HptM4
  isplitl [HzS6]; · iexact HzS6
  isplitl [HxrM1l]; · iexact HxrM1l
  isplitl [HzS7]; · iexact HzS7
  isplitl [HxlM1l]; · iexact HxlM1l
  isplitl [HzS8]; · iexact HzS8
  isplitl [HlaM0]; · iexact HlaM0
  isplitl [HzS9]; · iexact HzS9
  isplitl [HraM0]; · iexact HraM0
  isplitl [HzS10]; · iexact HzS10
  isplitl [HlaM1]; · iexact HlaM1
  isplitl [HzS11]; · iexact HzS11
  isplitl [HraM1]; · iexact HraM1
  isplitl [HzS12]; · iexact HzS12
  isplitl [HlaM2]; · iexact HlaM2
  isplitl [HO]; · iexact HO
  isplitl [HzS13]; · iexact HzS13
  iexact HraM2

end Cert.KernelProof

end
-- ==== Proof.Rows.lean ====
/-
The kernel's scratch buffers as the rows the exchange moves: each buffer is its rows, at whatever contents, and the
rows, however they were shared out, are the buffer again.
-/
module

public import Idealize.ShloMosaic.Lib.MemrefSat
public import proofs.«01_k».proof.Proof.Steps

@[expose] public section

set_option maxRecDepth 16384

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

theorem both {A A' B B' : sProp (MT nD τ sig Unit (Elt F) ℕ UU ℕ)} (h : A ⊢ B) (h' : A' ⊢ B') : iprop(A ∗ A') ⊢ iprop(B ∗ B') := BIClass.sep_mono h h'

/-- A slice at some contents is its row at some contents. -/
theorem sat_row (c : Dev nD) {s : Shape} {e : EltTy} (M : Memref sig .tc .vmem s e) (r : Rect s) (hr : ∀ a, r.stride a = 1)
    (hq : r.shape.Squeezes S256x1024) :
    (ownsSat (Ix := Unit) (Name := ℕ) (U := UU) (Lvl := ℕ) (c : Thread nD τ) (M.slice r hr) fullShare (fun _ => True) : sProp 𝕄)
      ⊢ free c ((M.slice r hr).squeeze S256x1024 hq) := by
  unfold ownsSat
  iintro ⟨%f, -, H⟩
  iexists (((M.slice r hr).squeeze S256x1024 hq).view.read (Elt F) f)
  unfold at' owns
  iexists f
  isplitr; · ipureintro; rfl
  rw [show ((M.slice r hr).squeeze S256x1024 hq).view.set = (M.slice r hr).view.set from View.set_reshape _ _]
  iexact H
theorem row_sat (c : Dev nD) {s : Shape} {e : EltTy} (M : Memref sig .tc .vmem s e) (r : Rect s) (hr : ∀ a, r.stride a = 1)
    (hq : r.shape.Squeezes S256x1024) :
    (free c ((M.slice r hr).squeeze S256x1024 hq) : sProp 𝕄)
      ⊢ ownsSat (Ix := Unit) (Name := ℕ) (U := UU) (Lvl := ℕ) (c : Thread nD τ) (M.slice r hr) fullShare (fun _ => True) := by
  unfold ownsSat free at' owns
  iintro ⟨%X, %f, -, H⟩
  iexists f
  isplitr; · ipureintro; trivial
  rw [← show ((M.slice r hr).squeeze S256x1024 hq).view.set = (M.slice r hr).view.set from View.set_reshape _ _]
  iexact H

/-- A whole buffer at some contents. -/
abbrev some' (c : Dev nD) (b : Ref sig .tc) : sProp 𝕄 :=
  iprop(∃ f : Buf (Elt F) ((c : Thread nD τ).loc b), ((c : Thread nD τ).loc b) ↦{fullShare} f)

theorem some_sat (c : Dev nD) (b : Ref sig .tc) :
    (some' c b : sProp 𝕄) ⊢ ownsSat (Ix := Unit) (Name := ℕ) (U := UU) (Lvl := ℕ) (c : Thread nD τ) (Memref.whole b) fullShare (fun _ => True) := by
  unfold ownsSat
  simp only [Memref.view_whole, View.set_whole]
  iintro ⟨%f, H⟩
  iexists f
  isplitr; · ipureintro; trivial
  iexact H
theorem sat_some (c : Dev nD) (b : Ref sig .tc) :
    (ownsSat (Ix := Unit) (Name := ℕ) (U := UU) (Lvl := ℕ) (c : Thread nD τ) (Memref.whole b) fullShare (fun _ => True) : sProp 𝕄) ⊢ some' c b := by
  unfold ownsSat
  simp only [Memref.view_whole, View.set_whole]
  iintro ⟨%f, -, H⟩
  iexists f
  iexact H

instance elt_nonempty (e : EltTy) : Nonempty (Elt F e) := by
  cases e <;> first | exact ⟨(0 : BitVec _)⟩ | exact ⟨(FloatOps.ofBits _ 0 : F _)⟩

/-- The rows of a buffer of 3. -/
def row3 (t : Fin 3) : Rect S3x256x1024 :=
  Rect.unit (s := S3x256x1024) ![t.val, 0, 0] S1x256x1024.size (by revert t; decide)
theorem mem_row3 (t : Fin 3) (i : S3x256x1024.Idx) : i ∈ (row3 t).set ↔ (i 0).val = t.val := by
  unfold row3; rw [Rect.mem_set_unit]
  constructor
  · intro h; have h0 := h 0; simp [S1x256x1024, S3x256x1024] at h0; omega
  · intro h a
    fin_cases a
    · simp [S1x256x1024, h]
    · exact ⟨Nat.zero_le _, (i 1).isLt.trans_le (Nat.le_of_eq (Nat.zero_add _).symm)⟩
    · exact ⟨Nat.zero_le _, (i 2).isLt.trans_le (Nat.le_of_eq (Nat.zero_add _).symm)⟩
theorem row3_disj (t t' : Fin 3) (h : t ≠ t') : Disjoint (row3 t).set (row3 t').set :=
  Finset.disjoint_left.mpr fun i hi hi' => h (Fin.ext (((mem_row3 t i).mp hi).symm.trans ((mem_row3 t' i).mp hi')))
theorem row3_cover : (Finset.univ : Finset (Fin 3)).biUnion (fun t => (row3 t).set) = Finset.univ :=
  Finset.eq_univ_iff_forall.mpr fun i => Finset.mem_biUnion.mpr ⟨i 0, Finset.mem_univ _, (mem_row3 (i 0) i).mpr rfl⟩
theorem sep_fin3 (Φ : Fin 3 → sProp 𝕄) : bigSep Finset.univ Φ = iprop(Φ 0 ∗ Φ 1 ∗ Φ 2) :=
  bigSep_univ_eq_bigSepL [(0 : Fin 3), 1, 2] (by decide) (by decide) Φ

/-- The rows of a buffer of 4. -/
def row4 (t : Fin 4) : Rect S4x256x1024 :=
  Rect.unit (s := S4x256x1024) ![t.val, 0, 0] S1x256x1024.size (by revert t; decide)
theorem mem_row4 (t : Fin 4) (i : S4x256x1024.Idx) : i ∈ (row4 t).set ↔ (i 0).val = t.val := by
  unfold row4; rw [Rect.mem_set_unit]
  constructor
  · intro h; have h0 := h 0; simp [S1x256x1024, S4x256x1024] at h0; omega
  · intro h a
    fin_cases a
    · simp [S1x256x1024, h]
    · exact ⟨Nat.zero_le _, (i 1).isLt.trans_le (Nat.le_of_eq (Nat.zero_add _).symm)⟩
    · exact ⟨Nat.zero_le _, (i 2).isLt.trans_le (Nat.le_of_eq (Nat.zero_add _).symm)⟩
theorem row4_disj (t t' : Fin 4) (h : t ≠ t') : Disjoint (row4 t).set (row4 t').set :=
  Finset.disjoint_left.mpr fun i hi hi' => h (Fin.ext (((mem_row4 t i).mp hi).symm.trans ((mem_row4 t' i).mp hi')))
theorem row4_cover : (Finset.univ : Finset (Fin 4)).biUnion (fun t => (row4 t).set) = Finset.univ :=
  Finset.eq_univ_iff_forall.mpr fun i => Finset.mem_biUnion.mpr ⟨i 0, Finset.mem_univ _, (mem_row4 (i 0) i).mpr rfl⟩
theorem sep_fin4 (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ

/-- The rows of a buffer of 8. -/
def row8 (t : Fin 8) : Rect S8x256x1024 :=
  Rect.unit (s := S8x256x1024) ![t.val, 0, 0] S1x256x1024.size (by revert t; decide)
theorem mem_row8 (t : Fin 8) (i : S8x256x1024.Idx) : i ∈ (row8 t).set ↔ (i 0).val = t.val := by
  unfold row8; rw [Rect.mem_set_unit]
  constructor
  · intro h; have h0 := h 0; simp [S1x256x1024, S8x256x1024] at h0; omega
  · intro h a
    fin_cases a
    · simp [S1x256x1024, h]
    · exact ⟨Nat.zero_le _, (i 1).isLt.trans_le (Nat.le_of_eq (Nat.zero_add _).symm)⟩
    · exact ⟨Nat.zero_le _, (i 2).isLt.trans_le (Nat.le_of_eq (Nat.zero_add _).symm)⟩
theorem row8_disj (t t' : Fin 8) (h : t ≠ t') : Disjoint (row8 t).set (row8 t').set :=
  Finset.disjoint_left.mpr fun i hi hi' => h (Fin.ext (((mem_row8 t i).mp hi).symm.trans ((mem_row8 t' i).mp hi')))
theorem row8_cover : (Finset.univ : Finset (Fin 8)).biUnion (fun t => (row8 t).set) = Finset.univ :=
  Finset.eq_univ_iff_forall.mpr fun i => Finset.mem_biUnion.mpr ⟨i 0, Finset.mem_univ _, (mem_row8 (i 0) i).mpr rfl⟩
theorem sep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), 1, 2, 3, 4, 5, 6, 7] (by decide) (by decide) Φ

theorem xr_split (c : Dev nD) : (some' c cc0_scratch0 : sProp 𝕄) ⊢ iprop(free c xrM0 ∗ free c xrM1 ∗ free c xrM2) :=
  (some_sat c cc0_scratch0).trans
    ((ownsSat_mono (Ψ := fun _ => ∀ _ : Fin 3, True) (c : Thread nD τ) (Memref.whole cc0_scratch0) fullShare (fun _ _ _ => trivial)).trans
      ((ownsSat_rects (c : Thread nD τ) (Memref.whole cc0_scratch0) fullShare row3 (fun _ _ => rfl) row3_disj row3_cover (fun _ _ => True)).trans
        ((Entails.of_eq (sep_fin3 _)).trans
          (both (sat_row c (Memref.whole cc0_scratch0) (row3 0) (fun _ => rfl) squeezes_S1x256x1024_S256x1024) (both (sat_row c (Memref.whole cc0_scratch0) (row3 1) (fun _ => rfl) squeezes_S1x256x1024_S256x1024) (sat_row c (Memref.whole cc0_scratch0) (row3 2) (fun _ => rfl) squeezes_S1x256x1024_S256x1024))))))
theorem xr_join (c : Dev nD) : (iprop(free c xrM0 ∗ free c xrM1 ∗ free c xrM2) : sProp 𝕄) ⊢ some' c cc0_scratch0 :=
  (both (row_sat c (Memref.whole cc0_scratch0) (row3 0) (fun _ => rfl) squeezes_S1x256x1024_S256x1024) (both (row_sat c (Memref.whole cc0_scratch0) (row3 1) (fun _ => rfl) squeezes_S1x256x1024_S256x1024) (row_sat c (Memref.whole cc0_scratch0) (row3 2) (fun _ => rfl) squeezes_S1x256x1024_S256x1024))).trans
    ((Entails.of_eq (sep_fin3 (fun t => ownsSat (Ix := Unit) (Name := ℕ) (U := UU) (Lvl := ℕ) (c : Thread nD τ) ((Memref.whole cc0_scratch0).slice (row3 t) (fun _ => rfl)) fullShare (fun _ => True))).symm).trans
      ((ownsSat_of_rects (c : Thread nD τ) (Memref.whole cc0_scratch0) fullShare row3 (fun _ _ => rfl) row3_disj row3_cover (fun _ _ => True)).trans
        ((ownsSat_mono (c : Thread nD τ) (Memref.whole cc0_scratch0) fullShare (fun _ _ => trivial)).trans (sat_some c cc0_scratch0))))

theorem xl_split (c : Dev nD) : (some' c cc0_scratch1 : sProp 𝕄) ⊢ iprop(free c xlM0 ∗ free c xlM1 ∗ free c xlM2) :=
  (some_sat c cc0_scratch1).trans
    ((ownsSat_mono (Ψ := fun _ => ∀ _ : Fin 3, True) (c : Thread nD τ) (Memref.whole cc0_scratch1) fullShare (fun _ _ _ => trivial)).trans
      ((ownsSat_rects (c : Thread nD τ) (Memref.whole cc0_scratch1) fullShare row3 (fun _ _ => rfl) row3_disj row3_cover (fun _ _ => True)).trans
        ((Entails.of_eq (sep_fin3 _)).trans
          (both (sat_row c (Memref.whole cc0_scratch1) (row3 0) (fun _ => rfl) squeezes_S1x256x1024_S256x1024) (both (sat_row c (Memref.whole cc0_scratch1) (row3 1) (fun _ => rfl) squeezes_S1x256x1024_S256x1024) (sat_row c (Memref.whole cc0_scratch1) (row3 2) (fun _ => rfl) squeezes_S1x256x1024_S256x1024))))))
theorem xl_join (c : Dev nD) : (iprop(free c xlM0 ∗ free c xlM1 ∗ free c xlM2) : sProp 𝕄) ⊢ some' c cc0_scratch1 :=
  (both (row_sat c (Memref.whole cc0_scratch1) (row3 0) (fun _ => rfl) squeezes_S1x256x1024_S256x1024) (both (row_sat c (Memref.whole cc0_scratch1) (row3 1) (fun _ => rfl) squeezes_S1x256x1024_S256x1024) (row_sat c (Memref.whole cc0_scratch1) (row3 2) (fun _ => rfl) squeezes_S1x256x1024_S256x1024))).trans
    ((Entails.of_eq (sep_fin3 (fun t => ownsSat (Ix := Unit) (Name := ℕ) (U := UU) (Lvl := ℕ) (c : Thread nD τ) ((Memref.whole cc0_scratch1).slice (row3 t) (fun _ => rfl)) fullShare (fun _ => True))).symm).trans
      ((ownsSat_of_rects (c : Thread nD τ) (Memref.whole cc0_scratch1) fullShare row3 (fun _ _ => rfl) row3_disj row3_cover (fun _ _ => True)).trans
        ((ownsSat_mono (c : Thread nD τ) (Memref.whole cc0_scratch1) fullShare (fun _ _ => trivial)).trans (sat_some c cc0_scratch1))))

theorem pt_split (c : Dev nD) : (some' c cc0_scratch5 : sProp 𝕄) ⊢ iprop(free c ptM0 ∗ free c ptM1 ∗ free c ptM2 ∗ free c ptM3 ∗ free c ptM4 ∗ free c ptM5 ∗ free c ptM6 ∗ free c ptM7) :=
  (some_sat c cc0_scratch5).trans
    ((ownsSat_mono (Ψ := fun _ => ∀ _ : Fin 8, True) (c : Thread nD τ) (Memref.whole cc0_scratch5) fullShare (fun _ _ _ => trivial)).trans
      ((ownsSat_rects (c : Thread nD τ) (Memref.whole cc0_scratch5) fullShare row8 (fun _ _ => rfl) row8_disj row8_cover (fun _ _ => True)).trans
        ((Entails.of_eq (sep_fin8 _)).trans
          (both (sat_row c (Memref.whole cc0_scratch5) (row8 0) (fun _ => rfl) squeezes_S1x256x1024_S256x1024) (both (sat_row c (Memref.whole cc0_scratch5) (row8 1) (fun _ => rfl) squeezes_S1x256x1024_S256x1024) (both (sat_row c (Memref.whole cc0_scratch5) (row8 2) (fun _ => rfl) squeezes_S1x256x1024_S256x1024) (both (sat_row c (Memref.whole cc0_scratch5) (row8 3) (fun _ => rfl) squeezes_S1x256x1024_S256x1024) (both (sat_row c (Memref.whole cc0_scratch5) (row8 4) (fun _ => rfl) squeezes_S1x256x1024_S256x1024) (both (sat_row c (Memref.whole cc0_scratch5) (row8 5) (fun _ => rfl) squeezes_S1x256x1024_S256x1024) (both (sat_row c (Memref.whole cc0_scratch5) (row8 6) (fun _ => rfl) squeezes_S1x256x1024_S256x1024) (sat_row c (Memref.whole cc0_scratch5) (row8 7) (fun _ => rfl) squeezes_S1x256x1024_S256x1024)))))))))))
theorem pt_join (c : Dev nD) : (iprop(free c ptM0 ∗ free c ptM1 ∗ free c ptM2 ∗ free c ptM3 ∗ free c ptM4 ∗ free c ptM5 ∗ free c ptM6 ∗ free c ptM7) : sProp 𝕄) ⊢ some' c cc0_scratch5 :=
  (both (row_sat c (Memref.whole cc0_scratch5) (row8 0) (fun _ => rfl) squeezes_S1x256x1024_S256x1024) (both (row_sat c (Memref.whole cc0_scratch5) (row8 1) (fun _ => rfl) squeezes_S1x256x1024_S256x1024) (both (row_sat c (Memref.whole cc0_scratch5) (row8 2) (fun _ => rfl) squeezes_S1x256x1024_S256x1024) (both (row_sat c (Memref.whole cc0_scratch5) (row8 3) (fun _ => rfl) squeezes_S1x256x1024_S256x1024) (both (row_sat c (Memref.whole cc0_scratch5) (row8 4) (fun _ => rfl) squeezes_S1x256x1024_S256x1024) (both (row_sat c (Memref.whole cc0_scratch5) (row8 5) (fun _ => rfl) squeezes_S1x256x1024_S256x1024) (both (row_sat c (Memref.whole cc0_scratch5) (row8 6) (fun _ => rfl) squeezes_S1x256x1024_S256x1024) (row_sat c (Memref.whole cc0_scratch5) (row8 7) (fun _ => rfl) squeezes_S1x256x1024_S256x1024)))))))).trans
    ((Entails.of_eq (sep_fin8 (fun t => ownsSat (Ix := Unit) (Name := ℕ) (U := UU) (Lvl := ℕ) (c : Thread nD τ) ((Memref.whole cc0_scratch5).slice (row8 t) (fun _ => rfl)) fullShare (fun _ => True))).symm).trans
      ((ownsSat_of_rects (c : Thread nD τ) (Memref.whole cc0_scratch5) fullShare row8 (fun _ _ => rfl) row8_disj row8_cover (fun _ _ => True)).trans
        ((ownsSat_mono (c : Thread nD τ) (Memref.whole cc0_scratch5) fullShare (fun _ _ => trivial)).trans (sat_some c cc0_scratch5))))

theorem ra_split (c : Dev nD) : (some' c cc0_scratch6 : sProp 𝕄) ⊢ iprop(free c raM0 ∗ free c raM1 ∗ free c raM2 ∗ free c raM3) :=
  (some_sat c cc0_scratch6).trans
    ((ownsSat_mono (Ψ := fun _ => ∀ _ : Fin 4, True) (c : Thread nD τ) (Memref.whole cc0_scratch6) fullShare (fun _ _ _ => trivial)).trans
      ((ownsSat_rects (c : Thread nD τ) (Memref.whole cc0_scratch6) fullShare row4 (fun _ _ => rfl) row4_disj row4_cover (fun _ _ => True)).trans
        ((Entails.of_eq (sep_fin4 _)).trans
          (both (sat_row c (Memref.whole cc0_scratch6) (row4 0) (fun _ => rfl) squeezes_S1x256x1024_S256x1024) (both (sat_row c (Memref.whole cc0_scratch6) (row4 1) (fun _ => rfl) squeezes_S1x256x1024_S256x1024) (both (sat_row c (Memref.whole cc0_scratch6) (row4 2) (fun _ => rfl) squeezes_S1x256x1024_S256x1024) (sat_row c (Memref.whole cc0_scratch6) (row4 3) (fun _ => rfl) squeezes_S1x256x1024_S256x1024)))))))
theorem ra_join (c : Dev nD) : (iprop(free c raM0 ∗ free c raM1 ∗ free c raM2 ∗ free c raM3) : sProp 𝕄) ⊢ some' c cc0_scratch6 :=
  (both (row_sat c (Memref.whole cc0_scratch6) (row4 0) (fun _ => rfl) squeezes_S1x256x1024_S256x1024) (both (row_sat c (Memref.whole cc0_scratch6) (row4 1) (fun _ => rfl) squeezes_S1x256x1024_S256x1024) (both (row_sat c (Memref.whole cc0_scratch6) (row4 2) (fun _ => rfl) squeezes_S1x256x1024_S256x1024) (row_sat c (Memref.whole cc0_scratch6) (row4 3) (fun _ => rfl) squeezes_S1x256x1024_S256x1024)))).trans
    ((Entails.of_eq (sep_fin4 (fun t => ownsSat (Ix := Unit) (Name := ℕ) (U := UU) (Lvl := ℕ) (c : Thread nD τ) ((Memref.whole cc0_scratch6).slice (row4 t) (fun _ => rfl)) fullShare (fun _ => True))).symm).trans
      ((ownsSat_of_rects (c : Thread nD τ) (Memref.whole cc0_scratch6) fullShare row4 (fun _ _ => rfl) row4_disj row4_cover (fun _ _ => True)).trans
        ((ownsSat_mono (c : Thread nD τ) (Memref.whole cc0_scratch6) fullShare (fun _ _ => trivial)).trans (sat_some c cc0_scratch6))))

theorem la_split (c : Dev nD) : (some' c cc0_scratch7 : sProp 𝕄) ⊢ iprop(free c laM0 ∗ free c laM1 ∗ free c laM2 ∗ free c laM3) :=
  (some_sat c cc0_scratch7).trans
    ((ownsSat_mono (Ψ := fun _ => ∀ _ : Fin 4, True) (c : Thread nD τ) (Memref.whole cc0_scratch7) fullShare (fun _ _ _ => trivial)).trans
      ((ownsSat_rects (c : Thread nD τ) (Memref.whole cc0_scratch7) fullShare row4 (fun _ _ => rfl) row4_disj row4_cover (fun _ _ => True)).trans
        ((Entails.of_eq (sep_fin4 _)).trans
          (both (sat_row c (Memref.whole cc0_scratch7) (row4 0) (fun _ => rfl) squeezes_S1x256x1024_S256x1024) (both (sat_row c (Memref.whole cc0_scratch7) (row4 1) (fun _ => rfl) squeezes_S1x256x1024_S256x1024) (both (sat_row c (Memref.whole cc0_scratch7) (row4 2) (fun _ => rfl) squeezes_S1x256x1024_S256x1024) (sat_row c (Memref.whole cc0_scratch7) (row4 3) (fun _ => rfl) squeezes_S1x256x1024_S256x1024)))))))
theorem la_join (c : Dev nD) : (iprop(free c laM0 ∗ free c laM1 ∗ free c laM2 ∗ free c laM3) : sProp 𝕄) ⊢ some' c cc0_scratch7 :=
  (both (row_sat c (Memref.whole cc0_scratch7) (row4 0) (fun _ => rfl) squeezes_S1x256x1024_S256x1024) (both (row_sat c (Memref.whole cc0_scratch7) (row4 1) (fun _ => rfl) squeezes_S1x256x1024_S256x1024) (both (row_sat c (Memref.whole cc0_scratch7) (row4 2) (fun _ => rfl) squeezes_S1x256x1024_S256x1024) (row_sat c (Memref.whole cc0_scratch7) (row4 3) (fun _ => rfl) squeezes_S1x256x1024_S256x1024)))).trans
    ((Entails.of_eq (sep_fin4 (fun t => ownsSat (Ix := Unit) (Name := ℕ) (U := UU) (Lvl := ℕ) (c : Thread nD τ) ((Memref.whole cc0_scratch7).slice (row4 t) (fun _ => rfl)) fullShare (fun _ => True))).symm).trans
      ((ownsSat_of_rects (c : Thread nD τ) (Memref.whole cc0_scratch7) fullShare row4 (fun _ _ => rfl) row4_disj row4_cover (fun _ _ => True)).trans
        ((ownsSat_mono (c : Thread nD τ) (Memref.whole cc0_scratch7) fullShare (fun _ _ => trivial)).trans (sat_some c cc0_scratch7))))

theorem xdr_split (c : Dev nD) : (some' c cc0_scratch2 : sProp 𝕄) ⊢ free c xdrM := by
  iintro ⟨%f, H⟩; iexists f; unfold at'; rw [owns_whole]; iexact H
theorem xdr_join (c : Dev nD) : (free c xdrM : sProp 𝕄) ⊢ some' c cc0_scratch2 := by
  iintro ⟨%f, H⟩; iexists f; rw [← owns_whole (c : Thread nD τ)]; iexact H

theorem xdl_split (c : Dev nD) : (some' c cc0_scratch3 : sProp 𝕄) ⊢ free c xdlM := by
  iintro ⟨%f, H⟩; iexists f; unfold at'; rw [owns_whole]; iexact H
theorem xdl_join (c : Dev nD) : (free c xdlM : sProp 𝕄) ⊢ some' c cc0_scratch3 := by
  iintro ⟨%f, H⟩; iexists f; rw [← owns_whole (c : Thread nD τ)]; iexact H

theorem xz_split (c : Dev nD) : (some' c cc0_scratch4 : sProp 𝕄) ⊢ free c xzM := by
  iintro ⟨%f, H⟩; iexists f; unfold at'; rw [owns_whole]; iexact H
theorem xz_join (c : Dev nD) : (free c xzM : sProp 𝕄) ⊢ some' c cc0_scratch4 := by
  iintro ⟨%f, H⟩; iexists f; rw [← owns_whole (c : Thread nD τ)]; iexact H

theorem zr_split (c : Dev nD) : (some' c cc0_scratch8 : sProp 𝕄) ⊢ free c zrM := by
  iintro ⟨%f, H⟩; iexists f; unfold at'; rw [owns_whole]; iexact H
theorem zr_join (c : Dev nD) : (free c zrM : sProp 𝕄) ⊢ some' c cc0_scratch8 := by
  iintro ⟨%f, H⟩; iexists f; rw [← owns_whole (c : Thread nD τ)]; iexact H

/-- A row lent in halves, or in quarters, is whole again once all are back. -/
theorem join2 (c : Dev nD) {e : EltTy} (M : Memref sig .tc .vmem S256x1024 e) (X : S256x1024.Idx → Elt F e) :
    (iprop(at' c M hL X ∗ at' c M hR X) : sProp 𝕄) ⊢ at' c M fullShare X := (owns_halves (c : Thread nD τ) M fullShare X).2
theorem join4 (c : Dev nD) {e : EltTy} (M : Memref sig .tc .vmem S256x1024 e) (X : S256x1024.Idx → Elt F e) :
    (iprop(at' c M q1 X ∗ at' c M q2 X ∗ at' c M q3 X ∗ at' c M q4 X) : sProp 𝕄) ⊢ at' c M fullShare X := by
  iintro ⟨H1, H2, H3, H4⟩
  iapply (join2 c M X)
  isplitl [H1 H2]
  · iapply (owns_halves (c : Thread nD τ) M hL X).2
    isplitl [H1] <;> iassumption
  · iapply (owns_halves (c : Thread nD τ) M hR X).2
    isplitl [H3] <;> iassumption

end Cert.KernelProof

end
-- ==== Proof.Ghost.lean ====
/-
What each device holds when the body starts and when it ends, put together from whole families: the positions at its
cells, the duties it pays, the credit it waits with, and its scratch buffers.
-/
module

public import proofs.«01_k».proof.Proof.Body
public import proofs.«01_k».proof.Proof.Rows

@[expose] public section

set_option maxRecDepth 16384

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-- A device's cells, its barrier's, its senders' and its receivers'. -/
theorem sep_cells (Φ : Fin 29 → sProp (MT nD τ sig Unit (Elt F) ℕ UU ℕ)) :
    bigSep Finset.univ Φ = iprop(Φ 0 ∗ Φ (sIx 0) ∗ Φ (sIx 1) ∗ Φ (sIx 2) ∗ Φ (sIx 3) ∗ Φ (sIx 4) ∗ Φ (sIx 5) ∗ Φ (sIx 6) ∗ Φ (sIx 7) ∗ Φ (sIx 8) ∗ Φ (sIx 9) ∗ Φ (sIx 10) ∗ Φ (sIx 11) ∗ Φ (sIx 12) ∗ Φ (sIx 13) ∗ Φ (rIx 0) ∗ Φ (rIx 1) ∗ Φ (rIx 2) ∗ Φ (rIx 3) ∗ Φ (rIx 4) ∗ Φ (rIx 5) ∗ Φ (rIx 6) ∗ Φ (rIx 7) ∗ Φ (rIx 8) ∗ Φ (rIx 9) ∗ Φ (rIx 10) ∗ Φ (rIx 11) ∗ Φ (rIx 12) ∗ Φ (rIx 13)) :=
  bigSep_univ_eq_bigSepL [(0 : Fin 29), (sIx 0), (sIx 1), (sIx 2), (sIx 3), (sIx 4), (sIx 5), (sIx 6), (sIx 7), (sIx 8), (sIx 9), (sIx 10), (sIx 11), (sIx 12), (sIx 13), (rIx 0), (rIx 1), (rIx 2), (rIx 3), (rIx 4), (rIx 5), (rIx 6), (rIx 7), (rIx 8), (rIx 9), (rIx 10), (rIx 11), (rIx 12), (rIx 13)] (by decide) (by decide) Φ
theorem sep_moves (Φ : Fin 14 → sProp (MT nD τ sig Unit (Elt F) ℕ UU ℕ)) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_univ_eq_bigSepL [(0 : Fin 14), 1, 2, 3, 4, 5, 6, 7, 8, 9, 10, 11, 12, 13] (by decide) (by decide) Φ
theorem sep_signals (Φ : Fin 5 → sProp (MT nD τ sig Unit (Elt F) ℕ UU ℕ)) :
    bigSep Finset.univ Φ = iprop(Φ 0 ∗ Φ 1 ∗ Φ 2 ∗ Φ 3 ∗ Φ 4) :=
  bigSep_univ_eq_bigSepL [(0 : Fin 5), 1, 2, 3, 4] (by decide) (by decide) Φ

/-- A device's position at each of its cells, -/
def posAll (c : Dev nD) : sProp 𝕄 := bigSep Finset.univ fun k : Fin 29 => atPos ER (kcell (c, k)) 0 (∅ : Finset (Fin 5)) 0
/-- the duties it pays, -/
def payToks (c : Dev nD) : sProp 𝕄 :=
  iprop((bigSep Finset.univ fun d : Fin 5 => dutyTok ER (barCell (sigE d c)) 0 d) ∗ bigSep Finset.univ fun t : Fin 14 => xtok c t)
/-- the credit of its waits, -/
def credAll (c : Dev nD) : sProp 𝕄 := iprop(cred (tallyAt (barCell c) () 5) ∗ bigSep Finset.univ fun t : Fin 14 => rcred c t)
/-- its scratch buffers, -/
def scr (c : Dev nD) : sProp 𝕄 := iprop(some' c cc0_scratch0 ∗ some' c cc0_scratch1 ∗ some' c cc0_scratch2 ∗ some' c cc0_scratch3 ∗ some' c cc0_scratch4 ∗ some' c cc0_scratch5 ∗ some' c cc0_scratch6 ∗ some' c cc0_scratch7 ∗ some' c cc0_scratch8)
/-- and its cells' counters once they are closed. -/
def zeroAll (c : Dev nD) : sProp 𝕄 := bigSep Finset.univ fun k : Fin 29 => semVal (kcell (c, k)) 0

theorem posAll_eq (c : Dev nD) : (posAll c : sProp 𝕄) = iprop(atPos ER (barCell c) 0 (∅ : Finset (Fin 5)) 0 ∗ spos c 0 ∗ spos c 1 ∗ spos c 2 ∗ spos c 3 ∗ spos c 4 ∗ spos c 5 ∗ spos c 6 ∗ spos c 7 ∗ spos c 8 ∗ spos c 9 ∗ spos c 10 ∗ spos c 11 ∗ spos c 12 ∗ spos c 13 ∗ rpos c 0 ∗ rpos c 1 ∗ rpos c 2 ∗ rpos c 3 ∗ rpos c 4 ∗ rpos c 5 ∗ rpos c 6 ∗ rpos c 7 ∗ rpos c 8 ∗ rpos c 9 ∗ rpos c 10 ∗ rpos c 11 ∗ rpos c 12 ∗ rpos c 13) := by
  unfold posAll; rw [sep_cells]; simp only [kcell_b, kcell_s, kcell_r]; rfl
theorem zeroAll_eq (c : Dev nD) : (zeroAll c : sProp 𝕄) = iprop(semVal (barCell c) 0 ∗ semVal (sCell c 0) 0 ∗ semVal (sCell c 1) 0 ∗ semVal (sCell c 2) 0 ∗ semVal (sCell c 3) 0 ∗ semVal (sCell c 4) 0 ∗ semVal (sCell c 5) 0 ∗ semVal (sCell c 6) 0 ∗ semVal (sCell c 7) 0 ∗ semVal (sCell c 8) 0 ∗ semVal (sCell c 9) 0 ∗ semVal (sCell c 10) 0 ∗ semVal (sCell c 11) 0 ∗ semVal (sCell c 12) 0 ∗ semVal (sCell c 13) 0 ∗ semVal (rCell c 0) 0 ∗ semVal (rCell c 1) 0 ∗ semVal (rCell c 2) 0 ∗ semVal (rCell c 3) 0 ∗ semVal (rCell c 4) 0 ∗ semVal (rCell c 5) 0 ∗ semVal (rCell c 6) 0 ∗ semVal (rCell c 7) 0 ∗ semVal (rCell c 8) 0 ∗ semVal (rCell c 9) 0 ∗ semVal (rCell c 10) 0 ∗ semVal (rCell c 11) 0 ∗ semVal (rCell c 12) 0 ∗ semVal (rCell c 13) 0) := by
  unfold zeroAll; rw [sep_cells]; simp only [kcell_b, kcell_s, kcell_r]

set_option maxHeartbeats 1600000 in
theorem bodyIn_intro (c : Dev nD) :
    iprop(ow c stepsL ∗ posAll c ∗ payToks c ∗ credAll c ∗ scr c ∗ atS c inM0 (xstg m ρ c) ∗ atS c inM1 (qstg m ρ c) ∗ atS c inM2 (ostg m ρ c) ∗ atS c inM3 (kstg m ρ c) ∗ atS c inM4 (vstg m ρ c) ∗ freeS c outM) ⊢ bodyIn m ρ c := by
  unfold payToks credAll scr bodyIn
  iintro ⟨HO, Hpos, ⟨HB, HT⟩, ⟨HcB, HRc⟩, ⟨S0, S1, S2, S3, S4, S5, S6, S7, S8⟩, HinM0, HinM1, HinM2, HinM3, HinM4, HoutM⟩
  ihave Hpos := (Entails.of_eq (posAll_eq c)) $$ Hpos
  icases Hpos with ⟨HpB, HSp0, HSp1, HSp2, HSp3, HSp4, HSp5, HSp6, HSp7, HSp8, HSp9, HSp10, HSp11, HSp12, HSp13, HRp0, HRp1, HRp2, HRp3, HRp4, HRp5, HRp6, HRp7, HRp8, HRp9, HRp10, HRp11, HRp12, HRp13⟩
  ihave HB := (Entails.of_eq (sep_signals _)) $$ HB
  icases HB with ⟨HB0, HB1, HB2, HB3, HB4⟩
  ihave HT := (Entails.of_eq (sep_moves _)) $$ HT
  icases HT with ⟨HT0, HT1, HT2, HT3, HT4, HT5, HT6, HT7, HT8, HT9, HT10, HT11, HT12, HT13⟩
  ihave HRc := (Entails.of_eq (sep_moves _)) $$ HRc
  icases HRc with ⟨HRc0, HRc1, HRc2, HRc3, HRc4, HRc5, HRc6, HRc7, HRc8, HRc9, HRc10, HRc11, HRc12, HRc13⟩
  ihave S0 := (xr_split c) $$ S0
  icases S0 with ⟨HxrM0, XR1, XR2⟩
  ihave S1 := (xl_split c) $$ S1
  icases S1 with ⟨HxlM0, XL1, XL2⟩
  ihave S5 := (pt_split c) $$ S5
  icases S5 with ⟨HptM0, HptM1, HptM2, HptM3, HptM4, HptM5, HptM6, HptM7⟩
  ihave S6 := (ra_split c) $$ S6
  icases S6 with ⟨HraM0, RA1, RA2, RA3⟩
  ihave S7 := (la_split c) $$ S7
  icases S7 with ⟨HlaM0, LA1, LA2, LA3⟩
  ihave XDR := (xdr_split c) $$ S2
  ihave XDL := (xdl_split c) $$ S3
  ihave XZ := (xz_split c) $$ S4
  ihave ZR := (zr_split c) $$ S8
  isplitl [HO]; · iexact HO
  isplitl [HB0]; · iexact HB0
  isplitl [XR1 XR2 RA1 RA2 RA3]
  · iapply (show iprop(free c xrM1 ∗ free c xrM2 ∗ free c raM1 ∗ free c raM2 ∗ free c raM3) ⊢ (lend c 0 : sProp 𝕄) from .rfl)
    isplitl [XR1]; · iexact XR1
    isplitl [XR2]; · iexact XR2
    isplitl [RA1]; · iexact RA1
    isplitl [RA2]; · iexact RA2
    iexact RA3
  isplitl [HB1]; · iexact HB1
  isplitl [XL1 XL2 LA1 LA2 LA3]
  · iapply (show iprop(free c xlM1 ∗ free c xlM2 ∗ free c laM1 ∗ free c laM2 ∗ free c laM3) ⊢ (lend c 1 : sProp 𝕄) from .rfl)
    isplitl [XL1]; · iexact XL1
    isplitl [XL2]; · iexact XL2
    isplitl [LA1]; · iexact LA1
    isplitl [LA2]; · iexact LA2
    iexact LA3
  isplitl [HB2]; · iexact HB2
  isplitl [XDL]
  · iapply (show iprop(free c xdlM) ⊢ (lend c 2 : sProp 𝕄) from .rfl)
    iexact XDL
  isplitl [HB3]; · iexact HB3
  isplitl [XDR]
  · iapply (show iprop(free c xdrM) ⊢ (lend c 3 : sProp 𝕄) from .rfl)
    iexact XDR
  isplitl [HB4]; · iexact HB4
  isplitl [XZ ZR]
  · iapply (show iprop(free c xzM ∗ free c zrM) ⊢ (lend c 4 : sProp 𝕄) from .rfl)
    isplitl [XZ]; · iexact XZ
    iexact ZR
  isplitl [HcB]; · iexact HcB
  isplitl [HpB]; · iexact HpB
  isplitl [HinM0]; · iexact HinM0
  isplitl [HxrM0]; · iexact HxrM0
  isplitl [HxlM0]; · iexact HxlM0
  isplitl [HT0]; · iexact HT0
  isplitl [HT1]; · iexact HT1
  isplitl [HT2]; · iexact HT2
  isplitl [HT3]; · iexact HT3
  isplitl [HT4]; · iexact HT4
  isplitl [HinM1]; · iexact HinM1
  isplitl [HinM3]; · iexact HinM3
  isplitl [HinM4]; · iexact HinM4
  isplitl [HinM2]; · iexact HinM2
  isplitl [HptM0]; · iexact HptM0
  isplitl [HRc0]; · iexact HRc0
  isplitl [HRp0]; · iexact HRp0
  isplitl [HptM4]; · iexact HptM4
  isplitl [HT5]; · iexact HT5
  isplitl [HRc3]; · iexact HRc3
  isplitl [HRp3]; · iexact HRp3
  isplitl [HT6]; · iexact HT6
  isplitl [HRc4]; · iexact HRc4
  isplitl [HRp4]; · iexact HRp4
  isplitl [HT7]; · iexact HT7
  isplitl [HRc1]; · iexact HRc1
  isplitl [HRp1]; · iexact HRp1
  isplitl [HptM3]; · iexact HptM3
  isplitl [HlaM0]; · iexact HlaM0
  isplitl [HT8]; · iexact HT8
  isplitl [HRc2]; · iexact HRc2
  isplitl [HRp2]; · iexact HRp2
  isplitl [HptM5]; · iexact HptM5
  isplitl [HraM0]; · iexact HraM0
  isplitl [HT9]; · iexact HT9
  isplitl [HRc6]; · iexact HRc6
  isplitl [HRp6]; · iexact HRp6
  isplitl [HptM2]; · iexact HptM2
  isplitl [HRc7]; · iexact HRc7
  isplitl [HRp7]; · iexact HRp7
  isplitl [HptM6]; · iexact HptM6
  isplitl [HRc8]; · iexact HRc8
  isplitl [HRp8]; · iexact HRp8
  isplitl [HT10]; · iexact HT10
  isplitl [HRc9]; · iexact HRc9
  isplitl [HRp9]; · iexact HRp9
  isplitl [HT11]; · iexact HT11
  isplitl [HptM1]; · iexact HptM1
  isplitl [HptM7]; · iexact HptM7
  isplitl [HRc10]; · iexact HRc10
  isplitl [HRp10]; · iexact HRp10
  isplitl [HT12]; · iexact HT12
  isplitl [HRc11]; · iexact HRc11
  isplitl [HRp11]; · iexact HRp11
  isplitl [HT13]; · iexact HT13
  isplitl [HRc12]; · iexact HRc12
  isplitl [HRp12]; · iexact HRp12
  isplitl [HRc13]; · iexact HRc13
  isplitl [HRp13]; · iexact HRp13
  isplitl [HRc5]; · iexact HRc5
  isplitl [HRp5]; · iexact HRp5
  isplitl [HoutM]; · iexact HoutM
  isplitl [HSp0]; · iexact HSp0
  isplitl [HSp1]; · iexact HSp1
  isplitl [HSp2]; · iexact HSp2
  isplitl [HSp3]; · iexact HSp3
  isplitl [HSp4]; · iexact HSp4
  isplitl [HSp5]; · iexact HSp5
  isplitl [HSp6]; · iexact HSp6
  isplitl [HSp7]; · iexact HSp7
  isplitl [HSp8]; · iexact HSp8
  isplitl [HSp9]; · iexact HSp9
  isplitl [HSp10]; · iexact HSp10
  isplitl [HSp11]; · iexact HSp11
  isplitl [HSp12]; · iexact HSp12
  iexact HSp13

set_option maxHeartbeats 1600000 in
theorem bodyOut_elim (c : Dev nD) :
    bodyOut m ρ c ⊢ iprop(ow c [] ∗ zeroAll c ∗ scr c ∗ atS c inM0 (xstg m ρ c) ∗ atS c inM1 (qstg m ρ c) ∗ atS c inM2 (ostg m ρ c) ∗ atS c inM3 (kstg m ρ c) ∗ atS c inM4 (vstg m ρ c) ∗ atS c outM (outv m ρ c)) := by
  unfold scr bodyOut
  iintro ⟨HzB, HinM0, HinM1, HinM3, HinM4, HinM2, HzR0, HxzM, HzR3, HzR4, HzR1, HxdrM, HptM3, HzR2, HxdlM, HptM5, HzR6, HxrM2, HzR7, HxlM2, HzR8, HptM2, HzR9, HptM6, HxrM1r, HxlM1r, HzR10, HptM1, HzR11, HptM7, HzR12, HlaM3, HzR13, HraM3, HzR5, HptM0, HzrM, HoutM, HzS0, HxrM0a, HzS1, HxrM0b, HzS2, HxrM0d, HzS3, HxrM0e, HzS4, HxlM0, HzS5, HptM4, HzS6, HxrM1l, HzS7, HxlM1l, HzS8, HlaM0, HzS9, HraM0, HzS10, HlaM1, HzS11, HraM1, HzS12, HlaM2, HO, HzS13, HraM2⟩
  isplitl [HO]; · iexact HO
  isplitl [HzB HzR0 HzR3 HzR4 HzR1 HzR2 HzR6 HzR7 HzR8 HzR9 HzR10 HzR11 HzR12 HzR13 HzR5 HzS0 HzS1 HzS2 HzS3 HzS4 HzS5 HzS6 HzS7 HzS8 HzS9 HzS10 HzS11 HzS12 HzS13]
  · rw [zeroAll_eq]
    isplitl [HzB]; · iexact HzB
    isplitl [HzS0]; · iexact HzS0
    isplitl [HzS1]; · iexact HzS1
    isplitl [HzS2]; · iexact HzS2
    isplitl [HzS3]; · iexact HzS3
    isplitl [HzS4]; · iexact HzS4
    isplitl [HzS5]; · iexact HzS5
    isplitl [HzS6]; · iexact HzS6
    isplitl [HzS7]; · iexact HzS7
    isplitl [HzS8]; · iexact HzS8
    isplitl [HzS9]; · iexact HzS9
    isplitl [HzS10]; · iexact HzS10
    isplitl [HzS11]; · iexact HzS11
    isplitl [HzS12]; · iexact HzS12
    isplitl [HzS13]; · iexact HzS13
    isplitl [HzR0]; · iexact HzR0
    isplitl [HzR1]; · iexact HzR1
    isplitl [HzR2]; · iexact HzR2
    isplitl [HzR3]; · iexact HzR3
    isplitl [HzR4]; · iexact HzR4
    isplitl [HzR5]; · iexact HzR5
    isplitl [HzR6]; · iexact HzR6
    isplitl [HzR7]; · iexact HzR7
    isplitl [HzR8]; · iexact HzR8
    isplitl [HzR9]; · iexact HzR9
    isplitl [HzR10]; · iexact HzR10
    isplitl [HzR11]; · iexact HzR11
    isplitl [HzR12]; · iexact HzR12
    iexact HzR13
  ihave HxrM0 := (join4 c xrM0 (qx m ρ c)) $$ [HxrM0a HxrM0b HxrM0d HxrM0e]
  · isplitl [HxrM0a]; · iexact HxrM0a
    isplitl [HxrM0b]; · iexact HxrM0b
    isplitl [HxrM0d]; · iexact HxrM0d
    iexact HxrM0e
  ihave HxrM1 := (join2 c xrM1 (qx m ρ (lf c))) $$ [HxrM1l HxrM1r]
  · isplitl [HxrM1l]; · iexact HxrM1l
    iexact HxrM1r
  ihave HxlM1 := (join2 c xlM1 (qx m ρ (rt c))) $$ [HxlM1l HxlM1r]
  · isplitl [HxlM1l]; · iexact HxlM1l
    iexact HxlM1r
  isplitl [HxrM0 HxrM1 HxrM2 HxlM0 HxlM1 HxlM2 HxdrM HxdlM HxzM HptM0 HptM1 HptM2 HptM3 HptM4 HptM5 HptM6 HptM7 HraM0 HraM1 HraM2 HraM3 HlaM0 HlaM1 HlaM2 HlaM3 HzrM]
  · isplitl [HxrM0 HxrM1 HxrM2]
    · iapply (xr_join c)
      isplitl [HxrM0]; · iexists _; iexact HxrM0
      isplitl [HxrM1]; · iexists _; iexact HxrM1
      iexists _; iexact HxrM2
    isplitl [HxlM0 HxlM1 HxlM2]
    · iapply (xl_join c)
      isplitl [HxlM0]; · iexists _; iexact HxlM0
      isplitl [HxlM1]; · iexists _; iexact HxlM1
      iexists _; iexact HxlM2
    isplitl [HxdrM]
    · iapply (xdr_join c)
      iexists _; iexact HxdrM
    isplitl [HxdlM]
    · iapply (xdl_join c)
      iexists _; iexact HxdlM
    isplitl [HxzM]
    · iapply (xz_join c)
      iexists _; iexact HxzM
    isplitl [HptM0 HptM1 HptM2 HptM3 HptM4 HptM5 HptM6 HptM7]
    · iapply (pt_join c)
      isplitl [HptM0]; · iexists _; iexact HptM0
      isplitl [HptM1]; · iexists _; iexact HptM1
      isplitl [HptM2]; · iexists _; iexact HptM2
      isplitl [HptM3]; · iexists _; iexact HptM3
      isplitl [HptM4]; · iexists _; iexact HptM4
      isplitl [HptM5]; · iexists _; iexact HptM5
      isplitl [HptM6]; · iexists _; iexact HptM6
      iexists _; iexact HptM7
    isplitl [HraM0 HraM1 HraM2 HraM3]
    · iapply (ra_join c)
      isplitl [HraM0]; · iexists _; iexact HraM0
      isplitl [HraM1]; · iexists _; iexact HraM1
      isplitl [HraM2]; · iexists _; iexact HraM2
      iexists _; iexact HraM3
    isplitl [HlaM0 HlaM1 HlaM2 HlaM3]
    · iapply (la_join c)
      isplitl [HlaM0]; · iexists _; iexact HlaM0
      isplitl [HlaM1]; · iexists _; iexact HlaM1
      isplitl [HlaM2]; · iexists _; iexact HlaM2
      iexists _; iexact HlaM3
    iapply (zr_join c)
    iexists _; iexact HzrM
  isplitl [HinM0]; · iexact HinM0
  isplitl [HinM1]; · iexact HinM1
  isplitl [HinM2]; · iexact HinM2
  isplitl [HinM3]; · iexact HinM3
  isplitl [HinM4]; · iexact HinM4
  iexact HoutM

end Cert.KernelProof

end
-- ==== Proof.Launch.lean ====
/-
The launch: the eight devices' bodies run together from an arbitrary memory with every semaphore at zero. Each device
starts with the duties it pays, its positions, and the credit of its waits; every execution ends with each device's
result in place, its arguments as they were and every semaphore at zero again.
-/
module

public import proofs.«01_k».proof.Proof.Ghost
public import Idealize.ShloMosaic.Lib.Pipeline.CollectiveSegs

@[expose] public section

set_option maxRecDepth 16384

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

abbrev t₀ : Fin cfg0.N := t0_0
theorem fin_t (t : Fin cfg0.N) : t = t₀ := fin_N0 t

/-! ## The duties and who is dealt them -/

/-- The duty tokens as minted: a device's own barrier's five, its senders' and its receivers'. -/
def tokOf : Dev nD × (Fin 5 ⊕ (Fin 14 ⊕ Fin 14)) → GSem nD τ sig × ℕ × Fin 5
  | (c, .inl d) => (barCell c, 0, d)
  | (c, .inr (.inl t)) => (sCell c t, 0, 0)
  | (c, .inr (.inr t)) => (rCell c t, 0, 0)

theorem ssem_inj {t t' : Fin 14} (h : (SemLoc.dma (ssem t) : SemLoc sig) = .dma (ssem t')) : t = t' := by
  revert h; revert t t'; decide
theorem rsem_inj {t t' : Fin 14} (h : (SemLoc.dma (rsem t) : SemLoc sig) = .dma (rsem t')) : t = t' := by
  revert h; revert t t'; decide
theorem srsem_ne {t t' : Fin 14} : (SemLoc.dma (ssem t) : SemLoc sig) ≠ .dma (rsem t') := by
  revert t t'; decide

theorem tokOf_injective : Function.Injective tokOf := by
  rintro ⟨c, j⟩ ⟨c', j'⟩ h
  have h1 : c = c' := by
    have := congrArg (fun x : GSem nD τ sig × ℕ × Fin 5 => x.1.1.1) h
    rcases j with d | t | t <;> rcases j' with d' | t' | t' <;> exact this
  subst h1
  have h2 := congrArg (fun x : GSem nD τ sig × ℕ × Fin 5 => (x.1.2, x.2.2)) h
  rcases j with d | t | t <;> rcases j' with d' | t' | t'
  · have : d = d' := congrArg Prod.snd h2
    rw [this]
  · exact absurd (congrArg Prod.fst h2) (fun h => by cases h)
  · exact absurd (congrArg Prod.fst h2) (fun h => by cases h)
  · exact absurd (congrArg Prod.fst h2) (fun h => by cases h)
  · rw [ssem_inj (congrArg Prod.fst h2)]
  · exact absurd (congrArg Prod.fst h2) srsem_ne
  · exact absurd (congrArg Prod.fst h2) (fun h => by cases h)
  · exact absurd (congrArg Prod.fst h2).symm srsem_ne
  · rw [rsem_inj (congrArg Prod.fst h2)]

theorem csem_injective : Function.Injective csem := by intro a b; revert a b; decide
theorem kcell_injective : Function.Injective (kcell : Dev nD × Fin 29 → GSem nD τ sig) := by
  rintro ⟨c, k⟩ ⟨c', k'⟩ h
  have h1 : c = c' := congrArg (fun g : GSem nD τ sig => g.1.1) h
  subst h1
  have h2 : k = k' := csem_injective (congrArg Prod.snd h)
  rw [h2]

def allCells : Finset (GSem nD τ sig) := Finset.univ.map ⟨kcell, kcell_injective⟩
def allToks : Finset (GSem nD τ sig × ℕ × Fin 5) := Finset.univ.map ⟨tokOf, tokOf_injective⟩

def u₀ : UU :=
  (initOf (Pipeline.cells cfgs cellOf_inj) (Pipeline.launchToks cfgs cellOf_inj), initOf allCells allToks)

/-- The duty tokens of device `c`'s own cells. -/
def toks (c : Dev nD) : sProp 𝕄 :=
  iprop((bigSep Finset.univ fun d : Fin 5 => dutyTok ER (barCell c) 0 d)
    ∗ (bigSep Finset.univ fun t : Fin 14 => dutyTok ER (sCell c t) 0 (0 : Fin 5))
    ∗ bigSep Finset.univ fun t : Fin 14 => dutyTok ER (rCell c t) 0 (0 : Fin 5))

/-- What device `c` is dealt before the cells are set up, -/
def G (c : Dev nD) : sProp 𝕄 :=
  iprop((bigSep Finset.univ fun k : Fin 29 => roundState ER (rd m ρ) (kcell (c, k)) 0)
    ∗ (bigSep Finset.univ fun k : Fin 29 => iprop(atPos ER (kcell (c, k)) 0 (∅ : Finset (Fin 5)) 0 ∗ reached ER (kcell (c, k)) 0)) ∗ toks c)

/-- every device's cells, set up, -/
def records (K : Dev nD × Fin 29 → ℕ) : sProp 𝕄 :=
  iprop((bigSep Finset.univ fun ck : Dev nD × Fin 29 => cellInv ER (rd m ρ) (K ck) (kcell ck))
    ∗ bigSep Finset.univ fun ck : Dev nD × Fin 29 => reached ER (kcell ck) 0)
instance records_persistent (K : Dev nD × Fin 29 → ℕ) : BI.Persistent (records (F := F) m ρ K) := by unfold records; infer_instance

/-- and what it holds once they are. -/
def G' (c : Dev nD) : sProp 𝕄 := iprop(∃ K, records m ρ K ∗ posAll c ∗ payToks c)

theorem fund : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Fin 29 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum, bigSep_univ_sum]; rfl
  iintro HX
  imod (Rounds.fund ER (rd m ρ) allCells allToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSemFacts : Pipeline.OwnSemFacts cfg0.spec osem := by decide

/-- The counters of a device's cells are the kernel's own semaphores and the barrier's. -/
theorem sems_eq (c : Dev nD) :
    (iprop(unscopedSems0 c ∗ Pipeline.ownSems0 (Ix := Unit) (Name := ℕ) (U := UU) (Lvl := ℕ) (Val := Elt F) (τ := τ) osem c) : sProp 𝕄) = zeroAll c := by
  have hu : (unscopedSems0 c : sProp 𝕄) = semVal (barCell c) 0 := by
    unfold unscopedSems0; rw [bigSep_eq_bigSepL_of_eq [SemLoc.reg barS] (by decide) (by decide)]; rfl
  have ho : (Pipeline.ownSems0 (Ix := Unit) (Name := ℕ) (U := UU) (Lvl := ℕ) (Val := Elt F) (τ := τ) osem c : sProp 𝕄)
      = bigSep Finset.univ fun k : Fin 28 => semVal (kcell (c, k.succ)) 0 := by
    unfold Pipeline.ownSems0; exact bigSep_congr fun k _ => rfl
  have h0 : (Finset.univ : Finset (Fin 29)).erase 0 = (Finset.univ : Finset (Fin 28)).map (Fin.succEmb 28) := by decide
  rw [hu, ho]; unfold zeroAll
  rw [bigSep_univ_split (0 : Fin 29), h0, bigSep_map]; rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k))))
          ∗ (bigSep Finset.univ fun k => iprop(atPos ER (kcell (c, k)) 0 (∅ : Finset (Fin 5)) 0 ∗ reached ER (kcell (c, k)) 0)) ∗ toks c) := by
  unfold G
  iintro ⟨Hos, Hus, Hst, Hat, Htok⟩
  ihave Hv := (Entails.of_eq (sems_eq (F := F) c)) $$ [Hos Hus]
  · isplitl [Hus] <;> iassumption
  unfold zeroAll
  imod (show iprop((bigSep Finset.univ fun k : Fin 29 => semVal (kcell (c, k)) 0) ∗ bigSep Finset.univ fun k : Fin 29 => roundState ER (rd m ρ) (kcell (c, k)) 0)
      ⊢ (|={Set.univ}=> bigSep Finset.univ fun k => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- A family dealt out along one permutation of the devices for each index. -/
theorem around {n : ℕ} (e : Fin n → (Dev nD ≃ Dev nD)) (Φ : Dev nD → Fin n → sProp (MT nD τ sig Unit (Elt F) ℕ UU ℕ)) :
    (bigSep Finset.univ fun c => bigSep Finset.univ fun d => Φ c d)
      = bigSep Finset.univ fun c => bigSep Finset.univ fun d => Φ (e d c) d := by
  rw [← bigSep_univ_prod (fun p : Dev nD × Fin n => Φ p.1 p.2),
    bigSep_univ_equiv (⟨fun p => (e p.2 p.1, p.2), fun p => ((e p.2).symm p.1, p.2), fun p => by simp, fun p => by simp⟩ : Dev nD × Fin n ≃ Dev nD × Fin n),
    bigSep_univ_prod]
  rfl

theorem toks_around : (bigSep Finset.univ fun c : Dev nD => (toks c : sProp 𝕄)) ⊢ bigSep Finset.univ fun c : Dev nD => payToks c := by
  unfold toks payToks xtok
  simp only [bigSep_sep']
  rw [around sigE (fun c d => (dutyTok ER (barCell c) 0 d : sProp 𝕄)), around tgtE (fun c t => (dutyTok ER (rCell c t) 0 (0 : Fin 5) : sProp 𝕄))]

theorem with_persistent {I : Type} [DecidableEq I] {S : Finset I} {R : sProp (MT nD τ sig Unit (Elt F) ℕ UU ℕ)} [BI.Persistent R]
    {Φ Ψ : I → sProp (MT nD τ sig Unit (Elt F) ℕ UU ℕ)}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (rd m ρ) κ (kcell (c, k))))
          ∗ (bigSep Finset.univ fun k => iprop(atPos ER (kcell (c, k)) 0 (∅ : Finset (Fin 5)) 0 ∗ reached ER (kcell (c, k)) 0)) ∗ toks c) : sProp 𝕄)
      ⊢ bigSep Finset.univ (G' m ρ) := by
  rw [bigSep_sep', bigSep_sep', ← bigSep_univ_prod (fun ck : Dev nD × Fin 29 => iprop(∃ κ : ℕ, cellInv ER (rd m ρ) κ (kcell ck))),
    bigSep_congr (s := Finset.univ) (fun (c : Dev nD) _ => bigSep_sep' Finset.univ (fun k : Fin 29 => (atPos ER (kcell (c, k)) 0 (∅ : Finset (Fin 5)) 0 : sProp 𝕄)) (fun k => reached ER (kcell (c, k)) 0)),
    bigSep_sep', ← bigSep_univ_prod (fun ck : Dev nD × Fin 29 => (reached ER (kcell ck) 0 : sProp 𝕄))]
  iintro ⟨HI, ⟨Hat, #HR⟩, Htok⟩
  ihave HK := (BI.bigSep_exists_pi Finset.univ (fun (ck : Dev nD × Fin 29) (κ : ℕ) => (cellInv ER (rd m ρ) κ (kcell ck) : sProp 𝕄))) $$ HI
  icases HK with ⟨%K, #HI⟩
  ihave Htk := (toks_around (F := F)) $$ Htok
  iapply (with_persistent (R := records m ρ K) (Φ := fun c => iprop(posAll c ∗ payToks c)) fun c _ => show iprop(records m ρ K ∗ posAll c ∗ payToks c) ⊢ G' m ρ c from by
    unfold G'; iintro H; iexists K; iexact H)
  isplitr
  · unfold records; isplitl; · iexact HI
    iexact HR
  · rw [bigSep_sep']
    isplitl [Hat]; · iexact Hat
    iexact Htk

/-- All the semaphores at once become the cells. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- What comes to device `c`'s own cells, step by step. -/
def mineCell (c : Dev nD) : Fin 5 ⊕ Fin 14 → GSem nD τ sig
  | .inl _ => barCell c
  | .inr t => rCell c t
def mine (c : Dev nD) : List (Fin 5 ⊕ Fin 14) → CellTallies nD τ sig Unit
  | [] => 0
  | s :: l => mine c l + tallyAt (mineCell c s) () (stepAmt s)

theorem sum_step (s : Fin 5 ⊕ Fin 14) :
    (∑ c : Dev nD, (tallyAt (stepCell c s) () (stepAmt s) : CellTallies nD τ sig Unit)) = ∑ c : Dev nD, tallyAt (mineCell c s) () (stepAmt s) := by
  rcases s with d | t
  · exact Equiv.sum_comp (sigE d) (fun c => (tallyAt (barCell c) () 1 : CellTallies nD τ sig Unit))
  · exact Equiv.sum_comp (tgtE t) (fun c => (tallyAt (rCell c t) () (amt t) : CellTallies nD τ sig Unit))
theorem sum_owe (l : List (Fin 5 ⊕ Fin 14)) : (∑ c : Dev nD, owe c l) = ∑ c : Dev nD, mine c l := by
  induction l with
  | nil => rfl
  | cons s l ih => simp only [owe, mine]; rw [Finset.sum_add_distrib, Finset.sum_add_distrib, ih, sum_step]
theorem mine_core (c : Dev nD) (l : List (Fin 5 ⊕ Fin 14)) (g : GSem nD τ sig) (h : mine c l g ≠ 0) : g.1 = (c.tc : Thread nD τ) := by
  induction l with
  | nil => exact absurd rfl h
  | cons s l ih =>
    by_cases hg : g = mineCell c s
    · subst hg; rcases s with d | t <;> rfl
    · refine ih fun h0 => h ?_
      show mine c l g + tallyAt (mineCell c s) () (stepAmt s) g = 0
      rw [h0, tallyAt_ne_cell hg, add_zero]

theorem cred_sep (a b : CellTallies nD τ sig Unit) : (cred (a + b) : sProp 𝕄) = iprop(cred a ∗ cred b) :=
  BI.Entails.antisymm (cred_add _ _).1 (cred_add _ _).2

theorem creds (c : Dev nD) : (Pipeline.launchCred O₀ c : sProp 𝕄) ⊢ credAll c := by
  rw [show (O₀ : Dev nD → CellTallies nD τ sig Unit) = fun c => owe c stepsL from rfl,
    Pipeline.launchCred_of_sum _ (fun c => mine c stepsL) (sum_owe stepsL) (fun d g h => mine_core d stepsL g h) c]
  unfold credAll
  have h5 : (tallyAt (barCell c) () 5 : CellTallies nD τ sig Unit) = tallyAt (barCell c) () 1 + tallyAt (barCell c) () 1
      + tallyAt (barCell c) () 1 + tallyAt (barCell c) () 1 + tallyAt (barCell c) () 1 := by simp only [tallyAt_add]
  rw [sep_moves, h5]
  simp only [mine, cred_sep, cred_zero, mineCell, stepAmt]
  unfold rcred
  iintro ⟨⟨⟨⟨⟨⟨⟨⟨⟨⟨⟨⟨⟨⟨⟨⟨⟨⟨⟨-, R13⟩, R12⟩, R11⟩, R10⟩, R9⟩, R8⟩, R7⟩, R6⟩, R5⟩, R4⟩, R3⟩, R2⟩, R1⟩, R0⟩, B4⟩, B3⟩, B2⟩, B1⟩, B0⟩
  isplitl [B0 B1 B2 B3 B4]
  · isplitl [B0 B1 B2 B3]
    · isplitl [B0 B1 B2]
      · isplitl [B0 B1]
        · isplitl [B0] <;> iassumption
        · iexact B2
      · iexact B3
    · iexact B4
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  iexact R13

/-! ## The body at its place in the pipeline -/

/-- What a device holds before its body, -/
def start (c : Dev nD) : sProp 𝕄 := iprop(G' m ρ c ∗ credAll c ∗ levAts L lv)
def Φ₀ (c : Dev nD) : sProp 𝕄 := iprop(start m ρ c ∗ scr c)
/-- and after. -/
def Φ₁ (c : Dev nD) : sProp 𝕄 := iprop(scr c ∗ zeroAll c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => qstg m ρ c
    | ⟨2, _⟩ => ostg m ρ c
    | ⟨3, _⟩ => kstg m ρ c
    | ⟨4, _⟩ => vstg m ρ c
    | ⟨5, _⟩ => outv m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem share_eq (c : Dev nD) (w : Fin cfg0.W) : (dats m ρ 0 c).share w = fullShare := by unfold Dat.share; split <;> rfl

def bodyPre (c : Dev nD) : sProp 𝕄 :=
  iprop(Φ₀ m ρ c ∗ (dats m ρ 0 c).owesAt () t₀.castSucc
    ∗ (∃ d, atS c inM0 ((dats m ρ 0 c).before (0 : Fin 6) t₀ d))
    ∗ (∃ d, atS c inM1 ((dats m ρ 0 c).before (1 : Fin 6) t₀ d))
    ∗ (∃ d, atS c inM2 ((dats m ρ 0 c).before (2 : Fin 6) t₀ d))
    ∗ (∃ d, atS c inM3 ((dats m ρ 0 c).before (3 : Fin 6) t₀ d))
    ∗ (∃ d, atS c inM4 ((dats m ρ 0 c).before (4 : Fin 6) t₀ d))
    ∗ (∃ d, atS c outM ((dats m ρ 0 c).before (5 : Fin 6) t₀ d)))

def bodyPost (c : Dev nD) : sProp 𝕄 :=
  iprop(Φ₁ c ∗ (dats m ρ 0 c).owesAt () t₀.succ ∗ atS c inM0 (xstg m ρ c) ∗ atS c inM1 (qstg m ρ c) ∗ atS c inM2 (ostg m ρ c) ∗ atS c inM3 (kstg m ρ c) ∗ atS c inM4 (vstg m ρ c) ∗ atS c outM (outv m ρ c))

theorem before0 (c : Dev nD) (d) : (dats m ρ 0 c).before (0 : Fin 6) t₀ d = xstg m ρ c := by
  unfold Dat.before; rw [if_pos (show (cfg0.win (0 : Fin 6)).fetch t₀ = true from rfl)]; rfl
theorem before1 (c : Dev nD) (d) : (dats m ρ 0 c).before (1 : Fin 6) t₀ d = qstg m ρ c := by
  unfold Dat.before; rw [if_pos (show (cfg0.win (1 : Fin 6)).fetch t₀ = true from rfl)]; rfl
theorem before2 (c : Dev nD) (d) : (dats m ρ 0 c).before (2 : Fin 6) t₀ d = ostg m ρ c := by
  unfold Dat.before; rw [if_pos (show (cfg0.win (2 : Fin 6)).fetch t₀ = true from rfl)]; rfl
theorem before3 (c : Dev nD) (d) : (dats m ρ 0 c).before (3 : Fin 6) t₀ d = kstg m ρ c := by
  unfold Dat.before; rw [if_pos (show (cfg0.win (3 : Fin 6)).fetch t₀ = true from rfl)]; rfl
theorem before4 (c : Dev nD) (d) : (dats m ρ 0 c).before (4 : Fin 6) t₀ d = vstg m ρ c := by
  unfold Dat.before; rw [if_pos (show (cfg0.win (4 : Fin 6)).fetch t₀ = true from rfl)]; rfl

set_option maxHeartbeats 1600000 in
/-- The body, from what the pipeline hands a device to what it hands back. -/
theorem sound_body (c : Dev nD) :
    bodyPre m ρ c ⊢ wp frame (wpE (defs₀ (F := F)) 𝒱₀ (c : Thread nD τ) none) Set.univ (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24) (fun _ => bodyPost m ρ c) := by
  unfold bodyPre Φ₀ start G' Dat.owesAt Pipeline.owesWithin
  iintro ⟨⟨⟨⟨%K, #HR, Hpos, Htok⟩, Hcr, #Hlev⟩, Hscr⟩, ⟨%W, %hW, HO⟩, ⟨%d0, H0⟩, ⟨%d1, H1⟩, ⟨%d2, H2⟩, ⟨%d3, H3⟩, ⟨%d4, H4⟩, ⟨%d5, H5⟩⟩
  rw [show (dats m ρ 0 c).owed t₀.castSucc = owe c stepsL from rfl, before0, before1, before2, before3, before4]
  iapply (w_body m ρ K c (fun _ => bodyPost m ρ c)) $$ [HO Hpos Htok Hcr Hscr H0 H1 H2 H3 H4 H5]
  · isplitr
    · unfold records glb
      icases HR with ⟨#HI, #HR⟩
      isplitr; · iexact HI
      isplitr; · iexact HR
      iexact Hlev
    · iapply (bodyIn_intro m ρ c)
      isplitl [HO]; · unfold ow; iexists W; iexact HO
      isplitl [Hpos]; · iexact Hpos
      isplitl [Htok]; · iexact Htok
      isplitl [Hcr]; · iexact Hcr
      isplitl [Hscr]; · iexact Hscr
      isplitl [H0]; · iexact H0
      isplitl [H1]; · iexact H1
      isplitl [H2]; · iexact H2
      isplitl [H3]; · iexact H3
      isplitl [H4]; · iexact H4
      iexists _; iexact H5
  · iintro H
    ihave H := (bodyOut_elim m ρ c) $$ H
    icases H with ⟨HO, Hz, Hscr, H0, H1, H2, H3, H4, H5⟩
    unfold ow
    icases HO with ⟨%W', HO⟩
    unfold bodyPost Φ₁ Dat.owesAt Pipeline.owesWithin
    rw [show (dats m ρ 0 c).owed t₀.succ = owe c [] from rfl]
    isplitl [Hscr Hz]
    · isplitl [Hscr] <;> iassumption
    isplitl [HO]
    · iexists W'
      isplitr; · ipureintro; exact fun _ _ => Or.inl trivial
      iexact HO
    isplitl [H0]; · iexact H0
    isplitl [H1]; · iexact H1
    isplitl [H2]; · iexact H2
    isplitl [H3]; · iexact H3
    isplitl [H4]; · iexact H4
    iexact H5

theorem body_obligation (c : Dev nD) : BodyObligation (dats (F := F) m ρ 0 c) (defs₀ (F := F)) 𝒱₀ () Set.univ := fun t => by
  rw [fin_t t]
  refine (Entails.of_eq ?_).trans ((sound_body m ρ c).trans (Entails.of_eq ?_))
  · rw [bigSep_W0]; rfl
  · refine congrArg _ (funext fun _ => ?_)
    rw [bigSep_W0]; rfl

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scr
  rw [← sems_eq]
  iintro ⟨Hr, Hu, Ho⟩
  isplitl [Hu]; · iexact Hu
  isplitl [Ho]; · iexact Ho
  iexact Hr

theorem waits (c : Dev nD) : (levAts L lv : sProp 𝕄) ⊢ Pipeline.cellsWaits cfgs (dats m ρ) () 0 c :=
  Pipeline.cellsWaits_intro cfgs (dats m ρ) () 0 c fun w s t => by
    have h0 : slev (.dma ((cfg0.win w).sem s)) = 0 := by revert w s; decide
    rcases t with ⟨_ | _, ht⟩
    · exact mayWait_owe c _ stepsL (by rw [h0]; decide)
    · exact mayWait_owe c _ [] (fun _ h => absurd h List.not_mem_nil)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- Every execution of the eight devices together ends, and ends with the arrays at these contents and every semaphore
    at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelProof

end
-- ==== Proof.Frames.lean ====
/-
The run read at the arrays: the five arguments end as they began and the result is the sum the last step stores. The
programs over bits and over the extended reals are one text, so one run serves both; the reference is host code only.
-/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run

@[expose] public section

set_option maxRecDepth 16384

noncomputable section

namespace Cert.KernelProof

open Cert.KernelIdeal Cert.KernelIdeal.Gen
open Idealize.ShloMosaic Idealize.ShloMosaic.TcCoe Idealize.SL.Sem
open Idealize.ShloMosaic.Pipeline (Dat)

section
variable {F : FTy → Type} [FloatOps F] [Named F]
variable (m : (ℓ : Loc nD τ sig) → Buf (Elt F) ℓ) (ρ : Dev nD → PrngReg)

/-- A staged block is the whole array. -/
theorem emb0 (y) : (win0_0.blk (0 : Fin 1)).view.emb y = y :=
  funext fun a => Fin.ext (by show 0 * _ + 1 * (y a).val = (y a).val; omega)
theorem xstg_eq (c : Dev nD) : xstg m ρ c = m ((c : Thread nD τ).loc main_arg0) :=
  funext fun y => congrArg (m ((c : Thread nD τ).loc main_arg0)) (emb0 y)
theorem emb1 (y) : (win0_1.blk (0 : Fin 1)).view.emb y = y :=
  funext fun a => Fin.ext (by show 0 * _ + 1 * (y a).val = (y a).val; omega)
theorem qstg_eq (c : Dev nD) : qstg m ρ c = m ((c : Thread nD τ).loc main_arg1) :=
  funext fun y => congrArg (m ((c : Thread nD τ).loc main_arg1)) (emb1 y)
theorem emb2 (y) : (win0_2.blk (0 : Fin 1)).view.emb y = y :=
  funext fun a => Fin.ext (by show 0 * _ + 1 * (y a).val = (y a).val; omega)
theorem ostg_eq (c : Dev nD) : ostg m ρ c = m ((c : Thread nD τ).loc main_arg2) :=
  funext fun y => congrArg (m ((c : Thread nD τ).loc main_arg2)) (emb2 y)
theorem emb3 (y) : (win0_3.blk (0 : Fin 1)).view.emb y = y :=
  funext fun a => Fin.ext (by show 0 * _ + 1 * (y a).val = (y a).val; omega)
theorem kstg_eq (c : Dev nD) : kstg m ρ c = m ((c : Thread nD τ).loc main_arg3) :=
  funext fun y => congrArg (m ((c : Thread nD τ).loc main_arg3)) (emb3 y)
theorem emb4 (y) : (win0_4.blk (0 : Fin 1)).view.emb y = y :=
  funext fun a => Fin.ext (by show 0 * _ + 1 * (y a).val = (y a).val; omega)
theorem vstg_eq (c : Dev nD) : vstg m ρ c = m ((c : Thread nD τ).loc main_arg4) :=
  funext fun y => congrArg (m ((c : Thread nD τ).loc main_arg4)) (emb4 y)
theorem emb5 (y) : (win0_5.blk (0 : Fin 1)).view.emb y = y :=
  funext fun a => Fin.ext (by show 0 * _ + 1 * (y a).val = (y a).val; omega)

theorem finalA_out (c : Dev nD) : finalA m ρ c (5 : Fin 6) = outv m ρ c := by
  refine (dats (F := F) m ρ 0 c).arrAt_eq_of_cover (5 : Fin 6) (outv m ρ c) (fun t _ => ?_) fun i => ⟨t₀, rfl, ?_⟩
  · obtain rfl := fin_t t
    exact funext fun y => (congrArg (outv m ρ c) (emb5 y)).symm
  · exact (congrArg (· ∈ ((cfg0.win (5 : Fin 6)).blk t₀).view.set) (emb5 i)).mp (View.emb_mem_set _ _)

/-- What every execution ends with. -/
def Ends (r : PUnit × MemSt nD τ sig (Elt F)) : Prop :=
  (∀ c : Dev nD, r.2.mem ((c.tc : Thread nD τ).loc main_v1) = outv m ρ c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4))
  ∧ r.2.sem = fun _ => 0

theorem run_ends : θ_run defs (onTc (τ := τ) (main (F := F))) (s₀ m ρ) (Ends m ρ) :=
  (θ_run defs _ _).mono (fun r h => ⟨fun c =>
    ⟨(h.1 c (5 : Fin 6)).trans (finalA_out m ρ c),
      (h.1 c (0 : Fin 6)).trans ((dats (F := F) m ρ 0 c).arrAt_in (0 : Fin 6) rfl _),
      (h.1 c (1 : Fin 6)).trans ((dats (F := F) m ρ 0 c).arrAt_in (1 : Fin 6) rfl _),
      (h.1 c (2 : Fin 6)).trans ((dats (F := F) m ρ 0 c).arrAt_in (2 : Fin 6) rfl _),
      (h.1 c (3 : Fin 6)).trans ((dats (F := F) m ρ 0 c).arrAt_in (3 : Fin 6) rfl _),
      (h.1 c (4 : Fin 6)).trans ((dats (F := F) m ρ 0 c).arrAt_in (4 : Fin 6) rfl _)⟩, h.2⟩) (run_main m ρ)
end

/-! ## The program over bits

It is the same text, the named constant the pattern it was printed with. -/

section
@[reducible] def namedBits : Named Bits := ⟨fun _ _ {_} b => b⟩
attribute [local instance] namedBits

theorem labels_bits : Cert.Kernel.defs₀ (F := Bits) = Cert.KernelIdeal.defs₀ (F := Bits) :=
  congrArg Defs.onTc (funext fun ℓ => funext fun a => match ℓ, a with
    | 0, (t, s) => rfl)

theorem defs_bits : Cert.Kernel.defs (F := Bits) = Cert.KernelIdeal.defs (F := Bits) :=
  congrArg (Pipeline.defs Cert.Kernel.pcfgs) labels_bits

theorem main_bits : Cert.Kernel.main (F := Bits) = Cert.KernelIdeal.main (F := Bits) := rfl

theorem run_bits (m : (ℓ : Loc Cert.Kernel.nD Cert.Kernel.τ Cert.Kernel.sig) → Buf (Elt Bits) ℓ) (ρ : Dev Cert.Kernel.nD → PrngReg) :
    θ_run (Cert.Kernel.defs (F := Bits)) (onTc (τ := Cert.Kernel.τ) (Cert.Kernel.main (F := Bits))) ⟨m, fun _ => 0, ρ⟩
      (Ends (F := Bits) m ρ) := by
  rw [defs_bits, main_bits]
  exact run_ends (F := Bits) m ρ
end

end Cert.KernelProof

namespace Cert.Proof

open Idealize.ShloMosaic Idealize.ShloMosaic.TcCoe Idealize.SL.Sem

theorem frame_pi : Cert.quiescent_KernelIdeal := fun m g _ =>
  (θ_run Cert.KernelIdeal.defs _ _).mono (fun _ h => ⟨fun c => (h.1 c).2, h.2⟩) (Cert.KernelProof.run_ends (F := Ideal) m g)

theorem frame_p : Cert.quiescent_Kernel := fun m g _ =>
  (θ_run Cert.Kernel.defs _ _).mono (fun _ h => ⟨fun c => (h.1 c).2, h.2⟩) (Cert.KernelProof.run_bits m g)

theorem frame_ri : Cert.quiescent_ReferenceIdeal := fun m g _ =>
  (θ_run Cert.ReferenceIdeal.defs _ _).mono (fun r h => ⟨fun c => (h c).2,
      Idealize.ShloMosaic.sem_eq_zero_of_no_sems (by decide) r.2⟩) (Cert.ReferenceIdeal.Value.run (F := Ideal) m g)

end Cert.Proof

end
-- ==== Proof.KernelValue.lean ====
/-
The kernel's payloads read entry by entry over the extended reals: a head is exponentials of scores, their sum,
the weighted values over the sum; a share is the heads against the output weights.
-/
module

public import proofs.«01_k».proof.Proof.Protocol
public import Idealize.ShloMosaic.Lib.Pointwise

@[expose] public section

set_option maxRecDepth 16384

noncomputable section

namespace Cert.KernelProof

open Cert.KernelIdeal Cert.KernelIdeal.Gen
open Idealize.ShloMosaic

/-- One head, from its queries, keys and values, with no maximum subtracted. -/
def plainHead (q k v : Fin 256 → Fin 128 → EReal) (i : Fin 256) (d : Fin 128) : EReal :=
  Ideal.div (∑ j : Fin 256, Ideal.exp (∑ e : Fin 128, q i e * k j e) * v j d)
    (∑ j : Fin 256, Ideal.exp (∑ e : Fin 128, q i e * k j e))

/-- Column `d` of head `h`. -/
def col (h : Fin 8) (d : Fin 128) : Fin 1024 := ⟨h.val * 128 + d.val, by omega⟩

theorem headOf_apply (a b w : FVec Ideal S256x128 .bf16) (i : Fin 256) (d : Fin 128) :
    headOf a b w (ix2 i d)
      = plainHead (fun i e => a (ix2 i e)) (fun i e => b (ix2 i e)) (fun i e => w (ix2 i e)) i d := by
  pointwise [headOf, plainHead]

theorem projOf_apply (W : FVec Ideal S1024x3072 .bf16) (x : FVec Ideal S256x1024 .bf16) (i : Fin 256) (c : Fin 3072) :
    projOf W x (ix2 i c) = ∑ t : Fin 1024, x (ix2 i t) * W (ix2 t c) := by
  pointwise [projOf]

/-- The words of 128, 127, -127 and the two quantiser factors as reals. -/
theorem word_127 : Ideal.ofBits .f32 0x42FE0000#32 = ((127 : ℝ) : EReal) := by
  simp [Ideal.ofBits, Ideal.ieee, -EReal.coe_mul]; norm_num
theorem word_m127 : Ideal.ofBits .f32 0xC2FE0000#32 = ((-127 : ℝ) : EReal) := by
  simp [Ideal.ofBits, Ideal.ieee, -EReal.coe_mul]; norm_num
theorem word_128 : Ideal.ofBits .f32 0x43000000#32 = ((128 : ℝ) : EReal) := by
  simp [Ideal.ofBits, Ideal.ieee, -EReal.coe_mul]; norm_num
theorem word_scale : Ideal.ofBits .bf16 0x41CB#16 = ((25.375 : ℝ) : EReal) := by
  simp [Ideal.ofBits, Ideal.ieee, -EReal.coe_mul]; norm_num
theorem word_unscale : Ideal.ofBits .f32 0x3D214285#32 = ((10568325 / 268435456 : ℝ) : EReal) := by
  simp [Ideal.ofBits, Ideal.ieee, -EReal.coe_mul]; norm_num

/-- The step of the grid a value is sent on, clipped to the eight-bit range. -/
def gridStep (x : EReal) : EReal :=
  min (Ideal.ofBits .f32 0x42FE0000#32)
    (max (Ideal.ofBits .f32 0xC2FE0000#32) (Ideal.liftRound Ideal.roundHalfEven (x * Ideal.ofBits .bf16 0x41CB#16)))

/-- A value as the other devices see it. -/
def sentVal (x : EReal) : EReal := gridStep x * Ideal.ofBits .f32 0x3D214285#32

/-- A grid step is an integer between -127 and 127. -/
theorem gridStep_int (x : EReal) : ∃ n : ℤ, -127 ≤ n ∧ n ≤ 127 ∧ gridStep x = ((n : ℝ) : EReal) := by
  unfold gridStep
  rw [word_127, word_m127]
  generalize x * Ideal.ofBits .bf16 0x41CB#16 = y
  induction y using EReal.rec with
  | bot =>
    refine ⟨-127, by norm_num, by norm_num, ?_⟩
    show min ((127 : ℝ) : EReal) (max ((-127 : ℝ) : EReal) ⊥) = _
    rw [max_eq_left bot_le, min_eq_right (by rw [EReal.coe_le_coe_iff]; norm_num)]
    norm_num
  | top =>
    refine ⟨127, by norm_num, by norm_num, ?_⟩
    show min ((127 : ℝ) : EReal) (max ((-127 : ℝ) : EReal) ⊤) = _
    rw [max_eq_right le_top, min_eq_left le_top]
    norm_num
  | coe r =>
    refine ⟨min 127 (max (-127) (Ideal.roundHalfEven r)), by omega, by omega, ?_⟩
    have mono : Monotone (Real.toEReal) := fun a b h => EReal.coe_le_coe_iff.mpr h
    show min ((127 : ℝ) : EReal) (max ((-127 : ℝ) : EReal) (((Ideal.roundHalfEven r : ℤ) : ℝ) : EReal)) = _
    rw [show ((min 127 (max (-127) (Ideal.roundHalfEven r)) : ℤ) : ℝ) = min 127 (max (-127) ((Ideal.roundHalfEven r : ℤ) : ℝ)) by
      push_cast; rfl, mono.map_min, mono.map_max]

/-- Eight bits hold a grid step exactly. -/
theorem step_round_trip (x : EReal) :
    (FloatOps.sitofp (F := Ideal) .f32 (FloatOps.fptosi (F := Ideal) (φ := .bf16) 8 (gridStep x)) : EReal) = gridStep x := by
  obtain ⟨n, h1, h2, e⟩ := gridStep_int x
  rw [e]
  show ((((Ideal.fptosi 8 ((n : ℝ) : EReal)).toInt : ℤ) : ℝ) : EReal) = _
  have : (Ideal.fptosi 8 ((n : ℝ) : EReal)).toInt = n := by
    unfold Ideal.fptosi
    rw [Ideal.toIntClamped_coe]
    have hm : max (-((2 ^ (8 - 1) : ℕ) : ℤ)) (min (((2 ^ (8 - 1) : ℕ) : ℤ) - 1) (if (0 : ℝ) ≤ (n : ℝ) then ⌊(n : ℝ)⌋ else ⌈(n : ℝ)⌉)) = n := by
      rw [Int.floor_intCast, Int.ceil_intCast, ite_self]
      norm_num
      omega
    rw [hm, BitVec.toInt_ofInt]
    exact Int.bmod_eq_of_le (by norm_num; omega) (by norm_num; omega)
  rw [this]

theorem sent_apply (x : Vec Ideal S1x256x1024 .bf16) (i : Fin 256) (t : Fin 1024) :
    deq (F := Ideal) (quant (F := Ideal) x) (ix2 i t) = sentVal (x (ix3 0 i t)) := by
  have h := step_round_trip (x (ix3 0 i t))
  have h1 : quant (F := Ideal) x (ix2 i t) = FloatOps.fptosi (F := Ideal) (φ := .bf16) 8 (gridStep (x (ix3 0 i t))) := by
    pointwise [quant, k0_pay2, gridStep]
  have h2 : deq (F := Ideal) (quant (F := Ideal) x) (ix2 i t)
      = FloatOps.sitofp (F := Ideal) .f32 (quant (F := Ideal) x (ix2 i t)) * Ideal.ofBits .f32 0x3D214285#32 := by
    generalize quant (F := Ideal) x = v
    pointwise [deq]
  rw [h2, h1, sentVal]
  exact congrArg (· * _) h

/-- The factor put into the query weights. -/
theorem named_s : Named.named (F := Ideal) κ "s" (φ := .bf16) 0x3DB5#16 = (((Real.sqrt 128)⁻¹ : ℝ) : EReal) :=
  IdealRules.named_const.ideal_named_scalar _ _ _ _ rfl

theorem wqkv_q (q k v : Vec Ideal S1024x1024 .bf16) (t c : Fin 1024) :
    k0_pay5 (F := Ideal) q k v (ix2 t ⟨c.val, by omega⟩) = q (ix2 t c) * (((Real.sqrt 128)⁻¹ : ℝ) : EReal) := by
  rw [← named_s]
  pointwise [k0_pay5]

theorem wqkv_k (q k v : Vec Ideal S1024x1024 .bf16) (t c : Fin 1024) :
    k0_pay5 (F := Ideal) q k v (ix2 t ⟨1024 + c.val, by omega⟩) = k (ix2 t c) := by
  pointwise [k0_pay5]

theorem wqkv_v (q k v : Vec Ideal S1024x1024 .bf16) (t c : Fin 1024) :
    k0_pay5 (F := Ideal) q k v (ix2 t ⟨2048 + c.val, by omega⟩) = v (ix2 t c) := by
  pointwise [k0_pay5]
  rw [dif_neg (by omega), dif_neg (by omega)]
  exact congrArg v (congrArg (ix2 t) (Fin.ext (by show 2048 + c.val - 1024 - 1024 = c.val; omega)))

theorem head_at (a b w : FVec Ideal S256x128 .bf16) (i : Fin 256) {n : ℕ} (hn : n < 128) (d : Fin 128) (e : n = d.val) :
    headOf a b w (ix2 i ⟨n, hn⟩)
      = plainHead (fun i e => a (ix2 i e)) (fun i e => b (ix2 i e)) (fun i e => w (ix2 i e)) i d := by
  subst e
  exact headOf_apply a b w i d

set_option maxHeartbeats 4000000 in
/-- A share at an entry: over the heads and their columns, the head against the output weights. -/
theorem headsOf_apply (wo : FVec Ideal S1024x1024 .bf16) (q k v : FVec Ideal S256x1024 .bf16) (i : Fin 256) (o : Fin 1024) :
    headsOf wo q k v (ix2 i o)
      = ∑ h : Fin 8, ∑ d : Fin 128,
          plainHead (fun i e => q (ix2 i (col h e))) (fun i e => k (ix2 i (col h e))) (fun i e => v (ix2 i (col h e))) i d
            * wo (ix2 (col h d) o) := by
  pointwise [headsOf]
  rw [Fin.sum_univ_tiles 8 128 rfl]
  refine Finset.sum_congr rfl fun h _ => Finset.sum_congr rfl fun d _ => ?_
  congr 1
  have hd := d.isLt
  fin_vals h with hh
  all_goals
    simp only [hh]
    split_ifs
    all_goals first
      | omega
      | skip
    rw [head_at _ _ _ _ _ d (by omega)]
    congr 1 <;> funext i e <;> pointwise <;>
      exact congrArg _ (congrArg (ix2 i) (Fin.ext (by simp only [col, hh] <;> omega)))

theorem whole_x (x : Vec Ideal S1x256x1024 .bf16) (i : Fin 256) (t : Fin 1024) :
    k0_pay1 (F := Ideal) x (ix2 i t) = x (ix3 0 i t) := by
  pointwise [k0_pay1]

theorem wout_apply (w : Vec Ideal S1024x1024 .bf16) (i t : Fin 1024) :
    k0_pay6 (F := Ideal) w (ix2 i t) = w (ix2 i t) := by
  pointwise [k0_pay6]

/-- The share a device makes of a sequence, from its own weights. -/
def shareOf (x : Fin 256 → Fin 1024 → EReal) (q k v wo : Vec Ideal S1024x1024 .bf16) (i : Fin 256) (o : Fin 1024) : EReal :=
  ∑ h : Fin 8, ∑ d : Fin 128,
    plainHead (fun i e => ∑ t : Fin 1024, x i t * (q (ix2 t (col h e)) * (((Real.sqrt 128)⁻¹ : ℝ) : EReal)))
      (fun i e => ∑ t : Fin 1024, x i t * k (ix2 t (col h e)))
      (fun i e => ∑ t : Fin 1024, x i t * v (ix2 t (col h e))) i d
    * wo (ix2 (col h d) o)

theorem attn_apply (x : FVec Ideal S256x1024 .bf16) (q k v wo : Vec Ideal S1024x1024 .bf16) (i : Fin 256) (o : Fin 1024) :
    attn (F := Ideal) (k0_pay5 (F := Ideal) q k v) (k0_pay6 (F := Ideal) wo) x (ix2 i o) = shareOf (fun i t => x (ix2 i t)) q k v wo i o := by
  have hq : ∀ (i : Fin 256) (c : Fin 1024),
      extractStridedSlice S256x1024 ![0, 0] (projOf (F := Ideal) (k0_pay5 (F := Ideal) q k v) x) slices_S256x3072_o0_0_S256x1024 (ix2 i c)
        = ∑ t : Fin 1024, x (ix2 i t) * (q (ix2 t c) * (((Real.sqrt 128)⁻¹ : ℝ) : EReal)) := by
    intro i c
    refine Eq.trans ?_ ((projOf_apply (k0_pay5 (F := Ideal) q k v) x i ⟨c.val, by omega⟩).trans
      (Finset.sum_congr rfl fun t _ => congrArg _ (wqkv_q q k v t c)))
    generalize projOf (F := Ideal) (k0_pay5 (F := Ideal) q k v) x = y
    pointwise
  have hk : ∀ (i : Fin 256) (c : Fin 1024),
      extractStridedSlice S256x1024 ![0, 1024] (projOf (F := Ideal) (k0_pay5 (F := Ideal) q k v) x) slices_S256x3072_o0_1024_S256x1024 (ix2 i c)
        = ∑ t : Fin 1024, x (ix2 i t) * k (ix2 t c) := by
    intro i c
    refine Eq.trans ?_ ((projOf_apply (k0_pay5 (F := Ideal) q k v) x i ⟨1024 + c.val, by omega⟩).trans
      (Finset.sum_congr rfl fun t _ => congrArg _ (wqkv_k q k v t c)))
    generalize projOf (F := Ideal) (k0_pay5 (F := Ideal) q k v) x = y
    pointwise
  have hv : ∀ (i : Fin 256) (c : Fin 1024),
      extractStridedSlice S256x1024 ![0, 2048] (projOf (F := Ideal) (k0_pay5 (F := Ideal) q k v) x) slices_S256x3072_o0_2048_S256x1024 (ix2 i c)
        = ∑ t : Fin 1024, x (ix2 i t) * v (ix2 t c) := by
    intro i c
    refine Eq.trans ?_ ((projOf_apply (k0_pay5 (F := Ideal) q k v) x i ⟨2048 + c.val, by omega⟩).trans
      (Finset.sum_congr rfl fun t _ => congrArg _ (wqkv_v q k v t c)))
    generalize projOf (F := Ideal) (k0_pay5 (F := Ideal) q k v) x = y
    pointwise
  rw [attn, headsOf_apply]
  simp only [hq, hk, hv, wout_apply, shareOf]

variable (m : (ℓ : Loc nD τ sig) → Buf (Elt Ideal) ℓ) (ρ : Dev nD → PrngReg)

/-- What device `b` makes of device `c`'s sequence: of its own as it is, of another's as it was sent. -/
def part (b c : Dev nD) (i : Fin 256) (o : Fin 1024) : EReal :=
  shareOf (fun i t => if b = c then xstg m ρ c (ix3 0 i t) else sentVal (xstg m ρ c (ix3 0 i t)))
    (qstg m ρ b) (kstg m ρ b) (vstg m ρ b) (ostg m ρ b) i o

theorem own_apply (b : Dev nD) (i : Fin 256) (o : Fin 1024) : own m ρ b (ix2 i o) = part m ρ b b i o := by
  rw [own, wqkv, wout, attn_apply]
  simp only [whole_x, part, if_pos]

theorem oth_apply (b c : Dev nD) (h : b ≠ c) (i : Fin 256) (o : Fin 1024) : oth m ρ b c (ix2 i o) = part m ρ b c i o := by
  rw [oth, wqkv, wout, attn_apply]
  simp only [qx, sent_apply, part, if_neg h]

/-- Eight terms walked round the ring from `c` are all eight. -/
theorem ring_sum (f : Dev nD → EReal) (c : Dev nD) :
    f c + (f (rt (rt (rt c))) + f (rt (rt c)) + f (rt c)) + (f (lf (lf (lf c))) + f (lf (lf c)) + f (lf c)) + f (op c)
      = ∑ b : Dev nD, f b := by
  have bij : ∀ c : Dev nD, Function.Bijective fun k : Fin 8 => step k.val c := by decide
  have e : (∑ b : Dev nD, f b) = ∑ k : Fin 8, f (step k.val c) :=
    ((Equiv.ofBijective _ (bij c)).sum_comp f).symm
  have h : ∀ c : Dev nD, rt (rt (rt c)) = step 3 c ∧ rt (rt c) = step 2 c ∧ lf (lf (lf c)) = step 5 c ∧ lf (lf c) = step 6 c
      ∧ c = step 0 c := by decide
  obtain ⟨h3, h2, h5, h6, h0⟩ := h c
  rw [e, Fin.sum_univ_eight, h3, h2, h5, h6]
  have z : f c = f (step 0 c) := congrArg f h0
  rw [z]
  show f (step 0 c) + (f (step 3 c) + f (step 2 c) + f (step 1 c)) + (f (step 5 c) + f (step 6 c) + f (step 7 c)) + f (step 4 c)
    = f (step 0 c) + f (step 1 c) + f (step 2 c) + f (step 3 c) + f (step 4 c) + f (step 5 c) + f (step 6 c) + f (step 7 c)
  abel

/-- The result on device `c`: the shares of all eight devices of its sequence. -/
theorem outv_apply (c : Dev nD) (i : Fin 256) (o : Fin 1024) :
    outv m ρ c (ix3 0 i o) = ∑ b : Dev nD, part m ρ b c i o := by
  rw [← ring_sum (fun b => part m ρ b c i o) c]
  have e : outv m ρ c (ix3 0 i o)
      = own m ρ c (ix2 i o)
        + (oth m ρ (rt (rt (rt c))) (m3 (rt (rt (rt c)))) (ix2 i o) + oth m ρ (rt (rt c)) (lf (lf (rt (rt c)))) (ix2 i o)
            + oth m ρ (rt c) (lf (rt c)) (ix2 i o))
        + (oth m ρ (lf (lf (lf c))) (p3 (lf (lf (lf c)))) (ix2 i o) + oth m ρ (lf (lf c)) (rt (rt (lf (lf c)))) (ix2 i o)
            + oth m ρ (lf c) (rt (lf c)) (ix2 i o))
        + oth m ρ (op c) c (ix2 i o) := by
    pointwise [outv, la2, la1, la0, ra2, ra1, ra0]
  have h : ∀ c : Dev nD, m3 (rt (rt (rt c))) = c ∧ lf (lf (rt (rt c))) = c ∧ lf (rt c) = c ∧ p3 (lf (lf (lf c))) = c
      ∧ rt (rt (lf (lf c))) = c ∧ rt (lf c) = c ∧ rt (rt (rt c)) ≠ c ∧ rt (rt c) ≠ c ∧ rt c ≠ c ∧ lf (lf (lf c)) ≠ c
      ∧ lf (lf c) ≠ c ∧ lf c ≠ c ∧ op c ≠ c := by decide
  obtain ⟨h1, h2, h3, h4, h5, h6, n1, n2, n3, n4, n5, n6, n7⟩ := h c
  rw [e, h1, h2, h3, h4, h5, h6, own_apply, oth_apply m ρ _ _ n1, oth_apply m ρ _ _ n2, oth_apply m ρ _ _ n3,
    oth_apply m ρ _ _ n4, oth_apply m ρ _ _ n5, oth_apply m ρ _ _ n6, oth_apply m ρ _ _ n7]

end Cert.KernelProof

end
-- ==== Proof.RefValue.lean ====
/-
The reference's composed term in named stages, each read entry by entry over the extended reals.
-/
module

public import proofs.«01_k».proof.Proof.KernelValue
public import proofs.«01_k».proof.Proof.Gen.ReferenceIdeal
public import proofs.«01_k».proof.Proof.Gen.ReferenceIdeal.Run
public import Idealize.ShloMosaic.Lib.Pointwise

@[expose] public section

set_option maxRecDepth 16384

noncomputable section

namespace Cert.RefProof

open Cert.ReferenceIdeal Cert.ReferenceIdeal.Gen Cert.ReferenceIdeal.Value
open Idealize.ShloMosaic
open Cert.KernelProof (sentVal gridStep)

/-- The sequences as they are sent. -/
def sent (x : FVec Ideal S8x256x1024 .bf16) : FVec Ideal S8x256x1024 .f32 :=
  mulf (extf .f32 (minimumf (broadcastInDim S8x256x1024 ![] bcast_S_S8x256x1024 (truncf .bf16 (constant S_ .f32 0x42FE0000#32) bitsLt_bf16_f32)) (maximumf (broadcastInDim S8x256x1024 ![] bcast_S_S8x256x1024 (truncf .bf16 (constant S_ .f32 0xC2FE0000#32) bitsLt_bf16_f32)) (Host.roundeven (mulf x (broadcastInDim S8x256x1024 ![] bcast_S_S8x256x1024 (constant S_ .bf16 0x41CB#16)))))) bitsLt_bf16_f32) (broadcastInDim S8x256x1024 ![] bcast_S_S8x256x1024 (constant S_ .f32 0x3D214285#32))

/-- One projection: of a sequence as it is in the columns of its own device, as it was sent in the others'. -/
def proj (x : FVec Ideal S8x256x1024 .bf16) (W : FVec Ideal S1024x8192 .bf16) : FVec Ideal S8x256x64x128 .f32 :=
  shapeCast _ (select (broadcastInDim S8x256x8x1024 ![0, 1, 2, 3] bcast_S8x1x8x1_S8x256x8x1024_0_1_2_3 (cmpi .eq (broadcastInDim S8x1x8x1 ![0, 1, 2, 3] bcast_S8x1x1x1_S8x1x8x1_0_1_2_3 (broadcastInDim S8x1x1x1 ![0] bcast_S8_S8x1x1x1_0 (iotaInDim S8 32 0))) (broadcastInDim S8x1x8x1 ![0, 1, 2, 3] bcast_S1x1x8x1_S8x1x8x1_0_1_2_3 (broadcastInDim S1x1x8x1 ![2] bcast_S8_S1x1x8x1_2 (iotaInDim S8 32 0))))) (shapeCast _ (Host.dotGeneral dot_S8x256x1024_S1024x8192_S8x256x8192_2_0_01_1_n_n none (extf .f32 x bitsLt_bf16_f32) (extf .f32 W bitsLt_bf16_f32)) shapeCasts_S8x256x8192_S8x256x8x1024) (shapeCast _ (Host.dotGeneral dot_S8x256x1024_S1024x8192_S8x256x8192_2_0_01_1_n_n none (sent x) (extf .f32 W bitsLt_bf16_f32)) shapeCasts_S8x256x8192_S8x256x8x1024)) shapeCasts_S8x256x8x1024_S8x256x64x128

/-- The scores, over the root of the head's width. -/
def scores (q k : FVec Ideal S8x256x64x128 .f32) : FVec Ideal S8x64x256x256 .f32 :=
  Host.divf (Host.dotGeneral dot_S8x256x64x128_S8x256x64x128_S8x64x256x256_3_3_1_1_02_02 none q k) (broadcastInDim S8x64x256x256 ![] bcast_S_S8x64x256x256 (Host.sqrt (constant S_ .f32 0x43000000#32)))

/-- The exponentials, each row's maximum subtracted. -/
def expo (s : FVec Ideal S8x64x256x256 .f32) : FVec Ideal S8x64x256x256 .f32 :=
  Host.exp (subf s (broadcastInDim S8x64x256x256 ![0, 1, 2, 3] bcast_S8x64x256x1_S8x64x256x256_0_1_2_3 (broadcastInDim S8x64x256x1 ![0, 1, 2] bcast_S8x64x256_S8x64x256x1_0_1_2 (Host.reduce FloatOps.maximumf s (constant S_ .f32 0xFF800000#32) reducesTo_S8x64x256x256_S8x64x256_d3 h_S_))))

/-- The heads' results: the weighted values over the rows' sums. -/
def heads (v : FVec Ideal S8x256x64x128 .f32) (p : FVec Ideal S8x64x256x256 .f32) : FVec Ideal S8x256x64x128 .f32 :=
  Host.divf (transpose S8x256x64x128 [0, 3, 1, 2] (Host.dotGeneral dot_S8x256x64x128_S8x64x256x256_S8x64x128x256_1_3_3_2_02_01 none v p) transposes_S8x64x128x256_S8x256x64x128_0_3_1_2) (broadcastInDim S8x256x64x128 ![0, 1, 2, 3] bcast_S8x256x64x1_S8x256x64x128_0_1_2_3 (transpose S8x256x64x1 [0, 2, 1, 3] (broadcastInDim S8x64x256x1 ![0, 1, 2] bcast_S8x64x256_S8x64x256x1_0_1_2 (Host.reduceAdd p (constant S_ .f32 0x00000000#32) reducesTo_S8x64x256x256_S8x64x256_d3 h_S_)) transposes_S8x64x256x1_S8x256x64x1_0_2_1_3))

/-- The whole result. -/
def whole (x : FVec Ideal S8x256x1024 .bf16) (Wq : FVec Ideal S1024x8192 .bf16) (Wo : FVec Ideal S8192x1024 .bf16)
    (Wk Wv : FVec Ideal S1024x8192 .bf16) : FVec Ideal S8x256x1024 .f32 :=
  Host.dotGeneral dot_S8x256x8192_S8192x1024_S8x256x1024_2_0_01_1_n_n none
    (shapeCast _ (heads (proj x Wv) (expo (scores (proj x Wq) (proj x Wk)))) shapeCasts_S8x256x64x128_S8x256x8192)
    (extf .f32 Wo bitsLt_bf16_f32)

theorem res_eq (m : (ℓ : Loc nD τ sig) → Buf (Elt Ideal) ℓ) (c : Dev nD) :
    res_out0 m c = whole (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

theorem sent_apply (x : FVec Ideal S8x256x1024 .bf16) (b : Fin 8) (i : Fin 256) (t : Fin 1024) :
    sent x (ix3 b i t) = sentVal (x (ix3 b i t)) := by
  pointwise [sent, sentVal, gridStep]

/-- Head `h` of device `D` among all heads. -/
def headAt (D h : Fin 8) : Fin 64 := ⟨D.val * 8 + h.val, by omega⟩

/-- Column `d` of head `h` of device `D` among all columns. -/
def colAt (D h : Fin 8) (d : Fin 128) : Fin 8192 := ⟨D.val * 1024 + (h.val * 128 + d.val), by omega⟩

theorem proj_apply (x : FVec Ideal S8x256x1024 .bf16) (W : FVec Ideal S1024x8192 .bf16) (b : Fin 8) (i : Fin 256) (D h : Fin 8) (d : Fin 128) :
    proj x W (ix4 b i (headAt D h) d)
      = ∑ t : Fin 1024, (if D = b then x (ix3 b i t) else sentVal (x (ix3 b i t))) * W (ix2 t (colAt D h d)) := by
  have hc : ∀ p, (⟨(headAt D h).val / 8 * 1024 + ((headAt D h).val % 8 * 128 + d.val), p⟩ : Fin 8192) = colAt D h d := fun p =>
    Fin.ext (by simp only [headAt, colAt]; omega)
  have hD : (headAt D h).val / 8 = D.val := by simp only [headAt]; omega
  pointwise [proj]
  simp only [hc, sent_apply]
  rw [hD]
  by_cases e : D = b
  · subst e
    simp only [if_pos]
    simp [Scalar.select, IntOp.cmpi]
  · simp only [if_neg e]
    have ne : (BitVec.ofNat 32 b.val == BitVec.ofNat 32 D.val) = false := by
      clear hc hD
      revert b D
      decide
    simp [Scalar.select, IntOp.cmpi, ne]

/-- One head, from its queries, keys and values, as the reference has it: scores over the root of the width, the row's
    maximum subtracted. -/
def refHead (q k v : Fin 256 → Fin 128 → EReal) (i : Fin 256) (d : Fin 128) : EReal :=
  Ideal.div
    (∑ j : Fin 256, v j d * Ideal.exp (Ideal.div (∑ e : Fin 128, q i e * k j e) (Ideal.sqrt ((128 : ℝ) : EReal))
      - Finset.univ.fold max ⊥ fun j : Fin 256 => Ideal.div (∑ e : Fin 128, q i e * k j e) (Ideal.sqrt ((128 : ℝ) : EReal))))
    (∑ j : Fin 256, Ideal.exp (Ideal.div (∑ e : Fin 128, q i e * k j e) (Ideal.sqrt ((128 : ℝ) : EReal))
      - Finset.univ.fold max ⊥ fun j : Fin 256 => Ideal.div (∑ e : Fin 128, q i e * k j e) (Ideal.sqrt ((128 : ℝ) : EReal))))

theorem scores_apply (q k : FVec Ideal S8x256x64x128 .f32) (b : Fin 8) (h : Fin 64) (i j : Fin 256) :
    scores q k (ix4 b h i j) = Ideal.div (∑ e : Fin 128, q (ix4 b i h e) * k (ix4 b j h e)) (Ideal.sqrt ((128 : ℝ) : EReal)) := by
  rw [← Cert.KernelProof.word_128]
  pointwise [scores]

theorem expo_apply (s : FVec Ideal S8x64x256x256 .f32) (b : Fin 8) (h : Fin 64) (i j : Fin 256) :
    expo s (ix4 b h i j) = Ideal.exp (s (ix4 b h i j) - Finset.univ.fold max ⊥ fun j : Fin 256 => s (ix4 b h i j)) := by
  have w : Ideal.ofBits .f32 0xFF800000#32 = ⊥ := by simp [Ideal.ofBits, Ideal.ieee]
  pointwise [expo]
  rw [w]

theorem heads_apply (v : FVec Ideal S8x256x64x128 .f32) (p : FVec Ideal S8x64x256x256 .f32) (b : Fin 8) (i : Fin 256) (h : Fin 64) (d : Fin 128) :
    heads v p (ix4 b i h d) = Ideal.div (∑ j : Fin 256, v (ix4 b j h d) * p (ix4 b h i j)) (∑ j : Fin 256, p (ix4 b h i j)) := by
  pointwise [heads]

theorem whole_apply (x : FVec Ideal S8x256x1024 .bf16) (Wq : FVec Ideal S1024x8192 .bf16) (Wo : FVec Ideal S8192x1024 .bf16)
    (Wk Wv : FVec Ideal S1024x8192 .bf16) (b : Fin 8) (i : Fin 256) (o : Fin 1024) :
    whole x Wq Wo Wk Wv (ix3 b i o)
      = ∑ D : Fin 8, ∑ h : Fin 8, ∑ d : Fin 128,
          refHead (fun i e => proj x Wq (ix4 b i (headAt D h) e)) (fun i e => proj x Wk (ix4 b i (headAt D h) e))
            (fun i e => proj x Wv (ix4 b i (headAt D h) e)) i d * Wo (ix2 (colAt D h d) o) := by
  have hr : ∀ (i : Fin 256) (h : Fin 64) (d : Fin 128),
      heads (proj x Wv) (expo (scores (proj x Wq) (proj x Wk))) (ix4 b i h d)
        = refHead (fun i e => proj x Wq (ix4 b i h e)) (fun i e => proj x Wk (ix4 b i h e))
            (fun i e => proj x Wv (ix4 b i h e)) i d := by
    intro i h d
    rw [heads_apply, refHead]
    simp only [expo_apply, scores_apply]
  unfold whole
  simp only [← hr]
  generalize heads (proj x Wv) (expo (scores (proj x Wq) (proj x Wk))) = y
  pointwise
  rw [Fin.sum_univ_tiles 8 1024 rfl]
  refine Finset.sum_congr rfl fun D _ => ?_
  rw [Fin.sum_univ_tiles 8 128 rfl]
  refine Finset.sum_congr rfl fun h _ => Finset.sum_congr rfl fun d _ => ?_
  refine congrArg₂ (fun a c => y (ix4 b i a c) * Wo (ix2 (colAt D h d) o)) (Fin.ext ?_) (Fin.ext ?_)
  · show (D.val * 1024 + (h.val * 128 + d.val)) / 128 = D.val * 8 + h.val
    omega
  · show (D.val * 1024 + (h.val * 128 + d.val)) % 128 = d.val
    omega

end Cert.RefProof

end
-- ==== Proof.Softmax.lean ====
/-
The two spellings of one head agree: for real scores, subtracting a row's maximum changes the exponentials and their
sum by one positive factor, and the scale may stand in the queries or under the scores. The values need not be finite.
-/
module

public import proofs.«01_k».proof.Proof.RefValue

@[expose] public section

noncomputable section

namespace Cert.RefProof

open Idealize.ShloMosaic
open Cert.KernelProof (plainHead)

/-- A sum of reals among the extended reals. -/
theorem sum_real {ι : Type*} (s : Finset ι) (f : ι → ℝ) : ∑ j ∈ s, ((f j : ℝ) : EReal) = ((∑ j ∈ s, f j : ℝ) : EReal) := by
  classical
  induction s using Finset.induction_on with
  | empty => simp
  | insert a s h ih => rw [Finset.sum_insert h, Finset.sum_insert h, ih, EReal.coe_add]

/-- A nonnegative real factor comes out of a sum of extended reals. -/
theorem factor_out {ι : Type*} (s : Finset ι) (c : ℝ) (hc : 0 ≤ c) (f : ι → EReal) :
    ∑ j ∈ s, (c : EReal) * f j = (c : EReal) * ∑ j ∈ s, f j := by
  classical
  induction s using Finset.induction_on with
  | empty => simp
  | insert a s h ih =>
    rw [Finset.sum_insert h, Finset.sum_insert h, ih,
      EReal.left_distrib_of_nonneg_of_ne_top (EReal.coe_nonneg.mpr hc) (EReal.coe_ne_top c)]

theorem root_pos : (0 : ℝ) < Real.sqrt 128 := Real.sqrt_pos.mpr (by norm_num)

/-- A real over the root of 128. -/
theorem over_root (a : ℝ) : Ideal.div (a : EReal) (Ideal.sqrt ((128 : ℝ) : EReal)) = ((a * (Real.sqrt 128)⁻¹ : ℝ) : EReal) := by
  rw [Ideal.sqrt_coe, if_neg (by norm_num), Ideal.div_coe root_pos.ne', one_div, EReal.coe_mul]

/-- A row of real scores has a real maximum. -/
theorem row_max (s : Fin 256 → ℝ) : ∃ M : ℝ, (Finset.univ.fold max ⊥ fun j : Fin 256 => ((s j : ℝ) : EReal)) = (M : EReal) := by
  obtain ⟨j, _, e⟩ := Finset.exists_mem_eq_sup (Finset.univ : Finset (Fin 256)) ⟨0, Finset.mem_univ _⟩ fun j => ((s j : ℝ) : EReal)
  exact ⟨s j, e⟩

/-- Weighted values over the weights' sum do not see a positive factor of the weights. -/
theorem weights_scale (E : Fin 256 → ℝ) (hE : ∀ j, 0 < E j) (c : ℝ) (hc : 0 < c) (v : Fin 256 → EReal) :
    Ideal.div (∑ j, ((E j : ℝ) : EReal) * v j) (∑ j, ((E j : ℝ) : EReal))
      = Ideal.div (∑ j, v j * ((E j * c : ℝ) : EReal)) (∑ j, ((E j * c : ℝ) : EReal)) := by
  have hL : 0 < ∑ j, E j := Finset.sum_pos (fun j _ => hE j) ⟨0, Finset.mem_univ _⟩
  have hN : ∑ j, v j * ((E j * c : ℝ) : EReal) = (c : EReal) * ∑ j, ((E j : ℝ) : EReal) * v j := by
    rw [← factor_out _ c hc.le]
    refine Finset.sum_congr rfl fun j _ => ?_
    rw [EReal.coe_mul]
    ac_rfl
  rw [hN, sum_real, sum_real, ← Finset.sum_mul, Ideal.div_coe hL.ne', Ideal.div_coe (mul_pos hL hc).ne', mul_comm (c : EReal), mul_assoc,
    ← EReal.coe_mul]
  congr 2
  field_simp

/-- One head, both spellings. -/
theorem heads_agree (q k : Fin 256 → Fin 128 → ℝ) (v : Fin 256 → Fin 128 → EReal) (i : Fin 256) (d : Fin 128) :
    plainHead (fun i e => ((q i e * (Real.sqrt 128)⁻¹ : ℝ) : EReal)) (fun i e => ((k i e : ℝ) : EReal)) v i d
      = refHead (fun i e => ((q i e : ℝ) : EReal)) (fun i e => ((k i e : ℝ) : EReal)) v i d := by
  have h1 : ∀ j, (∑ e : Fin 128, ((q i e * (Real.sqrt 128)⁻¹ : ℝ) : EReal) * ((k j e : ℝ) : EReal))
      = (((∑ e : Fin 128, q i e * k j e) * (Real.sqrt 128)⁻¹ : ℝ) : EReal) := by
    intro j
    simp only [← EReal.coe_mul]
    rw [sum_real, Finset.sum_mul]
    exact congrArg _ (Finset.sum_congr rfl fun e _ => by ring)
  have h2 : ∀ j, Ideal.div (∑ e : Fin 128, ((q i e : ℝ) : EReal) * ((k j e : ℝ) : EReal)) (Ideal.sqrt ((128 : ℝ) : EReal))
      = (((∑ e : Fin 128, q i e * k j e) * (Real.sqrt 128)⁻¹ : ℝ) : EReal) := by
    intro j
    simp only [← EReal.coe_mul]
    rw [sum_real, over_root]
  unfold plainHead refHead
  simp only [h1, h2]
  obtain ⟨M, hM⟩ := row_max fun j => (∑ e : Fin 128, q i e * k j e) * (Real.sqrt 128)⁻¹
  have h3 : ∀ a : ℝ, Ideal.exp ((a : EReal) - (M : EReal)) = ((Real.exp a * Real.exp (-M) : ℝ) : EReal) := by
    intro a
    rw [← EReal.coe_sub, Ideal.exp_coe, sub_eq_add_neg, Real.exp_add]
  simp only [hM, h3, Ideal.exp_coe]
  exact weights_scale _ (fun j => Real.exp_pos _) _ (Real.exp_pos _) _

end Cert.RefProof

end
-- ==== Proof.Algebraic.lean ====
/-
The value claim: on finite sequences and finite query and key weights, device `c`'s result is sequence `c` of the
reference's.
-/
module

public import proofs.«01_k».proof.Proof.Frames
public import proofs.«01_k».proof.Proof.Softmax
public import Idealize.ShloMosaic.Lib.ReduceAll
public import Idealize.ShloMosaic.Lib.Layout

@[expose] public section

set_option maxRecDepth 16384

noncomputable section

namespace Cert.Proof

open Idealize.ShloMosaic Idealize.ShloMosaic.TcCoe Idealize.SL.Sem
open Cert.KernelProof Cert.RefProof

/-- The side conditions of the precondition's two printings. -/
instance preK : Cert.Pre_finite_KernelIdeal.Facts where
  bcast_S_S1x256x1024 := by decide
  reducesTo_S1x256x1024_S_d0_1_2 := by decide
  h_S_ := by decide
  bcast_S_S1024x1024 := by decide
  reducesTo_S1024x1024_S_d0_1 := by decide

instance preR : Cert.Pre_finite_ReferenceIdeal.Facts where
  bcast_S_S8x256x1024 := by decide
  reducesTo_S8x256x1024_S_d0_1_2 := by decide
  h_S_ := by decide
  bcast_S_S1024x8192 := by decide
  reducesTo_S1024x8192_S_d0_1 := by decide

/-- An extended real whose absolute value is below infinity is a real. -/
theorem real_of_abs_lt {a : EReal} (h : Ideal.cmp .olt (max a (-a)) (Ideal.ofBits .bf16 0x7F80#16) = 1#1) : ((a.toReal : ℝ) : EReal) = a := by
  have w : Ideal.ofBits .bf16 0x7F80#16 = ⊤ := by simp [Ideal.ofBits, Ideal.ieee]
  rw [w] at h
  have lt : max a (-a) < ⊤ := by
    by_contra hn
    simp [Ideal.cmp, hn] at h
  refine EReal.coe_toReal (fun e => ?_) (fun e => ?_)
  · subst e; simp at lt
  · subst e; simp at lt

/-- What the precondition says of one device's arguments. -/
theorem pre_real (x : FVec Ideal Cert.KernelIdeal.S1x256x1024 .bf16) (q o k v : FVec Ideal Cert.KernelIdeal.S1024x1024 .bf16)
    (h : (Cert.Pre_finite_KernelIdeal.fn (F := Ideal) x q o k v).1 = (fun _ => 1#1)
      ∧ (Cert.Pre_finite_KernelIdeal.fn (F := Ideal) x q o k v).2.1 = (fun _ => 1#1)
      ∧ (Cert.Pre_finite_KernelIdeal.fn (F := Ideal) x q o k v).2.2 = (fun _ => 1#1)) :
    (∀ i, (((x i : EReal).toReal : ℝ) : EReal) = x i) ∧ (∀ i, (((q i : EReal).toReal : ℝ) : EReal) = q i)
      ∧ ∀ i, (((k i : EReal).toReal : ℝ) : EReal) = k i := by
  haveI : Subsingleton Cert.Pre_finite_KernelIdeal.S_.Idx := ⟨fun a b => funext fun n => n.elim0⟩
  dsimp only [Cert.Pre_finite_KernelIdeal.fn] at h
  obtain ⟨h1, h2, h3⟩ := h
  refine ⟨fun i => real_of_abs_lt ?_, fun i => real_of_abs_lt ?_, fun i => real_of_abs_lt ?_⟩
  · exact Host.reduce_andi_all _ _ _ _ (fun n => n.elim0) (congrFun h1 _) i
  · exact Host.reduce_andi_all _ _ _ _ (fun n => n.elim0) (congrFun h2 _) i
  · exact Host.reduce_andi_all _ _ _ _ (fun n => n.elim0) (congrFun h3 _) i

/-- A value as it is sent is a real. -/
theorem sent_real (x : EReal) : (((sentVal x).toReal : ℝ) : EReal) = sentVal x := by
  obtain ⟨n, _, _, e⟩ := gridStep_int x
  unfold sentVal
  rw [e, word_unscale, ← EReal.coe_mul, EReal.toReal_coe]

/-- One head of a real sequence under real query and key weights: the kernel's spelling and the reference's. -/
theorem head_of_real (x : Fin 256 → Fin 1024 → ℝ) (q k : Fin 1024 → Fin 128 → ℝ) (v : Fin 256 → Fin 128 → EReal) (i : Fin 256) (d : Fin 128) :
    plainHead (fun i e => ∑ t : Fin 1024, ((x i t : ℝ) : EReal) * (((q t e : ℝ) : EReal) * (((Real.sqrt 128)⁻¹ : ℝ) : EReal)))
        (fun i e => ∑ t : Fin 1024, ((x i t : ℝ) : EReal) * ((k t e : ℝ) : EReal)) v i d
      = refHead (fun i e => ∑ t : Fin 1024, ((x i t : ℝ) : EReal) * ((q t e : ℝ) : EReal))
        (fun i e => ∑ t : Fin 1024, ((x i t : ℝ) : EReal) * ((k t e : ℝ) : EReal)) v i d := by
  simp only [← EReal.coe_mul, sum_real, ← mul_assoc, ← Finset.sum_mul]
  exact heads_agree _ _ _ _ _

variable (m : (ℓ : Loc Cert.KernelIdeal.nD Cert.KernelIdeal.τ Cert.KernelIdeal.sig) → Buf (Elt Ideal) ℓ) (g : Dev Cert.KernelIdeal.nD → PrngReg)

/-- Device `c`'s result is sequence `c` of the reference's, entry by entry. -/
theorem value_eq (x : FVec Ideal Cert.ReferenceIdeal.S8x256x1024 .bf16) (Wq : FVec Ideal Cert.ReferenceIdeal.S1024x8192 .bf16)
    (Wo : FVec Ideal Cert.ReferenceIdeal.S8192x1024 .bf16) (Wk Wv : FVec Ideal Cert.ReferenceIdeal.S1024x8192 .bf16)
    (hx : ∀ (c : Dev Cert.KernelIdeal.nD) i t, xstg m g c (ix3 0 i t) = x (ix3 c i t))
    (hq : ∀ (c : Dev Cert.KernelIdeal.nD) t h e, qstg m g c (ix2 t (col h e)) = Wq (ix2 t (colAt c h e)))
    (ho : ∀ (c : Dev Cert.KernelIdeal.nD) o h e, ostg m g c (ix2 (col h e) o) = Wo (ix2 (colAt c h e) o))
    (hk : ∀ (c : Dev Cert.KernelIdeal.nD) t h e, kstg m g c (ix2 t (col h e)) = Wk (ix2 t (colAt c h e)))
    (hv : ∀ (c : Dev Cert.KernelIdeal.nD) t h e, vstg m g c (ix2 t (col h e)) = Wv (ix2 t (colAt c h e)))
    (rx : ∀ i, (((x i : EReal).toReal : ℝ) : EReal) = x i) (rq : ∀ i, (((Wq i : EReal).toReal : ℝ) : EReal) = Wq i)
    (rk : ∀ i, (((Wk i : EReal).toReal : ℝ) : EReal) = Wk i)
    (c : Dev Cert.KernelIdeal.nD) (i : Fin 256) (o : Fin 1024) :
    outv m g c (ix3 0 i o) = whole x Wq Wo Wk Wv (ix3 c i o) := by
  rw [outv_apply, whole_apply]
  unfold part shareOf
  refine Finset.sum_congr rfl fun D _ => Finset.sum_congr rfl fun h _ => Finset.sum_congr rfl fun d _ => ?_
  simp only [proj_apply, hx, hq, ho, hk, hv]
  refine congrArg (· * _) ?_
  have rs : ∀ i t, ((((if D = c then x (ix3 c i t) else sentVal (x (ix3 c i t)) : EReal)).toReal : ℝ) : EReal)
      = if D = c then x (ix3 c i t) else sentVal (x (ix3 c i t)) := by
    intro i t
    by_cases e : D = c
    · simp only [if_pos e]; exact rx _
    · simp only [if_neg e]; exact sent_real _
  have := head_of_real (fun i t => (if D = c then x (ix3 c i t) else sentVal (x (ix3 c i t)) : EReal).toReal)
    (fun t e => (Wq (ix2 t (colAt D h e)) : EReal).toReal) (fun t e => (Wk (ix2 t (colAt D h e)) : EReal).toReal)
    (fun i e => ∑ t : Fin 1024, (if D = c then x (ix3 c i t) else sentVal (x (ix3 c i t))) * Wv (ix2 t (colAt D h e))) i d
  simp only [rs, rq, rk] at this
  exact this

/-- Where entry `y` of block `c` sits in the whole array, along the axis that is cut and along the others. -/
theorem at_first (c : Fin 8) (i : Fin 256) (t : Fin 1024) (h : Layout.Tiles ⟨3, ![1, 256, 1024]⟩ ⟨3, ![8, 256, 1024]⟩ 0 8) :
    h.idx c (ix3 0 i t) = ix3 c i t := by
  funext a
  apply Fin.ext
  rw [Layout.Tiles.idx_val]
  fin_cases a <;> simp [ix3]

theorem at_cols (c : Fin 8) (t : Fin 1024) (k : Fin 8) (e : Fin 128) (h : Layout.Tiles ⟨2, ![1024, 1024]⟩ ⟨2, ![1024, 8192]⟩ 1 8) :
    h.idx c (ix2 t (col k e)) = ix2 t (colAt c k e) := by
  funext a
  apply Fin.ext
  rw [Layout.Tiles.idx_val]
  fin_cases a <;> simp [ix2, col, colAt]

theorem at_rows (c : Fin 8) (k : Fin 8) (e : Fin 128) (o : Fin 1024) (h : Layout.Tiles ⟨2, ![1024, 1024]⟩ ⟨2, ![8192, 1024]⟩ 0 8) :
    h.idx c (ix2 (col k e) o) = ix2 (colAt c k e) o := by
  funext a
  apply Fin.ext
  rw [Layout.Tiles.idx_val]
  fin_cases a <;> simp [ix2, col, colAt]

/-- An entry of a whole sequence array or of a whole weight array lies in some device's block. -/
theorem in_cols (y : Shape.Idx ⟨2, ![1024, 8192]⟩) (h : Layout.Tiles ⟨2, ![1024, 1024]⟩ ⟨2, ![1024, 8192]⟩ 1 8) :
    ∃ (c : Fin 8) (z : Shape.Idx ⟨2, ![1024, 1024]⟩), h.idx c z = y := by
  have h0 : (y 0).val < 1024 := (y 0).isLt
  have h1 : (y 1).val < 8192 := (y 1).isLt
  refine ⟨⟨(y 1).val / 1024, by omega⟩, ix2 ⟨(y 0).val, h0⟩ ⟨(y 1).val % 1024, by omega⟩, ?_⟩
  funext a
  apply Fin.ext
  rw [Layout.Tiles.idx_val]
  fin_cases a <;> simp [ix2]
  omega

theorem in_first (y : Shape.Idx ⟨3, ![8, 256, 1024]⟩) (h : Layout.Tiles ⟨3, ![1, 256, 1024]⟩ ⟨3, ![8, 256, 1024]⟩ 0 8) :
    ∃ (c : Fin 8) (z : Shape.Idx ⟨3, ![1, 256, 1024]⟩), h.idx c z = y := by
  refine ⟨⟨(y 0).val, (y 0).isLt⟩, ix3 0 ⟨(y 1).val, (y 1).isLt⟩ ⟨(y 2).val, (y 2).isLt⟩, ?_⟩
  funext a
  apply Fin.ext
  rw [Layout.Tiles.idx_val]
  fin_cases a <;> simp [ix3]

theorem algebraic : Cert.algebraic_KernelIdeal_ReferenceIdeal_pre_finite_KernelIdeal := by
  intro m g m' g' hpre hargs
  refine ⟨Cert.ReferenceIdeal.Value.res_out0 m' 0, ?_, ?_⟩
  · refine (θ_run Cert.KernelIdeal.defs _ _).mono (fun r h c => ⟨(h.1 c).1.trans ?_, (h.1 c).2⟩)
      (Cert.KernelProof.run_ends (F := Ideal) m g)
    have fin := fun c => pre_real _ _ _ _ _ (hpre c)
    funext j
    obtain ⟨i, o, rfl⟩ : ∃ (i : Fin 256) (o : Fin 1024), j = ix3 0 i o :=
      ⟨⟨(j 1).val, (j 1).isLt⟩, ⟨(j 2).val, (j 2).isLt⟩, by
        funext a
        apply Fin.ext
        have h0 : (j 0).val < 1 := (j 0).isLt
        fin_cases a <;> simp [ix3]
        exact Nat.lt_one_iff.mp h0⟩
    rw [res_eq, Layout.block_apply, at_first]
    refine value_eq m g _ _ _ _ _ (fun c i t => ?_) (fun c t h e => ?_) (fun c o h e => ?_) (fun c t h e => ?_) (fun c t h e => ?_)
      (fun y => ?_) (fun y => ?_) (fun y => ?_) c i o
    · rw [xstg_eq, ← at_first c i t (by decide)]
      exact congrFun (hargs c).1 (ix3 0 i t)
    · rw [qstg_eq, ← at_cols c t h e (by decide)]
      exact congrFun (hargs c).2.1 (ix2 t (col h e))
    · rw [ostg_eq, ← at_rows c h e o (by decide)]
      exact congrFun (hargs c).2.2.1 (ix2 (col h e) o)
    · rw [kstg_eq, ← at_cols c t h e (by decide)]
      exact congrFun (hargs c).2.2.2.1 (ix2 t (col h e))
    · rw [vstg_eq, ← at_cols c t h e (by decide)]
      exact congrFun (hargs c).2.2.2.2 (ix2 t (col h e))
    · obtain ⟨c, z, rfl⟩ := in_first y (by decide)
      have e := congrFun (hargs c).1 z
      have f := (fin c).1 z
      rw [e] at f
      exact f
    · obtain ⟨c, z, rfl⟩ := in_cols y (by decide)
      have e := congrFun (hargs c).2.1 z
      have f := (fin c).2.1 z
      rw [e] at f
      exact f
    · obtain ⟨c, z, rfl⟩ := in_cols y (by decide)
      have e := congrFun (hargs c).2.2.2.1 z
      have f := (fin c).2.2 z
      rw [e] at f
      exact f
  · exact (θ_run Cert.ReferenceIdeal.defs _ _).mono (fun r h => h 0) (Cert.ReferenceIdeal.Value.run (F := Ideal) m' g')

end Cert.Proof

end
-- ==== Proof.lean ====
/-
The certificate of the eight-device attention: the frames and the value claim, gathered from the modules.
-/
module

public import proofs.«01_k».proof.Defs
public import proofs.«01_k».proof.Proof.Frames
public import proofs.«01_k».proof.Proof.Algebraic
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, preK, preR, frame_p, frame_pi,
    fun m g _ => frame_pi m g trivial, frame_ri, fun m g _ => frame_ri m g trivial,
    IdealRules.named_const.statement Cert.KernelIdeal.κ "s" .bf16 0x3DB5#16 (((Real.sqrt 128)⁻¹ : ℝ) : EReal) rfl,
    algebraic⟩

end Cert.Proof

end
